-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_q_scale_finite [hPre_q_scale_finite : Cert.Pre_q_scale_finite.Facts] (m : (ℓ : Loc Cert.KernelIdeal.nD Cert.KernelIdeal.τ Cert.KernelIdeal.sig) → Buf (Elt Ideal) ℓ) : Prop :=
  ∀ c : Dev Cert.KernelIdeal.nD,
    (Cert.Pre_q_scale_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_RefIdeal (m : (ℓ : Loc Cert.RefIdeal.nD Cert.RefIdeal.τ Cert.RefIdeal.sig) → Buf (Elt Ideal) ℓ) : Prop :=
  True

def Pre_RefIdeal_q_scale_finite [hPre_q_scale_finite : Cert.Pre_q_scale_finite.Facts] (m : (ℓ : Loc Cert.RefIdeal.nD Cert.RefIdeal.τ Cert.RefIdeal.sig) → Buf (Elt Ideal) ℓ) : Prop :=
  ∀ c : Dev Cert.RefIdeal.nD,
    (Cert.Pre_q_scale_finite.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_q_scale_finite [hKernelIdeal : Cert.KernelIdeal.Facts] [hPre_q_scale_finite : Cert.Pre_q_scale_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_q_scale_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6))
      ∧ r.2.sem = fun _ => 0)

def quiescent_RefIdeal_pre_q_scale_finite [hRefIdeal : Cert.RefIdeal.Facts] [hPre_q_scale_finite : Cert.Pre_q_scale_finite.Facts] : Prop :=
  ∀ (m : (ℓ : Loc Cert.RefIdeal.nD Cert.RefIdeal.τ Cert.RefIdeal.sig) → Buf (Elt Ideal) ℓ) (g : Dev Cert.RefIdeal.nD → PrngReg), Pre_RefIdeal_q_scale_finite m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6))
      ∧ r.2.sem = fun _ => 0)

def preserves_Kernel_KernelIdeal : Prop :=
  IdealRules.bf16_pack.Statement Cert.KernelIdeal.S64x256
  ∧ IdealRules.named_const.Statement Cert.KernelIdeal.κ "scale_log2e" .f32 0x3E38AA3B#32 (((8 * (Real.log 2))⁻¹ : ℝ) : EReal)

def algebraic_KernelIdeal_RefIdeal_pre_q_scale_finite [hKernelIdeal : Cert.KernelIdeal.Facts] [hRefIdeal : Cert.RefIdeal.Facts] [hPre_q_scale_finite : Cert.Pre_q_scale_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal_q_scale_finite m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v85) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6))

def Claim : Prop :=
  ∃ (hKernel : Cert.Kernel.Facts) (hKernelIdeal : Cert.KernelIdeal.Facts) (hRefIdeal : Cert.RefIdeal.Facts) (hPre_q_scale_finite : Cert.Pre_q_scale_finite.Facts),
    quiescent_Kernel (hKernel := hKernel)
    ∧ quiescent_KernelIdeal (hKernelIdeal := hKernelIdeal)
    ∧ quiescent_KernelIdeal_pre_q_scale_finite (hKernelIdeal := hKernelIdeal) (hPre_q_scale_finite := hPre_q_scale_finite)
    ∧ quiescent_RefIdeal (hRefIdeal := hRefIdeal)
    ∧ quiescent_RefIdeal_pre_q_scale_finite (hRefIdeal := hRefIdeal) (hPre_q_scale_finite := hPre_q_scale_finite)
    ∧ preserves_Kernel_KernelIdeal
    ∧ algebraic_KernelIdeal_RefIdeal_pre_q_scale_finite (hKernelIdeal := hKernelIdeal) (hRefIdeal := hRefIdeal) (hPre_q_scale_finite := hPre_q_scale_finite)
-- ==== Pre_q_scale_finite.lean ====
abbrev S4x4608x48x32 : Shape := ⟨4, ![4, 4608, 48, 32]⟩
abbrev S4x144x48 : Shape := ⟨3, ![4, 144, 48]⟩
abbrev S4x36x48x64 : Shape := ⟨4, ![4, 36, 48, 64]⟩
abbrev S4x4608x8x32 : Shape := ⟨4, ![4, 4608, 8, 32]⟩
abbrev S4x144x8 : Shape := ⟨3, ![4, 144, 8]⟩
abbrev S4x4608x8x64 : Shape := ⟨4, ![4, 4608, 8, 64]⟩
abbrev S4x144x8x64 : Shape := ⟨4, ![4, 144, 8, 64]⟩
abbrev S_ : Shape := ⟨0, ![]⟩

class Facts : Prop where
  bcast_S_S4x144x48 : S_.BroadcastsInDim S4x144x48 (![] : Fin 0 → Fin S4x144x48.rank)

variable [Facts]

def fn {F : FTy → Type} [FloatOps F] (main_arg0 : IVec S4x4608x48x32 8) (main_arg1 : FVec F S4x144x48 .f32) (main_arg2 : FVec F S4x36x48x64 .bf16) (main_arg3 : IVec S4x4608x8x32 8) (main_arg4 : FVec F S4x144x8 .f32) (main_arg5 : FVec F S4x4608x8x64 .fp8e4m3) (main_arg6 : FVec F S4x144x8x64 .f32) : IVec S4x144x48 1 :=
  let main_v0 : FVec F S4x144x48 .f32 := Host.absf main_arg1
  let main_cst : FVec F S_ .f32 := constant S_ .f32 0x7F800000#32
  let main_v1 : FVec F S4x144x48 .f32 := broadcastInDim S4x144x48 ![] bcast_S_S4x144x48 main_cst
  let main_v2 : IVec S4x144x48 1 := cmpf .olt main_v0 main_v1
  main_v2
-- ==== Kernel.lean ====
abbrev S4x4608x48x32 : Shape := ⟨4, ![4, 4608, 48, 32]⟩
abbrev S4x144x48 : Shape := ⟨3, ![4, 144, 48]⟩
abbrev S4x36x48x64 : Shape := ⟨4, ![4, 36, 48, 64]⟩
abbrev S4x4608x8x32 : Shape := ⟨4, ![4, 4608, 8, 32]⟩
abbrev S4x144x8 : Shape := ⟨3, ![4, 144, 8]⟩
abbrev S4x4608x8x64 : Shape := ⟨4, ![4, 4608, 8, 64]⟩
abbrev S4x144x8x64 : Shape := ⟨4, ![4, 144, 8, 64]⟩
abbrev S4x48x32x4608 : Shape := ⟨4, ![4, 48, 32, 4608]⟩
abbrev S4x8x192x4608 : Shape := ⟨4, ![4, 8, 192, 4608]⟩
abbrev S4x48x144 : Shape := ⟨3, ![4, 48, 144]⟩
abbrev S4x48x144x32 : Shape := ⟨4, ![4, 48, 144, 32]⟩
abbrev S4x48x4608 : Shape := ⟨3, ![4, 48, 4608]⟩
abbrev S4x8x6x4608 : Shape := ⟨4, ![4, 8, 6, 4608]⟩
abbrev S4x36x48x32x2 : Shape := ⟨5, ![4, 36, 48, 32, 2]⟩
abbrev S4x48x2x32x36 : Shape := ⟨5, ![4, 48, 2, 32, 36]⟩
abbrev S4x8x384x36 : Shape := ⟨4, ![4, 8, 384, 36]⟩
abbrev S_ : Shape := ⟨0, ![]⟩
abbrev S4x8x384x128 : Shape := ⟨4, ![4, 8, 384, 128]⟩
abbrev S4x8x4608x32 : Shape := ⟨4, ![4, 8, 4608, 32]⟩
abbrev S1x4x1x8x1x4608x1x32 : Shape := ⟨8, ![1, 4, 1, 8, 1, 4608, 1, 32]⟩
abbrev S1x4x1x8x1x4608x4x32 : Shape := ⟨8, ![1, 4, 1, 8, 1, 4608, 4, 32]⟩
abbrev S4x8x4608x128 : Shape := ⟨4, ![4, 8, 4608, 128]⟩
abbrev S4x8x144 : Shape := ⟨3, ![4, 8, 144]⟩
abbrev S32x144 : Shape := ⟨2, ![32, 144]⟩
abbrev S4x8x64x4608 : Shape := ⟨4, ![4, 8, 64, 4608]⟩
abbrev S4x8x64x144 : Shape := ⟨4, ![4, 8, 64, 144]⟩
abbrev S4x8x64x256 : Shape := ⟨4, ![4, 8, 64, 256]⟩
abbrev S4x4608x3072 : Shape := ⟨3, ![4, 4608, 3072]⟩
abbrev S1x1x192x256 : Shape := ⟨4, ![1, 1, 192, 256]⟩
abbrev S1x1x6x256 : Shape := ⟨4, ![1, 1, 6, 256]⟩
abbrev S1x1x384x128 : Shape := ⟨4, ![1, 1, 384, 128]⟩
abbrev S1x1x4608x128 : Shape := ⟨4, ![1, 1, 4608, 128]⟩
abbrev S1x1x64x4608 : Shape := ⟨4, ![1, 1, 64, 4608]⟩
abbrev S1x1x64x256 : Shape := ⟨4, ![1, 1, 64, 256]⟩
abbrev S1x256x384 : Shape := ⟨3, ![1, 256, 384]⟩
abbrev S4608x128 : Shape := ⟨2, ![4608, 128]⟩
abbrev S64x4608 : Shape := ⟨2, ![64, 4608]⟩
abbrev S256x512 : Shape := ⟨2, ![256, 512]⟩
abbrev S4608x512 : Shape := ⟨2, ![4608, 512]⟩
abbrev S1x1x256x128 : Shape := ⟨4, ![1, 1, 256, 128]⟩
abbrev S256x128 : Shape := ⟨2, ![256, 128]⟩
abbrev S64x128 : Shape := ⟨2, ![64, 128]⟩
abbrev S1x1x64x128 : Shape := ⟨4, ![1, 1, 64, 128]⟩
abbrev S64x128x1 : Shape := ⟨3, ![64, 128, 1]⟩
abbrev S1x1x32x256 : Shape := ⟨4, ![1, 1, 32, 256]⟩
abbrev S32x256 : Shape := ⟨2, ![32, 256]⟩
abbrev S8x256 : Shape := ⟨2, ![8, 256]⟩
abbrev S1x1x1x256 : Shape := ⟨4, ![1, 1, 1, 256]⟩
abbrev S1x256 : Shape := ⟨2, ![1, 256]⟩
abbrev S64x256 : Shape := ⟨2, ![64, 256]⟩
abbrev S8x512 : Shape := ⟨2, ![8, 512]⟩
abbrev S256x256 : Shape := ⟨2, ![256, 256]⟩
abbrev S32x512 : Shape := ⟨2, ![32, 512]⟩
abbrev S1x1 : Shape := ⟨2, ![1, 1]⟩
abbrev S32x8x512 : Shape := ⟨3, ![32, 8, 512]⟩
abbrev S512 : Shape := ⟨1, ![512]⟩
abbrev S1x512 : Shape := ⟨2, ![1, 512]⟩
abbrev S64x512 : Shape := ⟨2, ![64, 512]⟩
abbrev S128x256 : Shape := ⟨2, ![128, 256]⟩
abbrev S1x256x128 : Shape := ⟨3, ![1, 256, 128]⟩

abbrev nBuf : Space → Nat
  | .hbm => 31
  | .vmem => 18
  | .smem => 1
  | _ => 0

abbrev bufTy : (tb : Table) → Fin (tcTables nBuf tb) → BufTy
  | .hbm, ⟨0, _⟩ => ⟨S4x4608x48x32, .i8⟩
  | .hbm, ⟨1, _⟩ => ⟨S4x144x48, .f32⟩
  | .hbm, ⟨2, _⟩ => ⟨S4x36x48x64, .bf16⟩
  | .hbm, ⟨3, _⟩ => ⟨S4x4608x8x32, .i8⟩
  | .hbm, ⟨4, _⟩ => ⟨S4x144x8, .f32⟩
  | .hbm, ⟨5, _⟩ => ⟨S4x4608x8x64, .fp8e4m3⟩
  | .hbm, ⟨6, _⟩ => ⟨S4x144x8x64, .f32⟩
  | .hbm, ⟨7, _⟩ => ⟨S4x48x32x4608, .i8⟩
  | .hbm, ⟨8, _⟩ => ⟨S4x8x192x4608, .i8⟩
  | .hbm, ⟨9, _⟩ => ⟨S4x48x144, .f32⟩
  | .hbm, ⟨10, _⟩ => ⟨S4x48x144x32, .f32⟩
  | .hbm, ⟨11, _⟩ => ⟨S4x48x4608, .f32⟩
  | .hbm, ⟨12, _⟩ => ⟨S4x8x6x4608, .f32⟩
  | .hbm, ⟨13, _⟩ => ⟨S4x36x48x32x2, .bf16⟩
  | .hbm, ⟨14, _⟩ => ⟨S4x48x2x32x36, .bf16⟩
  | .hbm, ⟨15, _⟩ => ⟨S4x8x384x36, .bf16⟩
  | .hbm, ⟨16, _⟩ => ⟨S_, .i32⟩
  | .hbm, ⟨17, _⟩ => ⟨S_, .bf16⟩
  | .hbm, ⟨18, _⟩ => ⟨S4x8x384x128, .bf16⟩
  | .hbm, ⟨19, _⟩ => ⟨S4x8x4608x32, .i8⟩
  | .hbm, ⟨20, _⟩ => ⟨S1x4x1x8x1x4608x1x32, .i8⟩
  | .hbm, ⟨21, _⟩ => ⟨S1x4x1x8x1x4608x4x32, .i8⟩
  | .hbm, ⟨22, _⟩ => ⟨S4x8x4608x128, .i8⟩
  | .hbm, ⟨23, _⟩ => ⟨S4x8x144, .f32⟩
  | .hbm, ⟨24, _⟩ => ⟨S32x144, .f32⟩
  | .hbm, ⟨25, _⟩ => ⟨S4x8x64x4608, .fp8e4m3⟩
  | .hbm, ⟨26, _⟩ => ⟨S4x8x64x144, .f32⟩
  | .hbm, ⟨27, _⟩ => ⟨S_, .i32⟩
  | .hbm, ⟨28, _⟩ => ⟨S_, .f32⟩
  | .hbm, ⟨29, _⟩ => ⟨S4x8x64x256, .f32⟩
  | .hbm, ⟨30, _⟩ => ⟨S4x4608x3072, .bf16⟩
  | .local _ .vmem, ⟨0, _⟩ => ⟨S1x1x192x256, .i8⟩
  | .local _ .vmem, ⟨1, _⟩ => ⟨S1x1x192x256, .i8⟩
  | .local _ .vmem, ⟨2, _⟩ => ⟨S1x1x6x256, .f32⟩
  | .local _ .vmem, ⟨3, _⟩ => ⟨S1x1x6x256, .f32⟩
  | .local _ .vmem, ⟨4, _⟩ => ⟨S1x1x384x128, .bf16⟩
  | .local _ .vmem, ⟨5, _⟩ => ⟨S1x1x384x128, .bf16⟩
  | .local _ .vmem, ⟨6, _⟩ => ⟨S1x1x4608x128, .i8⟩
  | .local _ .vmem, ⟨7, _⟩ => ⟨S1x1x4608x128, .i8⟩
  | .local _ .vmem, ⟨8, _⟩ => ⟨S1x1x64x4608, .fp8e4m3⟩
  | .local _ .vmem, ⟨9, _⟩ => ⟨S1x1x64x4608, .fp8e4m3⟩
  | .local _ .vmem, ⟨10, _⟩ => ⟨S1x1x64x256, .f32⟩
  | .local _ .vmem, ⟨11, _⟩ => ⟨S1x1x64x256, .f32⟩
  | .local _ .vmem, ⟨12, _⟩ => ⟨S1x256x384, .bf16⟩
  | .local _ .vmem, ⟨13, _⟩ => ⟨S1x256x384, .bf16⟩
  | .local _ .vmem, ⟨14, _⟩ => ⟨S4608x128, .bf16⟩
  | .local _ .vmem, ⟨15, _⟩ => ⟨S64x4608, .bf16⟩
  | .local _ .vmem, ⟨16, _⟩ => ⟨S256x512, .bf16⟩
  | .local _ .vmem, ⟨17, _⟩ => ⟨S4608x512, .f32⟩
  | .local _ .smem, ⟨0, _⟩ => ⟨S32x144, .f32⟩
  | _, _ => ⟨S4x4608x48x32, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_call1_v0 : Ref sig .tc := ⟨.hbm, 28, rfl⟩
abbrev main_v18 : Ref sig .tc := ⟨.hbm, 29, rfl⟩
abbrev main_v19 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨3, ![4, 8, 18], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_285 : BitVec 32 := 0#32
  let c18_i32 : BitVec 32 := 18#32
  let v630 : BitVec 32 := Scalar.addi c0_i32_285 c18_i32
  let c1_i32_286 : BitVec 32 := 1#32
  ⟨c0_i32_285, v630, c1_i32_286⟩
def k0_mult1 (k0_t1 : Fin k0_t1_loop.trips) : BitVec 32 :=
  let c0_i32_285 : BitVec 32 := 0#32
  let c1_i32_286 : BitVec 32 := 1#32
  let arg15 : BitVec 32 := Scf.iv c0_i32_285 c1_i32_286 k0_t1
  let c256_i32 : BitVec 32 := 256#32
  let v2216 : BitVec 32 := Scalar.muli arg15 c256_i32
  v2216
def k0_off1 (k0_t1 : Fin k0_t1_loop.trips) : Fin 4 → Nat :=
  let c0_947 : Index := 0#32
  let c0_948 : Index := 0#32
  let c0_i32_285 : BitVec 32 := 0#32
  let c1_i32_286 : BitVec 32 := 1#32
  let arg15 : BitVec 32 := Scf.iv c0_i32_285 c1_i32_286 k0_t1
  let c256_i32 : BitVec 32 := 256#32
  let v2216 : BitVec 32 := Scalar.muli arg15 c256_i32
  let v2217 : BitVec 32 := v2216
  let v2218 : Index := Scalar.indexCast v2217
  let c0_949 : Index := 0#32
  ![0, 0, v2218.toNat, 0]
def k0_off2 (k0_t1 : Fin k0_t1_loop.trips) : Fin 2 → Nat :=
  let c0_i32_285 : BitVec 32 := 0#32
  let c1_i32_286 : BitVec 32 := 1#32
  let arg15 : BitVec 32 := Scf.iv c0_i32_285 c1_i32_286 k0_t1
  let c256_i32 : BitVec 32 := 256#32
  let v2216 : BitVec 32 := Scalar.muli arg15 c256_i32
  let v2217 : BitVec 32 := v2216
  let v2236 : Index := Scalar.indexCast v2217
  let c0_954 : Index := 0#32
  ![v2236.toNat, 0]
@[reducible] def k0_t2_loop (i : grid0.Coords) : Scf.Loop 32 :=
  let c0_i32_67 : BitVec 32 := 0#32
  let arg2 : BitVec 32 := BitVec.ofNat 32 (i 2).val
  let c1_i32 : BitVec 32 := 1#32
  let v5 : BitVec 32 := Scalar.addi arg2 c1_i32
  let v175 : BitVec 32 := Scalar.subi v5 c0_i32_67
  let c1_i32_68 : BitVec 32 := 1#32
  let v177 : BitVec 32 := Scalar.divsi v175 c1_i32_68
  let v178 : BitVec 32 := Scalar.muli v177 c1_i32_68
  let v179 : BitVec 32 := Scalar.addi c0_i32_67 v178
  let c1_i32_69 : BitVec 32 := 1#32
  ⟨c0_i32_67, v179, c1_i32_69⟩
def k0_mult2 (i : grid0.Coords) (k0_t2 : Fin (k0_t2_loop i).trips) : BitVec 32 :=
  let c0_i32_67 : BitVec 32 := 0#32
  let c1_i32_69 : BitVec 32 := 1#32
  let arg15 : BitVec 32 := Scf.iv c0_i32_67 c1_i32_69 k0_t2
  let c256_i32 : BitVec 32 := 256#32
  let v630 : BitVec 32 := Scalar.muli arg15 c256_i32
  v630
def k0_off3 (i : grid0.Coords) (k0_t2 : Fin (k0_t2_loop i).trips) : Fin 2 → Nat :=
  let c0_i32_67 : BitVec 32 := 0#32
  let c1_i32_69 : BitVec 32 := 1#32
  let arg15 : BitVec 32 := Scf.iv c0_i32_67 c1_i32_69 k0_t2
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off4 (i : grid0.Coords) (k0_t2 : Fin (k0_t2_loop i).trips) (c0_i32_291 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v649 : Index := Scalar.indexCast v1
  let c0_i32_67 : BitVec 32 := 0#32
  let c1_i32_69 : BitVec 32 := 1#32
  let arg15 : BitVec 32 := Scf.iv c0_i32_67 c1_i32_69 k0_t2
  let c8_i32_290 : BitVec 32 := 8#32
  let v647 : BitVec 32 := Scalar.muli arg15 c8_i32_290
  let v648 : BitVec 32 := Scalar.addi v647 c0_i32_291
  let v650 : Index := Scalar.indexCast v648
  ![v649.toNat, v650.toNat]
def k0_off5 (i : grid0.Coords) (k0_t2 : Fin (k0_t2_loop i).trips) : Fin 2 → Nat :=
  let c0_i32_67 : BitVec 32 := 0#32
  let c1_i32_69 : BitVec 32 := 1#32
  let arg15 : BitVec 32 := Scf.iv c0_i32_67 c1_i32_69 k0_t2
  let c256_i32 : BitVec 32 := 256#32
  let v630 : BitVec 32 := Scalar.muli arg15 c256_i32
  let v631 : BitVec 32 := v630
  let v722 : Index := Scalar.indexCast v631
  let c0_311 : Index := 0#32
  ![v722.toNat, 0]
@[reducible] def k0_t3_loop (i : grid0.Coords) : Scf.Loop 32 :=
  let c0_i32_67 : BitVec 32 := 0#32
  let arg2 : BitVec 32 := BitVec.ofNat 32 (i 2).val
  let c1_i32 : BitVec 32 := 1#32
  let v5 : BitVec 32 := Scalar.addi arg2 c1_i32
  let v175 : BitVec 32 := Scalar.subi v5 c0_i32_67
  let c1_i32_68 : BitVec 32 := 1#32
  let v177 : BitVec 32 := Scalar.divsi v175 c1_i32_68
  let v178 : BitVec 32 := Scalar.muli v177 c1_i32_68
  let v179 : BitVec 32 := Scalar.addi c0_i32_67 v178
  let v176 : BitVec 32 := Scalar.addi c0_i32_67 v175
  let c1_i32_70 : BitVec 32 := 1#32
  ⟨v179, v176, c1_i32_70⟩
def k0_mult3 (i : grid0.Coords) (k0_t3 : Fin (k0_t3_loop i).trips) : BitVec 32 :=
  let c0_i32_67 : BitVec 32 := 0#32
  let arg2 : BitVec 32 := BitVec.ofNat 32 (i 2).val
  let c1_i32 : BitVec 32 := 1#32
  let v5 : BitVec 32 := Scalar.addi arg2 c1_i32
  let v175 : BitVec 32 := Scalar.subi v5 c0_i32_67
  let c1_i32_68 : BitVec 32 := 1#32
  let v177 : BitVec 32 := Scalar.divsi v175 c1_i32_68
  let v178 : BitVec 32 := Scalar.muli v177 c1_i32_68
  let v179 : BitVec 32 := Scalar.addi c0_i32_67 v178
  let c1_i32_70 : BitVec 32 := 1#32
  let arg15 : BitVec 32 := Scf.iv v179 c1_i32_70 k0_t3
  let c256_i32 : BitVec 32 := 256#32
  let v630 : BitVec 32 := Scalar.muli arg15 c256_i32
  v630
def k0_off6 (i : grid0.Coords) (k0_t3 : Fin (k0_t3_loop i).trips) : Fin 2 → Nat :=
  let c0_i32_67 : BitVec 32 := 0#32
  let arg2 : BitVec 32 := BitVec.ofNat 32 (i 2).val
  let c1_i32 : BitVec 32 := 1#32
  let v5 : BitVec 32 := Scalar.addi arg2 c1_i32
  let v175 : BitVec 32 := Scalar.subi v5 c0_i32_67
  let c1_i32_68 : BitVec 32 := 1#32
  let v177 : BitVec 32 := Scalar.divsi v175 c1_i32_68
  let v178 : BitVec 32 := Scalar.muli v177 c1_i32_68
  let v179 : BitVec 32 := Scalar.addi c0_i32_67 v178
  let c1_i32_70 : BitVec 32 := 1#32
  let arg15 : BitVec 32 := Scf.iv v179 c1_i32_70 k0_t3
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off7 (i : grid0.Coords) (k0_t3 : Fin (k0_t3_loop i).trips) (c0_i32_291 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v649 : Index := Scalar.indexCast v1
  let c0_i32_67 : BitVec 32 := 0#32
  let arg2 : BitVec 32 := BitVec.ofNat 32 (i 2).val
  let c1_i32 : BitVec 32 := 1#32
  let v5 : BitVec 32 := Scalar.addi arg2 c1_i32
  let v175 : BitVec 32 := Scalar.subi v5 c0_i32_67
  let c1_i32_68 : BitVec 32 := 1#32
  let v177 : BitVec 32 := Scalar.divsi v175 c1_i32_68
  let v178 : BitVec 32 := Scalar.muli v177 c1_i32_68
  let v179 : BitVec 32 := Scalar.addi c0_i32_67 v178
  let c1_i32_70 : BitVec 32 := 1#32
  let arg15 : BitVec 32 := Scf.iv v179 c1_i32_70 k0_t3
  let c8_i32_290 : BitVec 32 := 8#32
  let v647 : BitVec 32 := Scalar.muli arg15 c8_i32_290
  let v648 : BitVec 32 := Scalar.addi v647 c0_i32_291
  let v650 : Index := Scalar.indexCast v648
  ![v649.toNat, v650.toNat]
def k0_off8 (i : grid0.Coords) (k0_t3 : Fin (k0_t3_loop i).trips) : Fin 2 → Nat :=
  let c0_i32_67 : BitVec 32 := 0#32
  let arg2 : BitVec 32 := BitVec.ofNat 32 (i 2).val
  let c1_i32 : BitVec 32 := 1#32
  let v5 : BitVec 32 := Scalar.addi arg2 c1_i32
  let v175 : BitVec 32 := Scalar.subi v5 c0_i32_67
  let c1_i32_68 : BitVec 32 := 1#32
  let v177 : BitVec 32 := Scalar.divsi v175 c1_i32_68
  let v178 : BitVec 32 := Scalar.muli v177 c1_i32_68
  let v179 : BitVec 32 := Scalar.addi c0_i32_67 v178
  let c1_i32_70 : BitVec 32 := 1#32
  let arg15 : BitVec 32 := Scf.iv v179 c1_i32_70 k0_t3
  let c256_i32 : BitVec 32 := 256#32
  let v630 : BitVec 32 := Scalar.muli arg15 c256_i32
  let v631 : BitVec 32 := v630
  let v722 : Index := Scalar.indexCast v631
  let c0_311 : Index := 0#32
  ![v722.toNat, 0]
@[reducible] def k0_t4_loop (i : grid0.Coords) : Scf.Loop 32 :=
  let c0_i32_73 : BitVec 32 := 0#32
  let arg2 : BitVec 32 := BitVec.ofNat 32 (i 2).val
  let c1_i32 : BitVec 32 := 1#32
  let v5 : BitVec 32 := Scalar.addi arg2 c1_i32
  let v185 : BitVec 32 := Scalar.subi v5 c0_i32_73
  let c1_i32_74 : BitVec 32 := 1#32
  let v187 : BitVec 32 := Scalar.divsi v185 c1_i32_74
  let v188 : BitVec 32 := Scalar.muli v187 c1_i32_74
  let v189 : BitVec 32 := Scalar.addi c0_i32_73 v188
  let c1_i32_75 : BitVec 32 := 1#32
  ⟨c0_i32_73, v189, c1_i32_75⟩
def k0_mult4 (i : grid0.Coords) (k0_t4 : Fin (k0_t4_loop i).trips) : BitVec 32 :=
  let c0_i32_73 : BitVec 32 := 0#32
  let c1_i32_75 : BitVec 32 := 1#32
  let arg15 : BitVec 32 := Scf.iv c0_i32_73 c1_i32_75 k0_t4
  let c256_i32 : BitVec 32 := 256#32
  let v630 : BitVec 32 := Scalar.muli arg15 c256_i32
  v630
def k0_off9 (i : grid0.Coords) (k0_t4 : Fin (k0_t4_loop i).trips) : Fin 2 → Nat :=
  let c0_i32_73 : BitVec 32 := 0#32
  let c1_i32_75 : BitVec 32 := 1#32
  let arg15 : BitVec 32 := Scf.iv c0_i32_73 c1_i32_75 k0_t4
  let c256_i32 : BitVec 32 := 256#32
  let v630 : BitVec 32 := Scalar.muli arg15 c256_i32
  let v631 : BitVec 32 := v630
  let v632 : Index := Scalar.indexCast v631
  let c0_285 : Index := 0#32
  ![v632.toNat, 0]
@[reducible] def k0_t5_loop (i : grid0.Coords) : Scf.Loop 32 :=
  let c0_i32_73 : BitVec 32 := 0#32
  let arg2 : BitVec 32 := BitVec.ofNat 32 (i 2).val
  let c1_i32 : BitVec 32 := 1#32
  let v5 : BitVec 32 := Scalar.addi arg2 c1_i32
  let v185 : BitVec 32 := Scalar.subi v5 c0_i32_73
  let c1_i32_74 : BitVec 32 := 1#32
  let v187 : BitVec 32 := Scalar.divsi v185 c1_i32_74
  let v188 : BitVec 32 := Scalar.muli v187 c1_i32_74
  let v189 : BitVec 32 := Scalar.addi c0_i32_73 v188
  let v186 : BitVec 32 := Scalar.addi c0_i32_73 v185
  let c1_i32_76 : BitVec 32 := 1#32
  ⟨v189, v186, c1_i32_76⟩
def k0_mult5 (i : grid0.Coords) (k0_t5 : Fin (k0_t5_loop i).trips) : BitVec 32 :=
  let c0_i32_73 : BitVec 32 := 0#32
  let arg2 : BitVec 32 := BitVec.ofNat 32 (i 2).val
  let c1_i32 : BitVec 32 := 1#32
  let v5 : BitVec 32 := Scalar.addi arg2 c1_i32
  let v185 : BitVec 32 := Scalar.subi v5 c0_i32_73
  let c1_i32_74 : BitVec 32 := 1#32
  let v187 : BitVec 32 := Scalar.divsi v185 c1_i32_74
  let v188 : BitVec 32 := Scalar.muli v187 c1_i32_74
  let v189 : BitVec 32 := Scalar.addi c0_i32_73 v188
  let c1_i32_76 : BitVec 32 := 1#32
  let arg15 : BitVec 32 := Scf.iv v189 c1_i32_76 k0_t5
  let c256_i32 : BitVec 32 := 256#32
  let v630 : BitVec 32 := Scalar.muli arg15 c256_i32
  v630
def k0_off10 (i : grid0.Coords) (k0_t5 : Fin (k0_t5_loop i).trips) : Fin 2 → Nat :=
  let c0_i32_73 : BitVec 32 := 0#32
  let arg2 : BitVec 32 := BitVec.ofNat 32 (i 2).val
  let c1_i32 : BitVec 32 := 1#32
  let v5 : BitVec 32 := Scalar.addi arg2 c1_i32
  let v185 : BitVec 32 := Scalar.subi v5 c0_i32_73
  let c1_i32_74 : BitVec 32 := 1#32
  let v187 : BitVec 32 := Scalar.divsi v185 c1_i32_74
  let v188 : BitVec 32 := Scalar.muli v187 c1_i32_74
  let v189 : BitVec 32 := Scalar.addi c0_i32_73 v188
  let c1_i32_76 : BitVec 32 := 1#32
  let arg15 : BitVec 32 := Scf.iv v189 c1_i32_76 k0_t5
  let c256_i32 : BitVec 32 := 256#32
  let v630 : BitVec 32 := Scalar.muli arg15 c256_i32
  let v631 : BitVec 32 := v630
  let v632 : Index := Scalar.indexCast v631
  let c0_285 : Index := 0#32
  ![v632.toNat, 0]
@[reducible] def k0_t6_loop (i : grid0.Coords) : Scf.Loop 32 :=
  let c0_i32_80 : BitVec 32 := 0#32
  let arg2 : BitVec 32 := BitVec.ofNat 32 (i 2).val
  let c1_i32 : BitVec 32 := 1#32
  let v5 : BitVec 32 := Scalar.addi arg2 c1_i32
  let v197 : BitVec 32 := Scalar.subi v5 c0_i32_80
  let c1_i32_81 : BitVec 32 := 1#32
  let v199 : BitVec 32 := Scalar.divsi v197 c1_i32_81
  let v200 : BitVec 32 := Scalar.muli v199 c1_i32_81
  let v201 : BitVec 32 := Scalar.addi c0_i32_80 v200
  let c1_i32_82 : BitVec 32 := 1#32
  ⟨c0_i32_80, v201, c1_i32_82⟩
def k0_mult6 (i : grid0.Coords) (k0_t6 : Fin (k0_t6_loop i).trips) : BitVec 32 :=
  let c0_i32_80 : BitVec 32 := 0#32
  let c1_i32_82 : BitVec 32 := 1#32
  let arg15 : BitVec 32 := Scf.iv c0_i32_80 c1_i32_82 k0_t6
  let c256_i32 : BitVec 32 := 256#32
  let v630 : BitVec 32 := Scalar.muli arg15 c256_i32
  v630
def k0_off11 (i : grid0.Coords) (k0_t6 : Fin (k0_t6_loop i).trips) : Fin 2 → Nat :=
  let c0_i32_80 : BitVec 32 := 0#32
  let c1_i32_82 : BitVec 32 := 1#32
  let arg15 : BitVec 32 := Scf.iv c0_i32_80 c1_i32_82 k0_t6
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off12 (i : grid0.Coords) (k0_t6 : Fin (k0_t6_loop i).trips) : Fin 2 → Nat :=
  let c0_288 : Index := 0#32
  let c0_i32_80 : BitVec 32 := 0#32
  let c1_i32_82 : BitVec 32 := 1#32
  let arg15 : BitVec 32 := Scf.iv c0_i32_80 c1_i32_82 k0_t6
  let c256_i32 : BitVec 32 := 256#32
  let v630 : BitVec 32 := Scalar.muli arg15 c256_i32
  let v631 : BitVec 32 := v630
  let v641 : Index := Scalar.indexCast v631
  ![0, v641.toNat]
@[reducible] def k0_t7_loop (i : grid0.Coords) : Scf.Loop 32 :=
  let c0_i32_80 : BitVec 32 := 0#32
  let arg2 : BitVec 32 := BitVec.ofNat 32 (i 2).val
  let c1_i32 : BitVec 32 := 1#32
  let v5 : BitVec 32 := Scalar.addi arg2 c1_i32
  let v197 : BitVec 32 := Scalar.subi v5 c0_i32_80
  let c1_i32_81 : BitVec 32 := 1#32
  let v199 : BitVec 32 := Scalar.divsi v197 c1_i32_81
  let v200 : BitVec 32 := Scalar.muli v199 c1_i32_81
  let v201 : BitVec 32 := Scalar.addi c0_i32_80 v200
  let v198 : BitVec 32 := Scalar.addi c0_i32_80 v197
  let c1_i32_83 : BitVec 32 := 1#32
  ⟨v201, v198, c1_i32_83⟩
def k0_mult7 (i : grid0.Coords) (k0_t7 : Fin (k0_t7_loop i).trips) : BitVec 32 :=
  let c0_i32_80 : BitVec 32 := 0#32
  let arg2 : BitVec 32 := BitVec.ofNat 32 (i 2).val
  let c1_i32 : BitVec 32 := 1#32
  let v5 : BitVec 32 := Scalar.addi arg2 c1_i32
  let v197 : BitVec 32 := Scalar.subi v5 c0_i32_80
  let c1_i32_81 : BitVec 32 := 1#32
  let v199 : BitVec 32 := Scalar.divsi v197 c1_i32_81
  let v200 : BitVec 32 := Scalar.muli v199 c1_i32_81
  let v201 : BitVec 32 := Scalar.addi c0_i32_80 v200
  let c1_i32_83 : BitVec 32 := 1#32
  let arg15 : BitVec 32 := Scf.iv v201 c1_i32_83 k0_t7
  let c256_i32 : BitVec 32 := 256#32
  let v630 : BitVec 32 := Scalar.muli arg15 c256_i32
  v630
def k0_off13 (i : grid0.Coords) (k0_t7 : Fin (k0_t7_loop i).trips) : Fin 2 → Nat :=
  let c0_i32_80 : BitVec 32 := 0#32
  let arg2 : BitVec 32 := BitVec.ofNat 32 (i 2).val
  let c1_i32 : BitVec 32 := 1#32
  let v5 : BitVec 32 := Scalar.addi arg2 c1_i32
  let v197 : BitVec 32 := Scalar.subi v5 c0_i32_80
  let c1_i32_81 : BitVec 32 := 1#32
  let v199 : BitVec 32 := Scalar.divsi v197 c1_i32_81
  let v200 : BitVec 32 := Scalar.muli v199 c1_i32_81
  let v201 : BitVec 32 := Scalar.addi c0_i32_80 v200
  let c1_i32_83 : BitVec 32 := 1#32
  let arg15 : BitVec 32 := Scf.iv v201 c1_i32_83 k0_t7
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off14 (i : grid0.Coords) (k0_t7 : Fin (k0_t7_loop i).trips) : Fin 2 → Nat :=
  let c0_288 : Index := 0#32
  let c0_i32_80 : BitVec 32 := 0#32
  let arg2 : BitVec 32 := BitVec.ofNat 32 (i 2).val
  let c1_i32 : BitVec 32 := 1#32
  let v5 : BitVec 32 := Scalar.addi arg2 c1_i32
  let v197 : BitVec 32 := Scalar.subi v5 c0_i32_80
  let c1_i32_81 : BitVec 32 := 1#32
  let v199 : BitVec 32 := Scalar.divsi v197 c1_i32_81
  let v200 : BitVec 32 := Scalar.muli v199 c1_i32_81
  let v201 : BitVec 32 := Scalar.addi c0_i32_80 v200
  let c1_i32_83 : BitVec 32 := 1#32
  let arg15 : BitVec 32 := Scf.iv v201 c1_i32_83 k0_t7
  let c256_i32 : BitVec 32 := 256#32
  let v630 : BitVec 32 := Scalar.muli arg15 c256_i32
  let v631 : BitVec 32 := v630
  let v641 : Index := Scalar.indexCast v631
  ![0, v641.toNat]
@[reducible] def k0_t8_loop (i : grid0.Coords) : Scf.Loop 32 :=
  let c0_i32_166 : BitVec 32 := 0#32
  let arg2 : BitVec 32 := BitVec.ofNat 32 (i 2).val
  let c1_i32 : BitVec 32 := 1#32
  let v5 : BitVec 32 := Scalar.addi arg2 c1_i32
  let v383 : BitVec 32 := Scalar.subi v5 c0_i32_166
  let c1_i32_167 : BitVec 32 := 1#32
  let v385 : BitVec 32 := Scalar.divsi v383 c1_i32_167
  let v386 : BitVec 32 := Scalar.muli v385 c1_i32_167
  let v387 : BitVec 32 := Scalar.addi c0_i32_166 v386
  let c1_i32_168 : BitVec 32 := 1#32
  ⟨c0_i32_166, v387, c1_i32_168⟩
def k0_mult8 (i : grid0.Coords) (k0_t8 : Fin (k0_t8_loop i).trips) : BitVec 32 :=
  let c0_i32_166 : BitVec 32 := 0#32
  let c1_i32_168 : BitVec 32 := 1#32
  let arg15 : BitVec 32 := Scf.iv c0_i32_166 c1_i32_168 k0_t8
  let c256_i32 : BitVec 32 := 256#32
  let v630 : BitVec 32 := Scalar.muli arg15 c256_i32
  v630
def k0_off15 (i : grid0.Coords) (k0_t8 : Fin (k0_t8_loop i).trips) : Fin 2 → Nat :=
  let c0_i32_166 : BitVec 32 := 0#32
  let c1_i32_168 : BitVec 32 := 1#32
  let arg15 : BitVec 32 := Scf.iv c0_i32_166 c1_i32_168 k0_t8
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off16 (i : grid0.Coords) (k0_t8 : Fin (k0_t8_loop i).trips) (c0_i32_291 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v649 : Index := Scalar.indexCast v1
  let c0_i32_166 : BitVec 32 := 0#32
  let c1_i32_168 : BitVec 32 := 1#32
  let arg15 : BitVec 32 := Scf.iv c0_i32_166 c1_i32_168 k0_t8
  let c8_i32_290 : BitVec 32 := 8#32
  let v647 : BitVec 32 := Scalar.muli arg15 c8_i32_290
  let v648 : BitVec 32 := Scalar.addi v647 c0_i32_291
  let v650 : Index := Scalar.indexCast v648
  ![v649.toNat, v650.toNat]
def k0_off17 (i : grid0.Coords) (k0_t8 : Fin (k0_t8_loop i).trips) : Fin 2 → Nat :=
  let c0_i32_166 : BitVec 32 := 0#32
  let c1_i32_168 : BitVec 32 := 1#32
  let arg15 : BitVec 32 := Scf.iv c0_i32_166 c1_i32_168 k0_t8
  let c256_i32 : BitVec 32 := 256#32
  let v630 : BitVec 32 := Scalar.muli arg15 c256_i32
  let v631 : BitVec 32 := v630
  let v722 : Index := Scalar.indexCast v631
  let c0_311 : Index := 0#32
  ![v722.toNat, 0]
@[reducible] def k0_t9_loop (i : grid0.Coords) : Scf.Loop 32 :=
  let c0_i32_166 : BitVec 32 := 0#32
  let arg2 : BitVec 32 := BitVec.ofNat 32 (i 2).val
  let c1_i32 : BitVec 32 := 1#32
  let v5 : BitVec 32 := Scalar.addi arg2 c1_i32
  let v383 : BitVec 32 := Scalar.subi v5 c0_i32_166
  let c1_i32_167 : BitVec 32 := 1#32
  let v385 : BitVec 32 := Scalar.divsi v383 c1_i32_167
  let v386 : BitVec 32 := Scalar.muli v385 c1_i32_167
  let v387 : BitVec 32 := Scalar.addi c0_i32_166 v386
  let v384 : BitVec 32 := Scalar.addi c0_i32_166 v383
  let c1_i32_169 : BitVec 32 := 1#32
  ⟨v387, v384, c1_i32_169⟩
def k0_mult9 (i : grid0.Coords) (k0_t9 : Fin (k0_t9_loop i).trips) : BitVec 32 :=
  let c0_i32_166 : BitVec 32 := 0#32
  let arg2 : BitVec 32 := BitVec.ofNat 32 (i 2).val
  let c1_i32 : BitVec 32 := 1#32
  let v5 : BitVec 32 := Scalar.addi arg2 c1_i32
  let v383 : BitVec 32 := Scalar.subi v5 c0_i32_166
  let c1_i32_167 : BitVec 32 := 1#32
  let v385 : BitVec 32 := Scalar.divsi v383 c1_i32_167
  let v386 : BitVec 32 := Scalar.muli v385 c1_i32_167
  let v387 : BitVec 32 := Scalar.addi c0_i32_166 v386
  let c1_i32_169 : BitVec 32 := 1#32
  let arg15 : BitVec 32 := Scf.iv v387 c1_i32_169 k0_t9
  let c256_i32 : BitVec 32 := 256#32
  let v630 : BitVec 32 := Scalar.muli arg15 c256_i32
  v630
def k0_off18 (i : grid0.Coords) (k0_t9 : Fin (k0_t9_loop i).trips) : Fin 2 → Nat :=
  let c0_i32_166 : BitVec 32 := 0#32
  let arg2 : BitVec 32 := BitVec.ofNat 32 (i 2).val
  let c1_i32 : BitVec 32 := 1#32
  let v5 : BitVec 32 := Scalar.addi arg2 c1_i32
  let v383 : BitVec 32 := Scalar.subi v5 c0_i32_166
  let c1_i32_167 : BitVec 32 := 1#32
  let v385 : BitVec 32 := Scalar.divsi v383 c1_i32_167
  let v386 : BitVec 32 := Scalar.muli v385 c1_i32_167
  let v387 : BitVec 32 := Scalar.addi c0_i32_166 v386
  let c1_i32_169 : BitVec 32 := 1#32
  let arg15 : BitVec 32 := Scf.iv v387 c1_i32_169 k0_t9
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off19 (i : grid0.Coords) (k0_t9 : Fin (k0_t9_loop i).trips) (c0_i32_291 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v649 : Index := Scalar.indexCast v1
  let c0_i32_166 : BitVec 32 := 0#32
  let arg2 : BitVec 32 := BitVec.ofNat 32 (i 2).val
  let c1_i32 : BitVec 32 := 1#32
  let v5 : BitVec 32 := Scalar.addi arg2 c1_i32
  let v383 : BitVec 32 := Scalar.subi v5 c0_i32_166
  let c1_i32_167 : BitVec 32 := 1#32
  let v385 : BitVec 32 := Scalar.divsi v383 c1_i32_167
  let v386 : BitVec 32 := Scalar.muli v385 c1_i32_167
  let v387 : BitVec 32 := Scalar.addi c0_i32_166 v386
  let c1_i32_169 : BitVec 32 := 1#32
  let arg15 : BitVec 32 := Scf.iv v387 c1_i32_169 k0_t9
  let c8_i32_290 : BitVec 32 := 8#32
  let v647 : BitVec 32 := Scalar.muli arg15 c8_i32_290
  let v648 : BitVec 32 := Scalar.addi v647 c0_i32_291
  let v650 : Index := Scalar.indexCast v648
  ![v649.toNat, v650.toNat]
def k0_off20 (i : grid0.Coords) (k0_t9 : Fin (k0_t9_loop i).trips) : Fin 2 → Nat :=
  let c0_i32_166 : BitVec 32 := 0#32
  let arg2 : BitVec 32 := BitVec.ofNat 32 (i 2).val
  let c1_i32 : BitVec 32 := 1#32
  let v5 : BitVec 32 := Scalar.addi arg2 c1_i32
  let v383 : BitVec 32 := Scalar.subi v5 c0_i32_166
  let c1_i32_167 : BitVec 32 := 1#32
  let v385 : BitVec 32 := Scalar.divsi v383 c1_i32_167
  let v386 : BitVec 32 := Scalar.muli v385 c1_i32_167
  let v387 : BitVec 32 := Scalar.addi c0_i32_166 v386
  let c1_i32_169 : BitVec 32 := 1#32
  let arg15 : BitVec 32 := Scf.iv v387 c1_i32_169 k0_t9
  let c256_i32 : BitVec 32 := 256#32
  let v630 : BitVec 32 := Scalar.muli arg15 c256_i32
  let v631 : BitVec 32 := v630
  let v722 : Index := Scalar.indexCast v631
  let c0_311 : Index := 0#32
  ![v722.toNat, 0]
@[reducible] def k0_t10_loop (i : grid0.Coords) : Scf.Loop 32 :=
  let c0_i32_172 : BitVec 32 := 0#32
  let arg2 : BitVec 32 := BitVec.ofNat 32 (i 2).val
  let c1_i32 : BitVec 32 := 1#32
  let v5 : BitVec 32 := Scalar.addi arg2 c1_i32
  let v393 : BitVec 32 := Scalar.subi v5 c0_i32_172
  let c1_i32_173 : BitVec 32 := 1#32
  let v395 : BitVec 32 := Scalar.divsi v393 c1_i32_173
  let v396 : BitVec 32 := Scalar.muli v395 c1_i32_173
  let v397 : BitVec 32 := Scalar.addi c0_i32_172 v396
  let c1_i32_174 : BitVec 32 := 1#32
  ⟨c0_i32_172, v397, c1_i32_174⟩
def k0_mult10 (i : grid0.Coords) (k0_t10 : Fin (k0_t10_loop i).trips) : BitVec 32 :=
  let c0_i32_172 : BitVec 32 := 0#32
  let c1_i32_174 : BitVec 32 := 1#32
  let arg15 : BitVec 32 := Scf.iv c0_i32_172 c1_i32_174 k0_t10
  let c256_i32 : BitVec 32 := 256#32
  let v630 : BitVec 32 := Scalar.muli arg15 c256_i32
  v630
def k0_off21 (i : grid0.Coords) (k0_t10 : Fin (k0_t10_loop i).trips) : Fin 2 → Nat :=
  let c0_i32_172 : BitVec 32 := 0#32
  let c1_i32_174 : BitVec 32 := 1#32
  let arg15 : BitVec 32 := Scf.iv c0_i32_172 c1_i32_174 k0_t10
  let c256_i32 : BitVec 32 := 256#32
  let v630 : BitVec 32 := Scalar.muli arg15 c256_i32
  let v631 : BitVec 32 := v630
  let v632 : Index := Scalar.indexCast v631
  let c0_285 : Index := 0#32
  ![v632.toNat, 0]
@[reducible] def k0_t11_loop (i : grid0.Coords) : Scf.Loop 32 :=
  let c0_i32_172 : BitVec 32 := 0#32
  let arg2 : BitVec 32 := BitVec.ofNat 32 (i 2).val
  let c1_i32 : BitVec 32 := 1#32
  let v5 : BitVec 32 := Scalar.addi arg2 c1_i32
  let v393 : BitVec 32 := Scalar.subi v5 c0_i32_172
  let c1_i32_173 : BitVec 32 := 1#32
  let v395 : BitVec 32 := Scalar.divsi v393 c1_i32_173
  let v396 : BitVec 32 := Scalar.muli v395 c1_i32_173
  let v397 : BitVec 32 := Scalar.addi c0_i32_172 v396
  let v394 : BitVec 32 := Scalar.addi c0_i32_172 v393
  let c1_i32_175 : BitVec 32 := 1#32
  ⟨v397, v394, c1_i32_175⟩
def k0_mult11 (i : grid0.Coords) (k0_t11 : Fin (k0_t11_loop i).trips) : BitVec 32 :=
  let c0_i32_172 : BitVec 32 := 0#32
  let arg2 : BitVec 32 := BitVec.ofNat 32 (i 2).val
  let c1_i32 : BitVec 32 := 1#32
  let v5 : BitVec 32 := Scalar.addi arg2 c1_i32
  let v393 : BitVec 32 := Scalar.subi v5 c0_i32_172
  let c1_i32_173 : BitVec 32 := 1#32
  let v395 : BitVec 32 := Scalar.divsi v393 c1_i32_173
  let v396 : BitVec 32 := Scalar.muli v395 c1_i32_173
  let v397 : BitVec 32 := Scalar.addi c0_i32_172 v396
  let c1_i32_175 : BitVec 32 := 1#32
  let arg15 : BitVec 32 := Scf.iv v397 c1_i32_175 k0_t11
  let c256_i32 : BitVec 32 := 256#32
  let v630 : BitVec 32 := Scalar.muli arg15 c256_i32
  v630
def k0_off22 (i : grid0.Coords) (k0_t11 : Fin (k0_t11_loop i).trips) : Fin 2 → Nat :=
  let c0_i32_172 : BitVec 32 := 0#32
  let arg2 : BitVec 32 := BitVec.ofNat 32 (i 2).val
  let c1_i32 : BitVec 32 := 1#32
  let v5 : BitVec 32 := Scalar.addi arg2 c1_i32
  let v393 : BitVec 32 := Scalar.subi v5 c0_i32_172
  let c1_i32_173 : BitVec 32 := 1#32
  let v395 : BitVec 32 := Scalar.divsi v393 c1_i32_173
  let v396 : BitVec 32 := Scalar.muli v395 c1_i32_173
  let v397 : BitVec 32 := Scalar.addi c0_i32_172 v396
  let c1_i32_175 : BitVec 32 := 1#32
  let arg15 : BitVec 32 := Scf.iv v397 c1_i32_175 k0_t11
  let c256_i32 : BitVec 32 := 256#32
  let v630 : BitVec 32 := Scalar.muli arg15 c256_i32
  let v631 : BitVec 32 := v630
  let v632 : Index := Scalar.indexCast v631
  let c0_285 : Index := 0#32
  ![v632.toNat, 0]
@[reducible] def k0_t12_loop (i : grid0.Coords) : Scf.Loop 32 :=
  let c0_i32_179 : BitVec 32 := 0#32
  let arg2 : BitVec 32 := BitVec.ofNat 32 (i 2).val
  let c1_i32 : BitVec 32 := 1#32
  let v5 : BitVec 32 := Scalar.addi arg2 c1_i32
  let v405 : BitVec 32 := Scalar.subi v5 c0_i32_179
  let c1_i32_180 : BitVec 32 := 1#32
  let v407 : BitVec 32 := Scalar.divsi v405 c1_i32_180
  let v408 : BitVec 32 := Scalar.muli v407 c1_i32_180
  let v409 : BitVec 32 := Scalar.addi c0_i32_179 v408
  let c1_i32_181 : BitVec 32 := 1#32
  ⟨c0_i32_179, v409, c1_i32_181⟩
def k0_mult12 (i : grid0.Coords) (k0_t12 : Fin (k0_t12_loop i).trips) : BitVec 32 :=
  let c0_i32_179 : BitVec 32 := 0#32
  let c1_i32_181 : BitVec 32 := 1#32
  let arg15 : BitVec 32 := Scf.iv c0_i32_179 c1_i32_181 k0_t12
  let c256_i32 : BitVec 32 := 256#32
  let v630 : BitVec 32 := Scalar.muli arg15 c256_i32
  v630
def k0_off23 (i : grid0.Coords) (k0_t12 : Fin (k0_t12_loop i).trips) : Fin 2 → Nat :=
  let c0_i32_179 : BitVec 32 := 0#32
  let c1_i32_181 : BitVec 32 := 1#32
  let arg15 : BitVec 32 := Scf.iv c0_i32_179 c1_i32_181 k0_t12
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off24 (i : grid0.Coords) (k0_t12 : Fin (k0_t12_loop i).trips) : Fin 2 → Nat :=
  let c0_288 : Index := 0#32
  let c0_i32_179 : BitVec 32 := 0#32
  let c1_i32_181 : BitVec 32 := 1#32
  let arg15 : BitVec 32 := Scf.iv c0_i32_179 c1_i32_181 k0_t12
  let c256_i32 : BitVec 32 := 256#32
  let v630 : BitVec 32 := Scalar.muli arg15 c256_i32
  let v631 : BitVec 32 := v630
  let v641 : Index := Scalar.indexCast v631
  ![0, v641.toNat]
@[reducible] def k0_t13_loop (i : grid0.Coords) : Scf.Loop 32 :=
  let c0_i32_179 : BitVec 32 := 0#32
  let arg2 : BitVec 32 := BitVec.ofNat 32 (i 2).val
  let c1_i32 : BitVec 32 := 1#32
  let v5 : BitVec 32 := Scalar.addi arg2 c1_i32
  let v405 : BitVec 32 := Scalar.subi v5 c0_i32_179
  let c1_i32_180 : BitVec 32 := 1#32
  let v407 : BitVec 32 := Scalar.divsi v405 c1_i32_180
  let v408 : BitVec 32 := Scalar.muli v407 c1_i32_180
  let v409 : BitVec 32 := Scalar.addi c0_i32_179 v408
  let v406 : BitVec 32 := Scalar.addi c0_i32_179 v405
  let c1_i32_182 : BitVec 32 := 1#32
  ⟨v409, v406, c1_i32_182⟩
def k0_mult13 (i : grid0.Coords) (k0_t13 : Fin (k0_t13_loop i).trips) : BitVec 32 :=
  let c0_i32_179 : BitVec 32 := 0#32
  let arg2 : BitVec 32 := BitVec.ofNat 32 (i 2).val
  let c1_i32 : BitVec 32 := 1#32
  let v5 : BitVec 32 := Scalar.addi arg2 c1_i32
  let v405 : BitVec 32 := Scalar.subi v5 c0_i32_179
  let c1_i32_180 : BitVec 32 := 1#32
  let v407 : BitVec 32 := Scalar.divsi v405 c1_i32_180
  let v408 : BitVec 32 := Scalar.muli v407 c1_i32_180
  let v409 : BitVec 32 := Scalar.addi c0_i32_179 v408
  let c1_i32_182 : BitVec 32 := 1#32
  let arg15 : BitVec 32 := Scf.iv v409 c1_i32_182 k0_t13
  let c256_i32 : BitVec 32 := 256#32
  let v630 : BitVec 32 := Scalar.muli arg15 c256_i32
  v630
def k0_off25 (i : grid0.Coords) (k0_t13 : Fin (k0_t13_loop i).trips) : Fin 2 → Nat :=
  let c0_i32_179 : BitVec 32 := 0#32
  let arg2 : BitVec 32 := BitVec.ofNat 32 (i 2).val
  let c1_i32 : BitVec 32 := 1#32
  let v5 : BitVec 32 := Scalar.addi arg2 c1_i32
  let v405 : BitVec 32 := Scalar.subi v5 c0_i32_179
  let c1_i32_180 : BitVec 32 := 1#32
  let v407 : BitVec 32 := Scalar.divsi v405 c1_i32_180
  let v408 : BitVec 32 := Scalar.muli v407 c1_i32_180
  let v409 : BitVec 32 := Scalar.addi c0_i32_179 v408
  let c1_i32_182 : BitVec 32 := 1#32
  let arg15 : BitVec 32 := Scf.iv v409 c1_i32_182 k0_t13
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off26 (i : grid0.Coords) (k0_t13 : Fin (k0_t13_loop i).trips) : Fin 2 → Nat :=
  let c0_288 : Index := 0#32
  let c0_i32_179 : BitVec 32 := 0#32
  let arg2 : BitVec 32 := BitVec.ofNat 32 (i 2).val
  let c1_i32 : BitVec 32 := 1#32
  let v5 : BitVec 32 := Scalar.addi arg2 c1_i32
  let v405 : BitVec 32 := Scalar.subi v5 c0_i32_179
  let c1_i32_180 : BitVec 32 := 1#32
  let v407 : BitVec 32 := Scalar.divsi v405 c1_i32_180
  let v408 : BitVec 32 := Scalar.muli v407 c1_i32_180
  let v409 : BitVec 32 := Scalar.addi c0_i32_179 v408
  let c1_i32_182 : BitVec 32 := 1#32
  let arg15 : BitVec 32 := Scf.iv v409 c1_i32_182 k0_t13
  let c256_i32 : BitVec 32 := 256#32
  let v630 : BitVec 32 := Scalar.muli arg15 c256_i32
  let v631 : BitVec 32 := v630
  let v641 : Index := Scalar.indexCast v631
  ![0, v641.toNat]
@[reducible] def k0_t14_loop (i : grid0.Coords) : Scf.Loop 32 :=
  let c0_i32_264 : BitVec 32 := 0#32
  let arg2 : BitVec 32 := BitVec.ofNat 32 (i 2).val
  let c1_i32 : BitVec 32 := 1#32
  let v5 : BitVec 32 := Scalar.addi arg2 c1_i32
  let v591 : BitVec 32 := Scalar.subi v5 c0_i32_264
  let c1_i32_265 : BitVec 32 := 1#32
  let v593 : BitVec 32 := Scalar.divsi v591 c1_i32_265
  let v594 : BitVec 32 := Scalar.muli v593 c1_i32_265
  let v595 : BitVec 32 := Scalar.addi c0_i32_264 v594
  let c1_i32_266 : BitVec 32 := 1#32
  ⟨c0_i32_264, v595, c1_i32_266⟩
def k0_mult14 (i : grid0.Coords) (k0_t14 : Fin (k0_t14_loop i).trips) : BitVec 32 :=
  let c0_i32_264 : BitVec 32 := 0#32
  let c1_i32_266 : BitVec 32 := 1#32
  let arg15 : BitVec 32 := Scf.iv c0_i32_264 c1_i32_266 k0_t14
  let c256_i32 : BitVec 32 := 256#32
  let v630 : BitVec 32 := Scalar.muli arg15 c256_i32
  v630
def k0_off27 (i : grid0.Coords) (k0_t14 : Fin (k0_t14_loop i).trips) : Fin 2 → Nat :=
  let c0_i32_264 : BitVec 32 := 0#32
  let c1_i32_266 : BitVec 32 := 1#32
  let arg15 : BitVec 32 := Scf.iv c0_i32_264 c1_i32_266 k0_t14
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off28 (i : grid0.Coords) (k0_t14 : Fin (k0_t14_loop i).trips) (c0_i32_291 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v649 : Index := Scalar.indexCast v1
  let c0_i32_264 : BitVec 32 := 0#32
  let c1_i32_266 : BitVec 32 := 1#32
  let arg15 : BitVec 32 := Scf.iv c0_i32_264 c1_i32_266 k0_t14
  let c8_i32_290 : BitVec 32 := 8#32
  let v647 : BitVec 32 := Scalar.muli arg15 c8_i32_290
  let v648 : BitVec 32 := Scalar.addi v647 c0_i32_291
  let v650 : Index := Scalar.indexCast v648
  ![v649.toNat, v650.toNat]
def k0_off29 (i : grid0.Coords) (k0_t14 : Fin (k0_t14_loop i).trips) : Fin 2 → Nat :=
  let c0_i32_264 : BitVec 32 := 0#32
  let c1_i32_266 : BitVec 32 := 1#32
  let arg15 : BitVec 32 := Scf.iv c0_i32_264 c1_i32_266 k0_t14
  let c256_i32 : BitVec 32 := 256#32
  let v630 : BitVec 32 := Scalar.muli arg15 c256_i32
  let v631 : BitVec 32 := v630
  let v722 : Index := Scalar.indexCast v631
  let c0_311 : Index := 0#32
  ![v722.toNat, 0]
@[reducible] def k0_t15_loop (i : grid0.Coords) : Scf.Loop 32 :=
  let c0_i32_264 : BitVec 32 := 0#32
  let arg2 : BitVec 32 := BitVec.ofNat 32 (i 2).val
  let c1_i32 : BitVec 32 := 1#32
  let v5 : BitVec 32 := Scalar.addi arg2 c1_i32
  let v591 : BitVec 32 := Scalar.subi v5 c0_i32_264
  let c1_i32_265 : BitVec 32 := 1#32
  let v593 : BitVec 32 := Scalar.divsi v591 c1_i32_265
  let v594 : BitVec 32 := Scalar.muli v593 c1_i32_265
  let v595 : BitVec 32 := Scalar.addi c0_i32_264 v594
  let v592 : BitVec 32 := Scalar.addi c0_i32_264 v591
  let c1_i32_267 : BitVec 32 := 1#32
  ⟨v595, v592, c1_i32_267⟩
def k0_mult15 (i : grid0.Coords) (k0_t15 : Fin (k0_t15_loop i).trips) : BitVec 32 :=
  let c0_i32_264 : BitVec 32 := 0#32
  let arg2 : BitVec 32 := BitVec.ofNat 32 (i 2).val
  let c1_i32 : BitVec 32 := 1#32
  let v5 : BitVec 32 := Scalar.addi arg2 c1_i32
  let v591 : BitVec 32 := Scalar.subi v5 c0_i32_264
  let c1_i32_265 : BitVec 32 := 1#32
  let v593 : BitVec 32 := Scalar.divsi v591 c1_i32_265
  let v594 : BitVec 32 := Scalar.muli v593 c1_i32_265
  let v595 : BitVec 32 := Scalar.addi c0_i32_264 v594
  let c1_i32_267 : BitVec 32 := 1#32
  let arg15 : BitVec 32 := Scf.iv v595 c1_i32_267 k0_t15
  let c256_i32 : BitVec 32 := 256#32
  let v630 : BitVec 32 := Scalar.muli arg15 c256_i32
  v630
def k0_off30 (i : grid0.Coords) (k0_t15 : Fin (k0_t15_loop i).trips) : Fin 2 → Nat :=
  let c0_i32_264 : BitVec 32 := 0#32
  let arg2 : BitVec 32 := BitVec.ofNat 32 (i 2).val
  let c1_i32 : BitVec 32 := 1#32
  let v5 : BitVec 32 := Scalar.addi arg2 c1_i32
  let v591 : BitVec 32 := Scalar.subi v5 c0_i32_264
  let c1_i32_265 : BitVec 32 := 1#32
  let v593 : BitVec 32 := Scalar.divsi v591 c1_i32_265
  let v594 : BitVec 32 := Scalar.muli v593 c1_i32_265
  let v595 : BitVec 32 := Scalar.addi c0_i32_264 v594
  let c1_i32_267 : BitVec 32 := 1#32
  let arg15 : BitVec 32 := Scf.iv v595 c1_i32_267 k0_t15
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off31 (i : grid0.Coords) (k0_t15 : Fin (k0_t15_loop i).trips) (c0_i32_291 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let v649 : Index := Scalar.indexCast v1
  let c0_i32_264 : BitVec 32 := 0#32
  let arg2 : BitVec 32 := BitVec.ofNat 32 (i 2).val
  let c1_i32 : BitVec 32 := 1#32
  let v5 : BitVec 32 := Scalar.addi arg2 c1_i32
  let v591 : BitVec 32 := Scalar.subi v5 c0_i32_264
  let c1_i32_265 : BitVec 32 := 1#32
  let v593 : BitVec 32 := Scalar.divsi v591 c1_i32_265
  let v594 : BitVec 32 := Scalar.muli v593 c1_i32_265
  let v595 : BitVec 32 := Scalar.addi c0_i32_264 v594
  let c1_i32_267 : BitVec 32 := 1#32
  let arg15 : BitVec 32 := Scf.iv v595 c1_i32_267 k0_t15
  let c8_i32_290 : BitVec 32 := 8#32
  let v647 : BitVec 32 := Scalar.muli arg15 c8_i32_290
  let v648 : BitVec 32 := Scalar.addi v647 c0_i32_291
  let v650 : Index := Scalar.indexCast v648
  ![v649.toNat, v650.toNat]
def k0_off32 (i : grid0.Coords) (k0_t15 : Fin (k0_t15_loop i).trips) : Fin 2 → Nat :=
  let c0_i32_264 : BitVec 32 := 0#32
  let arg2 : BitVec 32 := BitVec.ofNat 32 (i 2).val
  let c1_i32 : BitVec 32 := 1#32
  let v5 : BitVec 32 := Scalar.addi arg2 c1_i32
  let v591 : BitVec 32 := Scalar.subi v5 c0_i32_264
  let c1_i32_265 : BitVec 32 := 1#32
  let v593 : BitVec 32 := Scalar.divsi v591 c1_i32_265
  let v594 : BitVec 32 := Scalar.muli v593 c1_i32_265
  let v595 : BitVec 32 := Scalar.addi c0_i32_264 v594
  let c1_i32_267 : BitVec 32 := 1#32
  let arg15 : BitVec 32 := Scf.iv v595 c1_i32_267 k0_t15
  let c256_i32 : BitVec 32 := 256#32
  let v630 : BitVec 32 := Scalar.muli arg15 c256_i32
  let v631 : BitVec 32 := v630
  let v722 : Index := Scalar.indexCast v631
  let c0_311 : Index := 0#32
  ![v722.toNat, 0]
@[reducible] def k0_t16_loop (i : grid0.Coords) : Scf.Loop 32 :=
  let c0_i32_270 : BitVec 32 := 0#32
  let arg2 : BitVec 32 := BitVec.ofNat 32 (i 2).val
  let c1_i32 : BitVec 32 := 1#32
  let v5 : BitVec 32 := Scalar.addi arg2 c1_i32
  let v601 : BitVec 32 := Scalar.subi v5 c0_i32_270
  let c1_i32_271 : BitVec 32 := 1#32
  let v603 : BitVec 32 := Scalar.divsi v601 c1_i32_271
  let v604 : BitVec 32 := Scalar.muli v603 c1_i32_271
  let v605 : BitVec 32 := Scalar.addi c0_i32_270 v604
  let c1_i32_272 : BitVec 32 := 1#32
  ⟨c0_i32_270, v605, c1_i32_272⟩
def k0_mult16 (i : grid0.Coords) (k0_t16 : Fin (k0_t16_loop i).trips) : BitVec 32 :=
  let c0_i32_270 : BitVec 32 := 0#32
  let c1_i32_272 : BitVec 32 := 1#32
  let arg15 : BitVec 32 := Scf.iv c0_i32_270 c1_i32_272 k0_t16
  let c256_i32 : BitVec 32 := 256#32
  let v630 : BitVec 32 := Scalar.muli arg15 c256_i32
  v630
def k0_off33 (i : grid0.Coords) (k0_t16 : Fin (k0_t16_loop i).trips) : Fin 2 → Nat :=
  let c0_i32_270 : BitVec 32 := 0#32
  let c1_i32_272 : BitVec 32 := 1#32
  let arg15 : BitVec 32 := Scf.iv c0_i32_270 c1_i32_272 k0_t16
  let c256_i32 : BitVec 32 := 256#32
  let v630 : BitVec 32 := Scalar.muli arg15 c256_i32
  let v631 : BitVec 32 := v630
  let v632 : Index := Scalar.indexCast v631
  let c0_285 : Index := 0#32
  ![v632.toNat, 0]
@[reducible] def k0_t17_loop (i : grid0.Coords) : Scf.Loop 32 :=
  let c0_i32_270 : BitVec 32 := 0#32
  let arg2 : BitVec 32 := BitVec.ofNat 32 (i 2).val
  let c1_i32 : BitVec 32 := 1#32
  let v5 : BitVec 32 := Scalar.addi arg2 c1_i32
  let v601 : BitVec 32 := Scalar.subi v5 c0_i32_270
  let c1_i32_271 : BitVec 32 := 1#32
  let v603 : BitVec 32 := Scalar.divsi v601 c1_i32_271
  let v604 : BitVec 32 := Scalar.muli v603 c1_i32_271
  let v605 : BitVec 32 := Scalar.addi c0_i32_270 v604
  let v602 : BitVec 32 := Scalar.addi c0_i32_270 v601
  let c1_i32_273 : BitVec 32 := 1#32
  ⟨v605, v602, c1_i32_273⟩
def k0_mult17 (i : grid0.Coords) (k0_t17 : Fin (k0_t17_loop i).trips) : BitVec 32 :=
  let c0_i32_270 : BitVec 32 := 0#32
  let arg2 : BitVec 32 := BitVec.ofNat 32 (i 2).val
  let c1_i32 : BitVec 32 := 1#32
  let v5 : BitVec 32 := Scalar.addi arg2 c1_i32
  let v601 : BitVec 32 := Scalar.subi v5 c0_i32_270
  let c1_i32_271 : BitVec 32 := 1#32
  let v603 : BitVec 32 := Scalar.divsi v601 c1_i32_271
  let v604 : BitVec 32 := Scalar.muli v603 c1_i32_271
  let v605 : BitVec 32 := Scalar.addi c0_i32_270 v604
  let c1_i32_273 : BitVec 32 := 1#32
  let arg15 : BitVec 32 := Scf.iv v605 c1_i32_273 k0_t17
  let c256_i32 : BitVec 32 := 256#32
  let v630 : BitVec 32 := Scalar.muli arg15 c256_i32
  v630
def k0_off34 (i : grid0.Coords) (k0_t17 : Fin (k0_t17_loop i).trips) : Fin 2 → Nat :=
  let c0_i32_270 : BitVec 32 := 0#32
  let arg2 : BitVec 32 := BitVec.ofNat 32 (i 2).val
  let c1_i32 : BitVec 32 := 1#32
  let v5 : BitVec 32 := Scalar.addi arg2 c1_i32
  let v601 : BitVec 32 := Scalar.subi v5 c0_i32_270
  let c1_i32_271 : BitVec 32 := 1#32
  let v603 : BitVec 32 := Scalar.divsi v601 c1_i32_271
  let v604 : BitVec 32 := Scalar.muli v603 c1_i32_271
  let v605 : BitVec 32 := Scalar.addi c0_i32_270 v604
  let c1_i32_273 : BitVec 32 := 1#32
  let arg15 : BitVec 32 := Scf.iv v605 c1_i32_273 k0_t17
  let c256_i32 : BitVec 32 := 256#32
  let v630 : BitVec 32 := Scalar.muli arg15 c256_i32
  let v631 : BitVec 32 := v630
  let v632 : Index := Scalar.indexCast v631
  let c0_285 : Index := 0#32
  ![v632.toNat, 0]
@[reducible] def k0_t18_loop (i : grid0.Coords) : Scf.Loop 32 :=
  let c0_i32_277 : BitVec 32 := 0#32
  let arg2 : BitVec 32 := BitVec.ofNat 32 (i 2).val
  let c1_i32 : BitVec 32 := 1#32
  let v5 : BitVec 32 := Scalar.addi arg2 c1_i32
  let v613 : BitVec 32 := Scalar.subi v5 c0_i32_277
  let c1_i32_278 : BitVec 32 := 1#32
  let v615 : BitVec 32 := Scalar.divsi v613 c1_i32_278
  let v616 : BitVec 32 := Scalar.muli v615 c1_i32_278
  let v617 : BitVec 32 := Scalar.addi c0_i32_277 v616
  let c1_i32_279 : BitVec 32 := 1#32
  ⟨c0_i32_277, v617, c1_i32_279⟩
def k0_mult18 (i : grid0.Coords) (k0_t18 : Fin (k0_t18_loop i).trips) : BitVec 32 :=
  let c0_i32_277 : BitVec 32 := 0#32
  let c1_i32_279 : BitVec 32 := 1#32
  let arg15 : BitVec 32 := Scf.iv c0_i32_277 c1_i32_279 k0_t18
  let c256_i32 : BitVec 32 := 256#32
  let v630 : BitVec 32 := Scalar.muli arg15 c256_i32
  v630
def k0_off35 (i : grid0.Coords) (k0_t18 : Fin (k0_t18_loop i).trips) : Fin 2 → Nat :=
  let c0_i32_277 : BitVec 32 := 0#32
  let c1_i32_279 : BitVec 32 := 1#32
  let arg15 : BitVec 32 := Scf.iv c0_i32_277 c1_i32_279 k0_t18
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off36 (i : grid0.Coords) (k0_t18 : Fin (k0_t18_loop i).trips) : Fin 2 → Nat :=
  let c0_288 : Index := 0#32
  let c0_i32_277 : BitVec 32 := 0#32
  let c1_i32_279 : BitVec 32 := 1#32
  let arg15 : BitVec 32 := Scf.iv c0_i32_277 c1_i32_279 k0_t18
  let c256_i32 : BitVec 32 := 256#32
  let v630 : BitVec 32 := Scalar.muli arg15 c256_i32
  let v631 : BitVec 32 := v630
  let v641 : Index := Scalar.indexCast v631
  ![0, v641.toNat]
@[reducible] def k0_t19_loop (i : grid0.Coords) : Scf.Loop 32 :=
  let c0_i32_277 : BitVec 32 := 0#32
  let arg2 : BitVec 32 := BitVec.ofNat 32 (i 2).val
  let c1_i32 : BitVec 32 := 1#32
  let v5 : BitVec 32 := Scalar.addi arg2 c1_i32
  let v613 : BitVec 32 := Scalar.subi v5 c0_i32_277
  let c1_i32_278 : BitVec 32 := 1#32
  let v615 : BitVec 32 := Scalar.divsi v613 c1_i32_278
  let v616 : BitVec 32 := Scalar.muli v615 c1_i32_278
  let v617 : BitVec 32 := Scalar.addi c0_i32_277 v616
  let v614 : BitVec 32 := Scalar.addi c0_i32_277 v613
  let c1_i32_280 : BitVec 32 := 1#32
  ⟨v617, v614, c1_i32_280⟩
def k0_mult19 (i : grid0.Coords) (k0_t19 : Fin (k0_t19_loop i).trips) : BitVec 32 :=
  let c0_i32_277 : BitVec 32 := 0#32
  let arg2 : BitVec 32 := BitVec.ofNat 32 (i 2).val
  let c1_i32 : BitVec 32 := 1#32
  let v5 : BitVec 32 := Scalar.addi arg2 c1_i32
  let v613 : BitVec 32 := Scalar.subi v5 c0_i32_277
  let c1_i32_278 : BitVec 32 := 1#32
  let v615 : BitVec 32 := Scalar.divsi v613 c1_i32_278
  let v616 : BitVec 32 := Scalar.muli v615 c1_i32_278
  let v617 : BitVec 32 := Scalar.addi c0_i32_277 v616
  let c1_i32_280 : BitVec 32 := 1#32
  let arg15 : BitVec 32 := Scf.iv v617 c1_i32_280 k0_t19
  let c256_i32 : BitVec 32 := 256#32
  let v630 : BitVec 32 := Scalar.muli arg15 c256_i32
  v630
def k0_off37 (i : grid0.Coords) (k0_t19 : Fin (k0_t19_loop i).trips) : Fin 2 → Nat :=
  let c0_i32_277 : BitVec 32 := 0#32
  let arg2 : BitVec 32 := BitVec.ofNat 32 (i 2).val
  let c1_i32 : BitVec 32 := 1#32
  let v5 : BitVec 32 := Scalar.addi arg2 c1_i32
  let v613 : BitVec 32 := Scalar.subi v5 c0_i32_277
  let c1_i32_278 : BitVec 32 := 1#32
  let v615 : BitVec 32 := Scalar.divsi v613 c1_i32_278
  let v616 : BitVec 32 := Scalar.muli v615 c1_i32_278
  let v617 : BitVec 32 := Scalar.addi c0_i32_277 v616
  let c1_i32_280 : BitVec 32 := 1#32
  let arg15 : BitVec 32 := Scf.iv v617 c1_i32_280 k0_t19
  let c256_i32 : BitVec 32 := 256#32
  let v630 : BitVec 32 := Scalar.muli arg15 c256_i32
  let v631 : BitVec 32 := v630
  let v632 : Index := Scalar.indexCast v631
  let c0_285 : Index := 0#32
  ![v632.toNat, 0]
def k0_off38 (i : grid0.Coords) (k0_t19 : Fin (k0_t19_loop i).trips) : Fin 2 → Nat :=
  let c0_288 : Index := 0#32
  let c0_i32_277 : BitVec 32 := 0#32
  let arg2 : BitVec 32 := BitVec.ofNat 32 (i 2).val
  let c1_i32 : BitVec 32 := 1#32
  let v5 : BitVec 32 := Scalar.addi arg2 c1_i32
  let v613 : BitVec 32 := Scalar.subi v5 c0_i32_277
  let c1_i32_278 : BitVec 32 := 1#32
  let v615 : BitVec 32 := Scalar.divsi v613 c1_i32_278
  let v616 : BitVec 32 := Scalar.muli v615 c1_i32_278
  let v617 : BitVec 32 := Scalar.addi c0_i32_277 v616
  let c1_i32_280 : BitVec 32 := 1#32
  let arg15 : BitVec 32 := Scf.iv v617 c1_i32_280 k0_t19
  let c256_i32 : BitVec 32 := 256#32
  let v630 : BitVec 32 := Scalar.muli arg15 c256_i32
  let v631 : BitVec 32 := v630
  let v641 : Index := Scalar.indexCast v631
  ![0, v641.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S32x144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x192x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x6x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4608x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x64x4608 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "scale_log2e" => some (((8 * (Real.log 2))⁻¹ : ℝ) : EReal)
  | _ => none
-- ==== RefIdeal.lean ====
abbrev S4x4608x48x32 : Shape := ⟨4, ![4, 4608, 48, 32]⟩
abbrev S4x144x48 : Shape := ⟨3, ![4, 144, 48]⟩
abbrev S4x36x48x64 : Shape := ⟨4, ![4, 36, 48, 64]⟩
abbrev S4x4608x8x32 : Shape := ⟨4, ![4, 4608, 8, 32]⟩
abbrev S4x144x8 : Shape := ⟨3, ![4, 144, 8]⟩
abbrev S4x4608x8x64 : Shape := ⟨4, ![4, 4608, 8, 64]⟩
abbrev S4x144x8x64 : Shape := ⟨4, ![4, 144, 8, 64]⟩
abbrev S4x4608x8x6x32 : Shape := ⟨5, ![4, 4608, 8, 6, 32]⟩
abbrev S_ : Shape := ⟨0, ![]⟩
abbrev S4x36x8x6x64 : Shape := ⟨5, ![4, 36, 8, 6, 64]⟩
abbrev S4x8x4608x4608x6 : Shape := ⟨5, ![4, 8, 4608, 4608, 6]⟩
abbrev S4x8x6x4608x4608 : Shape := ⟨5, ![4, 8, 6, 4608, 4608]⟩
abbrev S4x36x8x6x32 : Shape := ⟨5, ![4, 36, 8, 6, 32]⟩
abbrev S4x8x4608x36x6 : Shape := ⟨5, ![4, 8, 4608, 36, 6]⟩
abbrev S4x8x6x36x4608 : Shape := ⟨5, ![4, 8, 6, 36, 4608]⟩
abbrev S4x144x32x48 : Shape := ⟨4, ![4, 144, 32, 48]⟩
abbrev S4x4608x48 : Shape := ⟨3, ![4, 4608, 48]⟩
abbrev S4x4608x8x6 : Shape := ⟨4, ![4, 4608, 8, 6]⟩
abbrev S4x8x6x4608 : Shape := ⟨4, ![4, 8, 6, 4608]⟩
abbrev S4x144x32x8 : Shape := ⟨4, ![4, 144, 32, 8]⟩
abbrev S4x4608x8 : Shape := ⟨3, ![4, 4608, 8]⟩
abbrev S4x8x4608 : Shape := ⟨3, ![4, 8, 4608]⟩
abbrev S4x8x1x1x4608 : Shape := ⟨5, ![4, 8, 1, 1, 4608]⟩
abbrev S4x8x6x4608x1 : Shape := ⟨5, ![4, 8, 6, 4608, 1]⟩
abbrev S4x8x6x36x128x4608 : Shape := ⟨6, ![4, 8, 6, 36, 128, 4608]⟩
abbrev S4608 : Shape := ⟨1, ![4608]⟩
abbrev S1x4608 : Shape := ⟨2, ![1, 4608]⟩
abbrev S4608x1 : Shape := ⟨2, ![4608, 1]⟩
abbrev S4608x4608 : Shape := ⟨2, ![4608, 4608]⟩
abbrev S884736x4608 : Shape := ⟨2, ![884736, 4608]⟩
abbrev S18432x512 : Shape := ⟨2, ![18432, 512]⟩
abbrev S4x144x32x8x64 : Shape := ⟨5, ![4, 144, 32, 8, 64]⟩
abbrev S4x144x1x8x64 : Shape := ⟨5, ![4, 144, 1, 8, 64]⟩
abbrev S4x8x6x4608x64 : Shape := ⟨5, ![4, 8, 6, 4608, 64]⟩
abbrev S4x4608x8x6x64 : Shape := ⟨5, ![4, 4608, 8, 6, 64]⟩
abbrev S4x4608x3072 : Shape := ⟨3, ![4, 4608, 3072]⟩

abbrev nBuf : Space → Nat
  | .hbm => 110
  | .vmem => 4
  | .smem => 0
  | _ => 0

abbrev bufTy : (tb : Table) → Fin (tcTables nBuf tb) → BufTy
  | .hbm, ⟨0, _⟩ => ⟨S4x4608x48x32, .i8⟩
  | .hbm, ⟨1, _⟩ => ⟨S4x144x48, .f32⟩
  | .hbm, ⟨2, _⟩ => ⟨S4x36x48x64, .bf16⟩
  | .hbm, ⟨3, _⟩ => ⟨S4x4608x8x32, .i8⟩
  | .hbm, ⟨4, _⟩ => ⟨S4x144x8, .f32⟩
  | .hbm, ⟨5, _⟩ => ⟨S4x4608x8x64, .fp8e4m3⟩
  | .hbm, ⟨6, _⟩ => ⟨S4x144x8x64, .f32⟩
  | .hbm, ⟨7, _⟩ => ⟨S4x4608x8x6x32, .i8⟩
  | .hbm, ⟨8, _⟩ => ⟨S4x4608x8x6x32, .i32⟩
  | .hbm, ⟨9, _⟩ => ⟨S_, .i32⟩
  | .hbm, ⟨10, _⟩ => ⟨S4x4608x8x6x32, .i32⟩
  | .hbm, ⟨11, _⟩ => ⟨S4x4608x8x6x32, .i32⟩
  | .hbm, ⟨12, _⟩ => ⟨S_, .i32⟩
  | .hbm, ⟨13, _⟩ => ⟨S4x4608x8x6x32, .i32⟩
  | .hbm, ⟨14, _⟩ => ⟨S4x4608x8x6x32, .i32⟩
  | .hbm, ⟨15, _⟩ => ⟨S_, .i32⟩
  | .hbm, ⟨16, _⟩ => ⟨S4x4608x8x6x32, .i32⟩
  | .hbm, ⟨17, _⟩ => ⟨S4x4608x8x6x32, .i32⟩
  | .hbm, ⟨18, _⟩ => ⟨S_, .i32⟩
  | .hbm, ⟨19, _⟩ => ⟨S4x4608x8x6x32, .i32⟩
  | .hbm, ⟨20, _⟩ => ⟨S4x4608x8x6x32, .i32⟩
  | .hbm, ⟨21, _⟩ => ⟨S4x4608x8x6x32, .bf16⟩
  | .hbm, ⟨22, _⟩ => ⟨S4x4608x8x6x32, .bf16⟩
  | .hbm, ⟨23, _⟩ => ⟨S4x4608x8x32, .i32⟩
  | .hbm, ⟨24, _⟩ => ⟨S_, .i32⟩
  | .hbm, ⟨25, _⟩ => ⟨S4x4608x8x32, .i32⟩
  | .hbm, ⟨26, _⟩ => ⟨S4x4608x8x32, .i32⟩
  | .hbm, ⟨27, _⟩ => ⟨S_, .i32⟩
  | .hbm, ⟨28, _⟩ => ⟨S4x4608x8x32, .i32⟩
  | .hbm, ⟨29, _⟩ => ⟨S4x4608x8x32, .i32⟩
  | .hbm, ⟨30, _⟩ => ⟨S_, .i32⟩
  | .hbm, ⟨31, _⟩ => ⟨S4x4608x8x32, .i32⟩
  | .hbm, ⟨32, _⟩ => ⟨S4x4608x8x32, .i32⟩
  | .hbm, ⟨33, _⟩ => ⟨S_, .i32⟩
  | .hbm, ⟨34, _⟩ => ⟨S4x4608x8x32, .i32⟩
  | .hbm, ⟨35, _⟩ => ⟨S4x4608x8x32, .i32⟩
  | .hbm, ⟨36, _⟩ => ⟨S4x4608x8x32, .bf16⟩
  | .hbm, ⟨37, _⟩ => ⟨S4x4608x8x32, .bf16⟩
  | .hbm, ⟨38, _⟩ => ⟨S4x36x8x6x64, .bf16⟩
  | .hbm, ⟨39, _⟩ => ⟨S4x8x4608x4608x6, .f32⟩
  | .hbm, ⟨40, _⟩ => ⟨S4x8x6x4608x4608, .f32⟩
  | .hbm, ⟨41, _⟩ => ⟨S4x8x4608x4608x6, .f32⟩
  | .hbm, ⟨42, _⟩ => ⟨S4x8x6x4608x4608, .f32⟩
  | .hbm, ⟨43, _⟩ => ⟨S4x8x6x4608x4608, .f32⟩
  | .hbm, ⟨44, _⟩ => ⟨S4x36x8x6x32, .bf16⟩
  | .hbm, ⟨45, _⟩ => ⟨S4x8x4608x36x6, .f32⟩
  | .hbm, ⟨46, _⟩ => ⟨S4x8x6x36x4608, .f32⟩
  | .hbm, ⟨47, _⟩ => ⟨S4x36x8x6x32, .bf16⟩
  | .hbm, ⟨48, _⟩ => ⟨S4x8x4608x36x6, .f32⟩
  | .hbm, ⟨49, _⟩ => ⟨S4x8x6x36x4608, .f32⟩
  | .hbm, ⟨50, _⟩ => ⟨S4x8x6x36x4608, .f32⟩
  | .hbm, ⟨51, _⟩ => ⟨S4x144x32x48, .f32⟩
  | .hbm, ⟨52, _⟩ => ⟨S4x4608x48, .f32⟩
  | .hbm, ⟨53, _⟩ => ⟨S4x4608x8x6, .f32⟩
  | .hbm, ⟨54, _⟩ => ⟨S4x8x6x4608, .f32⟩
  | .hbm, ⟨55, _⟩ => ⟨S4x144x32x8, .f32⟩
  | .hbm, ⟨56, _⟩ => ⟨S4x4608x8, .f32⟩
  | .hbm, ⟨57, _⟩ => ⟨S4x8x4608, .f32⟩
  | .hbm, ⟨58, _⟩ => ⟨S_, .f32⟩
  | .hbm, ⟨59, _⟩ => ⟨S4x8x4608, .f32⟩
  | .hbm, ⟨60, _⟩ => ⟨S4x8x4608, .f32⟩
  | .hbm, ⟨61, _⟩ => ⟨S4x8x1x1x4608, .f32⟩
  | .hbm, ⟨62, _⟩ => ⟨S4x8x6x4608x1, .f32⟩
  | .hbm, ⟨63, _⟩ => ⟨S4x8x6x4608x4608, .f32⟩
  | .hbm, ⟨64, _⟩ => ⟨S4x8x6x4608x4608, .f32⟩
  | .hbm, ⟨65, _⟩ => ⟨S4x8x6x36x128x4608, .f32⟩
  | .hbm, ⟨66, _⟩ => ⟨S4x8x6x4608x4608, .f32⟩
  | .hbm, ⟨67, _⟩ => ⟨S4x8x6x4608x4608, .f32⟩
  | .hbm, ⟨68, _⟩ => ⟨S4x8x6x4608x4608, .f32⟩
  | .hbm, ⟨69, _⟩ => ⟨S4x8x6x4608x4608, .f32⟩
  | .hbm, ⟨70, _⟩ => ⟨S4608, .i32⟩
  | .hbm, ⟨71, _⟩ => ⟨S1x4608, .i32⟩
  | .hbm, ⟨72, _⟩ => ⟨S4608x1, .i32⟩
  | .hbm, ⟨73, _⟩ => ⟨S4608x4608, .i32⟩
  | .hbm, ⟨74, _⟩ => ⟨S4608x4608, .i32⟩
  | .hbm, ⟨75, _⟩ => ⟨S4608x4608, .i1⟩
  | .hbm, ⟨76, _⟩ => ⟨S_, .f32⟩
  | .hbm, ⟨77, _⟩ => ⟨S_, .f32⟩
  | .hbm, ⟨78, _⟩ => ⟨S4x8x6x4608x4608, .i1⟩
  | .hbm, ⟨79, _⟩ => ⟨S4x8x6x4608x4608, .f32⟩
  | .hbm, ⟨80, _⟩ => ⟨S4x8x6x4608x4608, .f32⟩
  | .hbm, ⟨81, _⟩ => ⟨S_, .f32⟩
  | .hbm, ⟨82, _⟩ => ⟨S4x8x6x4608, .f32⟩
  | .hbm, ⟨83, _⟩ => ⟨S4x8x6x4608x1, .f32⟩
  | .hbm, ⟨84, _⟩ => ⟨S4x8x6x4608x4608, .f32⟩
  | .hbm, ⟨85, _⟩ => ⟨S4x8x6x4608x4608, .f32⟩
  | .hbm, ⟨86, _⟩ => ⟨S4x8x6x4608x4608, .f32⟩
  | .hbm, ⟨87, _⟩ => ⟨S_, .f32⟩
  | .hbm, ⟨88, _⟩ => ⟨S4x8x6x4608, .f32⟩
  | .hbm, ⟨89, _⟩ => ⟨S4x8x6x4608x1, .f32⟩
  | .hbm, ⟨90, _⟩ => ⟨S4x8x6x4608x4608, .f32⟩
  | .hbm, ⟨91, _⟩ => ⟨S4x8x6x4608x4608, .f32⟩
  | .hbm, ⟨92, _⟩ => ⟨S884736x4608, .f32⟩
  | .hbm, ⟨93, _⟩ => ⟨S18432x512, .fp8e4m3⟩
  | .hbm, ⟨94, _⟩ => ⟨S884736x4608, .bf16⟩
  | .hbm, ⟨95, _⟩ => ⟨S18432x512, .bf16⟩
  | .hbm, ⟨96, _⟩ => ⟨S4x144x32x8x64, .bf16⟩
  | .hbm, ⟨97, _⟩ => ⟨S4x144x8x64, .bf16⟩
  | .hbm, ⟨98, _⟩ => ⟨S4x144x1x8x64, .bf16⟩
  | .hbm, ⟨99, _⟩ => ⟨S4x144x32x8x64, .bf16⟩
  | .hbm, ⟨100, _⟩ => ⟨S4x144x32x8x64, .bf16⟩
  | .hbm, ⟨101, _⟩ => ⟨S4x4608x8x64, .bf16⟩
  | .hbm, ⟨102, _⟩ => ⟨S4x8x6x4608x4608, .bf16⟩
  | .hbm, ⟨103, _⟩ => ⟨S4x8x6x4608x64, .f32⟩
  | .hbm, ⟨104, _⟩ => ⟨S_, .f32⟩
  | .hbm, ⟨105, _⟩ => ⟨S4x8x6x4608x64, .f32⟩
  | .hbm, ⟨106, _⟩ => ⟨S4x8x6x4608x64, .f32⟩
  | .hbm, ⟨107, _⟩ => ⟨S4x8x6x4608x64, .bf16⟩
  | .hbm, ⟨108, _⟩ => ⟨S4x4608x8x6x64, .bf16⟩
  | .hbm, ⟨109, _⟩ => ⟨S4x4608x3072, .bf16⟩
  | .local _ .vmem, ⟨0, _⟩ => ⟨S884736x4608, .f32⟩
  | .local _ .vmem, ⟨1, _⟩ => ⟨S18432x512, .fp8e4m3⟩
  | .local _ .vmem, ⟨2, _⟩ => ⟨S884736x4608, .bf16⟩
  | .local _ .vmem, ⟨3, _⟩ => ⟨S18432x512, .bf16⟩
  | _, _ => ⟨S4x4608x48x32, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72_0 : Ref sig .tc := ⟨.hbm, 94, rfl⟩
abbrev main_v72_1 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_10 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S884736x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S884736x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelKit.lean ====
/- What the body's runs share: its branch, its staging memrefs, the scratch operands. -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 18) — by arithmetic of the point. -/
theorem hcond0_0 : ∀ t : Fin cfg0.N, cond0_0 (grid0.coords t) ↔ t.val % 18 = 0 :=
  (fun t => by
    have ht : t.val < 576 := Nat.lt_of_lt_of_eq t.isLt N_0
    have e0 : (grid0.coords t 0).val = t.val / 144 % 4 := Pipeline.Grid.coords_val t 0 (by decide) rfl
    have e1 : (grid0.coords t 1).val = t.val / 18 % 8 := Pipeline.Grid.coords_val t 1 (by decide) rfl
    have e2 : (grid0.coords t 2).val = t.val / 1 % 18 := Pipeline.Grid.coords_val t 2 (by decide) rfl
    simp only [cond0_0, k0_cond1, e0, e1, e2]
    word_cmp
   : ∀ t : Fin grid0.N, cond0_0 (grid0.coords t) ↔ t.val % 18 = 0)

/-! ## The kernel body on any staging memrefs: a subtype the run finds -/

/-- One staging buffer of output window 7, through which its contents are stated (`View.read_writes_of_cover`: the
    choice does not matter). -/
abbrev VO0_7 : View sig .tc .vmem S1x256x384 .bf16 := (Memref.whole cc0_stg7_0 : Memref sig .tc .vmem S1x256x384 .bf16).view
/-- Each window's current staging memref at point `t`, spelled as the pipeline passes it (`bodyAt0`), and its wholeness. -/
abbrev ms0_0 (t : Fin cfg0.N) : Memref sig .tc .smem S32x144 .f32 := win0_0.stage (cfg0.slots t 0)
/-- Window 0 is staged whole. -/
abbrev hs0_0 (t : Fin cfg0.N) : (ms0_0 t).IsWhole := hstage0_0 ((cfg0.slots t 0).cast nbuf0_0)
/-- The staged block of window 1. -/
abbrev ms0_1 (t : Fin cfg0.N) : Memref sig .tc .vmem S1x1x192x256 .i8 := win0_1.stage (cfg0.slots t 1)
/-- Window 1 is staged whole. -/
abbrev hs0_1 (t : Fin cfg0.N) : (ms0_1 t).IsWhole := hstage0_1 ((cfg0.slots t 1).cast nbuf0_1)
/-- The staged block of window 2. -/
abbrev ms0_2 (t : Fin cfg0.N) : Memref sig .tc .vmem S1x1x6x256 .f32 := win0_2.stage (cfg0.slots t 2)
/-- Window 2 is staged whole. -/
abbrev hs0_2 (t : Fin cfg0.N) : (ms0_2 t).IsWhole := hstage0_2 ((cfg0.slots t 2).cast nbuf0_2)
/-- The staged block of window 3. -/
abbrev ms0_3 (t : Fin cfg0.N) : Memref sig .tc .vmem S1x1x384x128 .bf16 := win0_3.stage (cfg0.slots t 3)
/-- Window 3 is staged whole. -/
abbrev hs0_3 (t : Fin cfg0.N) : (ms0_3 t).IsWhole := hstage0_3 ((cfg0.slots t 3).cast nbuf0_3)
/-- The staged block of window 4. -/
abbrev ms0_4 (t : Fin cfg0.N) : Memref sig .tc .vmem S1x1x4608x128 .i8 := win0_4.stage (cfg0.slots t 4)
/-- Window 4 is staged whole. -/
abbrev hs0_4 (t : Fin cfg0.N) : (ms0_4 t).IsWhole := hstage0_4 ((cfg0.slots t 4).cast nbuf0_4)
/-- The staged block of window 5. -/
abbrev ms0_5 (t : Fin cfg0.N) : Memref sig .tc .vmem S1x1x64x4608 .fp8e4m3 := win0_5.stage (cfg0.slots t 5)
/-- Window 5 is staged whole. -/
abbrev hs0_5 (t : Fin cfg0.N) : (ms0_5 t).IsWhole := hstage0_5 ((cfg0.slots t 5).cast nbuf0_5)
/-- The staged block of window 6. -/
abbrev ms0_6 (t : Fin cfg0.N) : Memref sig .tc .vmem S1x1x64x256 .f32 := win0_6.stage (cfg0.slots t 6)
/-- Window 6 is staged whole. -/
abbrev hs0_6 (t : Fin cfg0.N) : (ms0_6 t).IsWhole := hstage0_6 ((cfg0.slots t 6).cast nbuf0_6)
/-- The staged block of window 7. -/
abbrev ms0_7 (t : Fin cfg0.N) : Memref sig .tc .vmem S1x256x384 .bf16 := win0_7.stage (cfg0.slots t 7)
/-- Window 7 is staged whole. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4608x128 .bf16 := Memref.whole cc0_scratch0
/-- Scratch array 1. -/
abbrev scM0_1 : Memref sig .tc .vmem S64x4608 .bf16 := Memref.whole cc0_scratch1
/-- Scratch array 2. -/
abbrev scM0_2 : Memref sig .tc .vmem S256x512 .bf16 := Memref.whole cc0_scratch2
/-- Scratch array 3. -/
abbrev scM0_3 : Memref sig .tc .vmem S4608x512 .f32 := Memref.whole cc0_scratch3
/-- The scratch `arg11` the kernel carries between points, as a view: what it holds is stated through it. -/
abbrev VS0_0 : View sig .tc .vmem S4608x128 .bf16 := scM0_0.view
/-- The scratch `arg12` the kernel carries between points, as a view: what it holds is stated through it. -/
abbrev VS0_1 : View sig .tc .vmem S64x4608 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KernelRunA.lean ====
/- The kernel body's run at a first query block (the scratch arrays filled there). -/
module

public import proofs.«01_k».proof.Proof.KernelKit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 9000000 in
/-- What the body stores at a first query block, as pieces (last first) of the output block and of the two filled
    scratch arrays, with the run that leaves them. The first scratch array and the stash enter at `ds0` and
    `ds3`, whatever these are. -/
noncomputable def kernelRun0_A (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (hc0 : cond0_0 i)
    (x0 : Vec F S32x144 .f32) (x1 : Vec F S1x1x192x256 .i8) (x2 : Vec F S1x1x6x256 .f32) (x3 : Vec F S1x1x384x128 .bf16) (x4 : Vec F S1x1x4608x128 .i8) (x5 : Vec F S1x1x64x4608 .fp8e4m3) (x6 : Vec F S1x1x64x256 .f32) (ds0 : Vec F S4608x128 .bf16) (ds3 : Vec F S4608x512 .f32) :
    Σ' (L7 : List (View.Piece (Elt F) S1x256x384 .bf16)), Σ' (LS0 : List (View.Piece (Elt F) S4608x128 .bf16)), { LS1 : List (View.Piece (Elt F) S64x4608 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare ds0 ∗ (∃ d, owns (c : Thread nD τ) arg12 fullShare d) ∗ (∃ d, owns (c : Thread nD τ) arg13 fullShare d) ∗ owns (c : Thread nD τ) arg14 fullShare ds3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ d, owns (c : Thread nD τ) arg13 fullShare d) ∗ (∃ d, owns (c : Thread nD τ) arg14 fullShare d)) -∗ K ⟨⟩))
          ⊢ wp frame (wpE (defs₀ (F := F)) Variants.none c none) E (cc0_sage_attention i arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    obtain rfl := harg11.eq_unread hfs0; obtain rfl := harg14.eq_unread hfs3
    let prep := loopInv_k0_t1 (F := F) Variants.none c none E i arg3 harg3 arg4 harg4 arg5 harg5 arg6 harg6 arg7 harg7 arg8 harg8 arg9 harg9 arg10 harg10 arg11 harg11 arg12 harg12 arg13 harg13 arg14 harg14 hc0 (harg7.unread x4) (harg11.unread ds0)
    sl_exec_parts (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

end Cert.Kernel.Gen

end
-- ==== Proof.KernelRunB.lean ====
/- The kernel body's run at a later query block (the filled scratch arrays read). -/
module

public import proofs.«01_k».proof.Proof.KernelKit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 9000000 in
/-- What the body stores at a later query block, as pieces (last first) of the output block, with the run that leaves
    them. The filled scratch arrays enter at `xs0`, `xs1`, the stash at `ds3`, whatever that is. -/
noncomputable def kernelRun0_B (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (hc0 : ¬cond0_0 i)
    (x0 : Vec F S32x144 .f32) (x1 : Vec F S1x1x192x256 .i8) (x2 : Vec F S1x1x6x256 .f32) (x3 : Vec F S1x1x384x128 .bf16) (x4 : Vec F S1x1x4608x128 .i8) (x5 : Vec F S1x1x64x4608 .fp8e4m3) (x6 : Vec F S1x1x64x256 .f32) (ds3 : Vec F S4608x512 .f32) (xs0 : Vec F S4608x128 .bf16) (xs1 : Vec F S64x4608 .bf16) :
    Σ' (L7 : List (View.Piece (Elt F) S1x256x384 .bf16)), Σ' (LS0 : List (View.Piece (Elt F) S4608x128 .bf16)), { LS1 : List (View.Piece (Elt F) S64x4608 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ (∃ d, owns (c : Thread nD τ) arg13 fullShare d) ∗ owns (c : Thread nD τ) arg14 fullShare ds3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ (∃ d, owns (c : Thread nD τ) arg13 fullShare d) ∗ (∃ d, owns (c : Thread nD τ) arg14 fullShare d)) -∗ K ⟨⟩))
          ⊢ wp frame (wpE (defs₀ (F := F)) Variants.none c none) E (cc0_sage_attention i arg3 harg3 arg4 harg4 arg5 harg5 arg6 harg6 arg7 harg7 arg8 harg8 arg9 harg9 arg10 harg10 arg11 harg11 arg12 harg12 arg13 harg13 arg14 harg14) K } := by
  refine ⟨?_, [], [], fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%ds2, %fs2, -, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    obtain rfl := harg14.eq_unread hfs3
    sl_exec_parts (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]
    · iexists _, _; isplitr; swap; · iexact HS2
      ipureintro; rfl
    iexists _, _; isplitr; swap; · iexact HS3
    ipureintro; rfl

end Cert.Kernel.Gen

end
-- ==== Proof.KernelFrame.lean ====
/- The frame: every execution ends, the arguments as they were. Nothing is said of the output block. -/
module

public import proofs.«01_k».proof.Proof.KernelRunA
public import proofs.«01_k».proof.Proof.KernelRunB

@[expose] public section

-- membership in a rectangle of production extents (`View.cover_of_tiled`): the elaborator's structural look
-- recurses once per coordinate of the long axes
set_option maxRecDepth 16384

noncomputable section

namespace Cert.Kernel.Gen.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data: every input at its block, the output and the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed _ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 0 holds before a point. -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d
/-- The forgotten window: the output. -/
def fgt : Fin cfg0.W → Bool := fun w => w == (7 : Fin 8)
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ X, owns (c : Thread nD τ) (ms0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, owns (c : Thread nD τ) (ms0_7 t) fullShare X))

set_option maxHeartbeats 9600000 in
/-- The body at any point, from any scratch contents and any output block, leaves the inputs' blocks as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = Pipeline.ΦA spec0 c from rfl, show (dats m 0 c).Φ t.castSucc = Pipeline.ΦA spec0 c from rfl, PhiA0_eq]
  by_cases h0 : t.val % 18 = 0
  · skip
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    icases HS3 with ⟨%ds3, HS3⟩
    icases HS0 with ⟨%ds0, HS0⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) ds0 ds3).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, ⟨%g7, H7⟩, ⟨%g0, HS0⟩, ⟨%g1, HS1⟩, HS2, HS3⟩
    isplitl [HS0 HS1 HS2 HS3 Hg]
    · isplitl [HS0 HS1 HS2 HS3]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; unfold owns; iexists _; isplitr
    swap; · iexact H7
    ipureintro; rfl
  · skip
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    icases HS3 with ⟨%ds3, HS3⟩
    icases HS0 with ⟨%xs0, HS0⟩
    icases HS1 with ⟨%xs1, HS1⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) ds3 xs0 xs1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, ⟨%g7, H7⟩, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; unfold owns; iexists _; isplitr
    swap; · iexact H7
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the output window forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every execution ends, the arrays but the output's as the proof data say, the counters at zero. -/
theorem run_main_quiescent : θ_run defs (onTc (τ := τ) (main (F := F))) (s₀ m ρ)
    (fun r => (Pipeline.RDat.FramePost (cfgs 0) (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩)
    (run_main_quiescent m ρ)

end Cert.Kernel.Gen.Forget

end
-- ==== Proof.KernelIdealKit.lean ====
/- What the body's runs share: its branch, its staging memrefs, the scratch operands. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 18) — by arithmetic of the point. -/
theorem hcond0_0 : ∀ t : Fin cfg0.N, cond0_0 (grid0.coords t) ↔ t.val % 18 = 0 :=
  (fun t => by
    have ht : t.val < 576 := Nat.lt_of_lt_of_eq t.isLt N_0
    have e0 : (grid0.coords t 0).val = t.val / 144 % 4 := Pipeline.Grid.coords_val t 0 (by decide) rfl
    have e1 : (grid0.coords t 1).val = t.val / 18 % 8 := Pipeline.Grid.coords_val t 1 (by decide) rfl
    have e2 : (grid0.coords t 2).val = t.val / 1 % 18 := Pipeline.Grid.coords_val t 2 (by decide) rfl
    simp only [cond0_0, k0_cond1, e0, e1, e2]
    word_cmp
   : ∀ t : Fin grid0.N, cond0_0 (grid0.coords t) ↔ t.val % 18 = 0)

/-! ## The kernel body on any staging memrefs: a subtype the run finds -/

/-- One staging buffer of output window 7, through which its contents are stated (`View.read_writes_of_cover`: the
    choice does not matter). -/
abbrev VO0_7 : View sig .tc .vmem S1x256x384 .bf16 := (Memref.whole cc0_stg7_0 : Memref sig .tc .vmem S1x256x384 .bf16).view
/-- Each window's current staging memref at point `t`, spelled as the pipeline passes it (`bodyAt0`), and its wholeness. -/
abbrev ms0_0 (t : Fin cfg0.N) : Memref sig .tc .smem S32x144 .f32 := win0_0.stage (cfg0.slots t 0)
/-- Window 0 is staged whole. -/
abbrev hs0_0 (t : Fin cfg0.N) : (ms0_0 t).IsWhole := hstage0_0 ((cfg0.slots t 0).cast nbuf0_0)
/-- The staged block of window 1. -/
abbrev ms0_1 (t : Fin cfg0.N) : Memref sig .tc .vmem S1x1x192x256 .i8 := win0_1.stage (cfg0.slots t 1)
/-- Window 1 is staged whole. -/
abbrev hs0_1 (t : Fin cfg0.N) : (ms0_1 t).IsWhole := hstage0_1 ((cfg0.slots t 1).cast nbuf0_1)
/-- The staged block of window 2. -/
abbrev ms0_2 (t : Fin cfg0.N) : Memref sig .tc .vmem S1x1x6x256 .f32 := win0_2.stage (cfg0.slots t 2)
/-- Window 2 is staged whole. -/
abbrev hs0_2 (t : Fin cfg0.N) : (ms0_2 t).IsWhole := hstage0_2 ((cfg0.slots t 2).cast nbuf0_2)
/-- The staged block of window 3. -/
abbrev ms0_3 (t : Fin cfg0.N) : Memref sig .tc .vmem S1x1x384x128 .bf16 := win0_3.stage (cfg0.slots t 3)
/-- Window 3 is staged whole. -/
abbrev hs0_3 (t : Fin cfg0.N) : (ms0_3 t).IsWhole := hstage0_3 ((cfg0.slots t 3).cast nbuf0_3)
/-- The staged block of window 4. -/
abbrev ms0_4 (t : Fin cfg0.N) : Memref sig .tc .vmem S1x1x4608x128 .i8 := win0_4.stage (cfg0.slots t 4)
/-- Window 4 is staged whole. -/
abbrev hs0_4 (t : Fin cfg0.N) : (ms0_4 t).IsWhole := hstage0_4 ((cfg0.slots t 4).cast nbuf0_4)
/-- The staged block of window 5. -/
abbrev ms0_5 (t : Fin cfg0.N) : Memref sig .tc .vmem S1x1x64x4608 .fp8e4m3 := win0_5.stage (cfg0.slots t 5)
/-- Window 5 is staged whole. -/
abbrev hs0_5 (t : Fin cfg0.N) : (ms0_5 t).IsWhole := hstage0_5 ((cfg0.slots t 5).cast nbuf0_5)
/-- The staged block of window 6. -/
abbrev ms0_6 (t : Fin cfg0.N) : Memref sig .tc .vmem S1x1x64x256 .f32 := win0_6.stage (cfg0.slots t 6)
/-- Window 6 is staged whole. -/
abbrev hs0_6 (t : Fin cfg0.N) : (ms0_6 t).IsWhole := hstage0_6 ((cfg0.slots t 6).cast nbuf0_6)
/-- The staged block of window 7. -/
abbrev ms0_7 (t : Fin cfg0.N) : Memref sig .tc .vmem S1x256x384 .bf16 := win0_7.stage (cfg0.slots t 7)
/-- Window 7 is staged whole. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4608x128 .bf16 := Memref.whole cc0_scratch0
/-- Scratch array 1. -/
abbrev scM0_1 : Memref sig .tc .vmem S64x4608 .bf16 := Memref.whole cc0_scratch1
/-- Scratch array 2. -/
abbrev scM0_2 : Memref sig .tc .vmem S256x512 .bf16 := Memref.whole cc0_scratch2
/-- Scratch array 3. -/
abbrev scM0_3 : Memref sig .tc .vmem S4608x512 .f32 := Memref.whole cc0_scratch3
/-- The scratch `arg11` the kernel carries between points, as a view: what it holds is stated through it. -/
abbrev VS0_0 : View sig .tc .vmem S4608x128 .bf16 := scM0_0.view
/-- The scratch `arg12` the kernel carries between points, as a view: what it holds is stated through it. -/
abbrev VS0_1 : View sig .tc .vmem S64x4608 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KernelIdealRunA.lean ====
/- The kernel body's run at a first query block (the scratch arrays filled there). -/
module

public import proofs.«01_k».proof.Proof.KernelIdealKit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 9000000 in
/-- What the body stores at a first query block, as pieces (last first) of the output block and of the two filled
    scratch arrays, with the run that leaves them. The first scratch array and the stash enter at `ds0` and
    `ds3`, whatever these are. -/
noncomputable def kernelRun0_A (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (hc0 : cond0_0 i)
    (x0 : Vec F S32x144 .f32) (x1 : Vec F S1x1x192x256 .i8) (x2 : Vec F S1x1x6x256 .f32) (x3 : Vec F S1x1x384x128 .bf16) (x4 : Vec F S1x1x4608x128 .i8) (x5 : Vec F S1x1x64x4608 .fp8e4m3) (x6 : Vec F S1x1x64x256 .f32) (ds0 : Vec F S4608x128 .bf16) (ds3 : Vec F S4608x512 .f32) :
    Σ' (L7 : List (View.Piece (Elt F) S1x256x384 .bf16)), Σ' (LS0 : List (View.Piece (Elt F) S4608x128 .bf16)), { LS1 : List (View.Piece (Elt F) S64x4608 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare ds0 ∗ (∃ d, owns (c : Thread nD τ) arg12 fullShare d) ∗ (∃ d, owns (c : Thread nD τ) arg13 fullShare d) ∗ owns (c : Thread nD τ) arg14 fullShare ds3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ d, owns (c : Thread nD τ) arg13 fullShare d) ∗ (∃ d, owns (c : Thread nD τ) arg14 fullShare d)) -∗ K ⟨⟩))
          ⊢ wp frame (wpE (defs₀ (F := F)) Variants.none c none) E (cc0_sage_attention i arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    obtain rfl := harg11.eq_unread hfs0; obtain rfl := harg14.eq_unread hfs3
    let prep := loopInv_k0_t1 (F := F) Variants.none c none E i arg3 harg3 arg4 harg4 arg5 harg5 arg6 harg6 arg7 harg7 arg8 harg8 arg9 harg9 arg10 harg10 arg11 harg11 arg12 harg12 arg13 harg13 arg14 harg14 hc0 (harg7.unread x4) (harg11.unread ds0)
    sl_exec_parts (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

end Cert.KernelIdeal.Gen

end
-- ==== Proof.KernelIdealRunB.lean ====
/- The kernel body's run at a later query block (the filled scratch arrays read). -/
module

public import proofs.«01_k».proof.Proof.KernelIdealKit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 9000000 in
/-- What the body stores at a later query block, as pieces (last first) of the output block, with the run that leaves
    them. The filled scratch arrays enter at `xs0`, `xs1`, the stash at `ds3`, whatever that is. -/
noncomputable def kernelRun0_B (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (hc0 : ¬cond0_0 i)
    (x0 : Vec F S32x144 .f32) (x1 : Vec F S1x1x192x256 .i8) (x2 : Vec F S1x1x6x256 .f32) (x3 : Vec F S1x1x384x128 .bf16) (x4 : Vec F S1x1x4608x128 .i8) (x5 : Vec F S1x1x64x4608 .fp8e4m3) (x6 : Vec F S1x1x64x256 .f32) (ds3 : Vec F S4608x512 .f32) (xs0 : Vec F S4608x128 .bf16) (xs1 : Vec F S64x4608 .bf16) :
    Σ' (L7 : List (View.Piece (Elt F) S1x256x384 .bf16)), Σ' (LS0 : List (View.Piece (Elt F) S4608x128 .bf16)), { LS1 : List (View.Piece (Elt F) S64x4608 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ (∃ d, owns (c : Thread nD τ) arg13 fullShare d) ∗ owns (c : Thread nD τ) arg14 fullShare ds3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ (∃ d, owns (c : Thread nD τ) arg13 fullShare d) ∗ (∃ d, owns (c : Thread nD τ) arg14 fullShare d)) -∗ K ⟨⟩))
          ⊢ wp frame (wpE (defs₀ (F := F)) Variants.none c none) E (cc0_sage_attention i arg3 harg3 arg4 harg4 arg5 harg5 arg6 harg6 arg7 harg7 arg8 harg8 arg9 harg9 arg10 harg10 arg11 harg11 arg12 harg12 arg13 harg13 arg14 harg14) K } := by
  refine ⟨?_, [], [], fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%ds2, %fs2, -, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    obtain rfl := harg14.eq_unread hfs3
    sl_exec_parts (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]
    · iexists _, _; isplitr; swap; · iexact HS2
      ipureintro; rfl
    iexists _, _; isplitr; swap; · iexact HS3
    ipureintro; rfl

end Cert.KernelIdeal.Gen

end
-- ==== Proof.KernelIdealFrame.lean ====
/- The frame: every execution ends, the arguments as they were. Nothing is said of the output block. -/
module

public import proofs.«01_k».proof.Proof.KernelIdealRunA
public import proofs.«01_k».proof.Proof.KernelIdealRunB

@[expose] public section

-- membership in a rectangle of production extents (`View.cover_of_tiled`): the elaborator's structural look
-- recurses once per coordinate of the long axes
set_option maxRecDepth 16384

noncomputable section

namespace Cert.KernelIdeal.Gen.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: every input at its block, the output and the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed _ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 0 holds before a point. -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d
/-- The forgotten window: the output. -/
def fgt : Fin cfg0.W → Bool := fun w => w == (7 : Fin 8)
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ X, owns (c : Thread nD τ) (ms0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, owns (c : Thread nD τ) (ms0_7 t) fullShare X))

set_option maxHeartbeats 9600000 in
/-- The body at any point, from any scratch contents and any output block, leaves the inputs' blocks as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = Pipeline.ΦA spec0 c from rfl, show (dats m 0 c).Φ t.castSucc = Pipeline.ΦA spec0 c from rfl, PhiA0_eq]
  by_cases h0 : t.val % 18 = 0
  · skip
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    icases HS3 with ⟨%ds3, HS3⟩
    icases HS0 with ⟨%ds0, HS0⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) ds0 ds3).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, ⟨%g7, H7⟩, ⟨%g0, HS0⟩, ⟨%g1, HS1⟩, HS2, HS3⟩
    isplitl [HS0 HS1 HS2 HS3 Hg]
    · isplitl [HS0 HS1 HS2 HS3]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; unfold owns; iexists _; isplitr
    swap; · iexact H7
    ipureintro; rfl
  · skip
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    icases HS3 with ⟨%ds3, HS3⟩
    icases HS0 with ⟨%xs0, HS0⟩
    icases HS1 with ⟨%xs1, HS1⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) ds3 xs0 xs1).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, ⟨%g7, H7⟩, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; unfold owns; iexists _; isplitr
    swap; · iexact H7
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the output window forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every execution ends, the arrays but the output's as the proof data say, the counters at zero. -/
theorem run_main_quiescent : θ_run defs (onTc (τ := τ) (main (F := F))) (s₀ m ρ)
    (fun r => (Pipeline.RDat.FramePost (cfgs 0) (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩)
    (run_main_quiescent m ρ)

end Cert.KernelIdeal.Gen.Forget

end
-- ==== Proof.RefIdealValue.lean ====
/- The reference's result at an index, over the extended reals. -/
module
public import proofs.«01_k».proof.Proof.Gen.RefIdeal.Frame
public import Idealize.ShloMosaic.Lib.Pointwise
public import Idealize.ShloMosaic.Lib.Claim
public import Idealize.ShloMosaic.Lib.Pointwise.Sums
public import Idealize.ShloMosaic.Lib.Pipeline.ValueKit
public import Idealize.ShloMosaic.Lib.StableHlo.RunRead
@[expose] public section
set_option maxRecDepth 16384
noncomputable section
open Idealize.ShloMosaic Idealize.ShloMosaic.TcCoe Idealize.SL.Sem
namespace Cert.RefIdeal.Gen.Sem
open Cert.RefIdeal Cert.RefIdeal.Gen
variable (m : (ℓ : Loc nD τ sig) → Buf (Elt Ideal) ℓ) (c : Dev nD)

/-- The low nibble of a code byte, signed. -/
def loR (w : BitVec 8) : EReal := FloatOps.sitofp (F := Ideal) .bf16 (IntOp.shrsi .host (IntOp.shli .host (BitVec.setWidth 32 w) 28#32) 28#32)
/-- The high nibble of a code byte, signed. -/
def hiR (w : BitVec 8) : EReal := FloatOps.sitofp (F := Ideal) .bf16 (IntOp.shrsi .host (IntOp.shli .host (BitVec.setWidth 32 w) 24#32) 28#32)

/-- The unmasked score, from one key row, one query row, the scales and the mean. -/
def scoreR (k q : Fin 32 → BitVec 8) (sk sq : EReal) (mean : Fin 64 → EReal) : EReal :=
  (Ideal.ofBits .f32 1040187392#32 * sk) *
    (sq * ((∑ x, loR (k x) * loR (q x)) + ∑ x, hiR (k x) * hiR (q x))
      + ((∑ x : Fin 32, loR (k x) * mean ⟨2 * x.val, by omega⟩) + ∑ x : Fin 32, hiR (k x) * mean ⟨1 + 2 * x.val, by omega⟩))

/-- The reference's unmasked score at an index. -/
theorem v53_at (b : Fin 4) (g : Fin 8) (h : Fin 6) (q s : Fin 4608) :
    @Eq EReal ((V m c main_v53 : Vec Ideal S4x8x6x4608x4608 .f32) (ix5 b g h q s))
      (scoreR (fun x => (m ((c.tc : Thread nD τ).loc main_arg3) : Vec Ideal S4x4608x8x32 .i8) (ix4 b s g x)) (fun x => (m ((c.tc : Thread nD τ).loc main_arg0) : Vec Ideal S4x4608x48x32 .i8) (ix4 b q ⟨g.val * 6 + h.val, by omega⟩ x))
        ((m ((c.tc : Thread nD τ).loc main_arg4) : Vec Ideal S4x144x8 .f32) (ix3 b ⟨s.val / 32, by omega⟩ g)) ((m ((c.tc : Thread nD τ).loc main_arg1) : Vec Ideal S4x144x48 .f32) (ix3 b ⟨q.val / 32, by omega⟩ ⟨g.val * 6 + h.val, by omega⟩))
        (fun d => (m ((c.tc : Thread nD τ).loc main_arg2) : Vec Ideal S4x36x48x64 .bf16) (ix4 b ⟨q.val / 128, by omega⟩ ⟨g.val * 6 + h.val, by omega⟩ d))) := by
  simp only [V, V0, hostOps0, hostOps0_1, hostOps0_2, List.flatten_cons, List.flatten_nil, List.append_nil, List.cons_append, List.nil_append]
  after_reads_simp
  refine Eq.trans (b := ?_) ?_ ?_
  rotate_left
  · pointwise
    rfl
  · rfl
/-- The causal mask on the scores. -/
def mskOf (x : FVec Ideal S4x8x6x4608x4608 .f32) : FVec Ideal S4x8x6x4608x4608 .f32 :=
  select (broadcastInDim S4x8x6x4608x4608 ![3, 4] bcast_S4608x4608_S4x8x6x4608x4608_3_4 (cmpi CmpIPredicate.sgt
     (broadcastInDim S4608x4608 ![0, 1] bcast_S1x4608_S4608x4608_0_1 (broadcastInDim S1x4608 ![1] bcast_S4608_S1x4608_1 (iotaInDim S4608 32 0)))
     (broadcastInDim S4608x4608 ![0, 1] bcast_S4608x1_S4608x4608_0_1 (broadcastInDim S4608x1 ![0] bcast_S4608_S4608x1_0 (iotaInDim S4608 32 0)))))
    (broadcastInDim S4x8x6x4608x4608 ![] bcast_S_S4x8x6x4608x4608 (constant S_ FTy.f32 4286578688#32)) x
/-- The masked scores at an index. -/
theorem msk_at (x : FVec Ideal S4x8x6x4608x4608 .f32) (b : Fin 4) (g : Fin 8) (h : Fin 6) (q s : Fin 4608) : @Eq EReal (mskOf x (ix5 b g h q s)) (Scalar.select (IntOp.cmpi .sgt (BitVec.ofNat 32 s.val) (BitVec.ofNat 32 q.val)) (Ideal.ofBits .f32 4286578688#32) (x (ix5 b g h q s))) := by
  pointwise [mskOf]
set_option maxHeartbeats 2000000 in
/-- The masked scores are the mask on the scores. -/
theorem v60_eq : (V m c main_v60 : Vec Ideal S4x8x6x4608x4608 .f32) = mskOf (V m c main_v53) := by
  simp only [V, V0, hostOps0, hostOps0_1, hostOps0_2, List.flatten_cons, List.flatten_nil, List.append_nil, List.cons_append, List.nil_append]
  after_reads_simp
  rfl
/-- The row maximum, repeated over the row. -/
def mxOf (x : FVec Ideal S4x8x6x4608x4608 .f32) : FVec Ideal S4x8x6x4608x4608 .f32 :=
  broadcastInDim S4x8x6x4608x4608 ![0, 1, 2, 3, 4] bcast_S4x8x6x4608x1_S4x8x6x4608x4608_0_1_2_3_4 (broadcastInDim S4x8x6x4608x1 ![0, 1, 2, 3] bcast_S4x8x6x4608_S4x8x6x4608x1_0_1_2_3
    (Host.reduce FloatOps.maximumf x (constant S_ .f32 0xFF800000#32) reducesTo_S4x8x6x4608x4608_S4x8x6x4608_d4 h_S_))
/-- The exponentials of the scores less the row maximum. -/
def expOf (x : FVec Ideal S4x8x6x4608x4608 .f32) : FVec Ideal S4x8x6x4608x4608 .f32 := Host.exp (subf x (mxOf x))
/-- The exponentials over their row sum. -/
def pOf (e : FVec Ideal S4x8x6x4608x4608 .f32) : FVec Ideal S4x8x6x4608x4608 .f32 :=
  Host.divf e (broadcastInDim S4x8x6x4608x4608 ![0, 1, 2, 3, 4] bcast_S4x8x6x4608x1_S4x8x6x4608x4608_0_1_2_3_4 (broadcastInDim S4x8x6x4608x1 ![0, 1, 2, 3] bcast_S4x8x6x4608_S4x8x6x4608x1_0_1_2_3
    (Host.reduceAdd e (constant S_ .f32 0x00000000#32) reducesTo_S4x8x6x4608x4608_S4x8x6x4608_d4 h_S_)))

set_option maxHeartbeats 4000000 in
/-- The region reads the probabilities, rows flattened. -/
theorem v70_eq : (V m c main_v70 : Vec Ideal S884736x4608 .f32) = shapeCast S884736x4608 (pOf (expOf (V m c main_v60))) shapeCasts_S4x8x6x4608x4608_S884736x4608 := by
  simp only [V, V0, hostOps0, hostOps0_1, hostOps0_2, List.flatten_cons, List.flatten_nil, List.append_nil, List.cons_append, List.nil_append]
  after_reads_simp
  rfl
/-- The region's value codes at an index. -/
theorem v71_at (b : Fin 4) (g : Fin 8) (s : Fin 4608) (d : Fin 64) : (V m c main_v71 : Vec Ideal S18432x512 .fp8e4m3) (ix2 ⟨b.val*4608+s.val, by omega⟩ ⟨g.val*64+d.val, by omega⟩) = (m ((c.tc : Thread nD τ).loc main_arg5) : Vec Ideal S4x4608x8x64 .fp8e4m3) (ix4 b s g d) := by
  simp only [V, V0, hostOps0, hostOps0_1, hostOps0_2, List.flatten_cons, List.flatten_nil, List.append_nil, List.cons_append, List.nil_append]
  after_reads_simp
  pointwise

/-- What the reference does after its region, on the region's two outputs and the value scales. -/
def tailOf (Y : FVec Ideal S884736x4608 .bf16) (W : FVec Ideal S18432x512 .bf16) (x6 : FVec Ideal S4x144x8x64 .f32) : FVec Ideal S4x4608x3072 .bf16 :=
  shapeCast S4x4608x3072 (transpose S4x4608x8x6x64 [0, 3, 1, 2, 4] (truncf FTy.bf16 (mulf
            (Host.dotGeneral dot_S4x8x6x4608x4608_S4x4608x8x64_S4x8x6x4608x64_4_1_23_3_01_02 none
              (shapeCast S4x8x6x4608x4608 Y shapeCasts_S884736x4608_S4x8x6x4608x4608)
              (shapeCast S4x4608x8x64 (mulf (shapeCast S4x144x32x8x64 W shapeCasts_S18432x512_S4x144x32x8x64)
                  (broadcastInDim S4x144x32x8x64 ![0, 1, 2, 3, 4] bcast_S4x144x1x8x64_S4x144x32x8x64_0_1_2_3_4
                    (broadcastInDim S4x144x1x8x64 ![0, 1, 3, 4] bcast_S4x144x8x64_S4x144x1x8x64_0_1_3_4 (truncf FTy.bf16 x6 bitsLt_bf16_f32))))
                shapeCasts_S4x144x32x8x64_S4x4608x8x64))
            (broadcastInDim S4x8x6x4608x64 ![] bcast_S_S4x8x6x4608x64 (constant S_ FTy.f32 998244352#32))) bitsLt_bf16_f32)
        transposes_S4x8x6x4608x64_S4x4608x8x6x64_0_3_1_2_4) shapeCasts_S4x4608x8x6x64_S4x4608x3072
/-- The result at an index, before the key number is put together. -/
theorem tail_raw (Y : FVec Ideal S884736x4608 .bf16) (W : FVec Ideal S18432x512 .bf16) (x6 : FVec Ideal S4x144x8x64 .f32) (b : Fin 4) (q : Fin 4608) (h : Fin 3072) :
    @Eq EReal (tailOf Y W x6 (ix3 b q h))
      ((∑ x : Fin 4608, Y (ix2 ⟨b.val * 221184 + h.val / 384 * 27648 + h.val / 64 % 6 * 4608 + q.val, by omega⟩ x) *
          (W (ix2 ⟨b.val * 4608 + x.val / 32 * 32 + x.val % 32, by omega⟩ ⟨h.val / 384 * 64 + h.val % 64, by omega⟩) *
            x6 (ix4 b ⟨x.val / 32, by omega⟩ ⟨h.val / 384, by omega⟩ ⟨h.val % 64, by omega⟩))) *
      Ideal.ofBits FTy.f32 998244352#32) := by
  pointwise [tailOf]
/-- The result at an index. -/
theorem tail_at (Y : FVec Ideal S884736x4608 .bf16) (W : FVec Ideal S18432x512 .bf16) (x6 : FVec Ideal S4x144x8x64 .f32) (b : Fin 4) (q : Fin 4608) (h : Fin 3072) :
    @Eq EReal (tailOf Y W x6 (ix3 b q h))
      ((∑ x : Fin 4608, Y (ix2 ⟨b.val * 221184 + h.val / 384 * 27648 + h.val / 64 % 6 * 4608 + q.val, by omega⟩ x) *
          (W (ix2 ⟨b.val * 4608 + x.val, by omega⟩ ⟨h.val / 384 * 64 + h.val % 64, by omega⟩) *
            x6 (ix4 b ⟨x.val / 32, by omega⟩ ⟨h.val / 384, by omega⟩ ⟨h.val % 64, by omega⟩))) *
      Ideal.ofBits FTy.f32 998244352#32) := by
  have e : ∀ x : Fin 4608, b.val * 4608 + x.val / 32 * 32 + x.val % 32 = b.val * 4608 + x.val := fun x => by omega
  rw [tail_raw]
  simp only [e]
/-- The region's first operand. -/
def inP : FVec Ideal S884736x4608 .f32 := V m c main_v70
/-- The region's second operand. -/
def inV : Vec Ideal S18432x512 .fp8e4m3 := V m c main_v71
/-- The result in terms of the region's outputs. -/
theorem v85_eq : Pipeline.afterTail₀ cfgs (dats m) 0 (V0 m) [hostOps1] c main_v85 = tailOf ((dats m 0 c).arrAt 2 cfg0.N) ((dats m 0 c).arrAt 3 cfg0.N) (m ((c.tc : Thread nD τ).loc main_arg6)) := by
  have h6 : Pipeline.withArrays (cfgs 0).spec c (V0 m c) (fun w => (dats m 0 c).arrAt w (cfgs 0).N) (Proc.devRef .tc main_arg6) = m ((c.tc : Thread nD τ).loc main_arg6) :=
    (Pipeline.withArrays_of_ne _ c (V0 m c) _ main_arg6 (by exact (by decide : ∀ w, Pipeline.arrRef spec0 w ≠ main_arg6))).trans (V_main_arg6 m c)
  have h2 : Pipeline.withArrays (cfgs 0).spec c (V0 m c) (fun w => (dats m 0 c).arrAt w (cfgs 0).N) (Proc.devRef .tc main_v72_0) = (dats m 0 c).arrAt 2 cfg0.N :=
    Pipeline.withArrays_arr spec0 (by decide) c (V0 m c) (fun w => (dats m 0 c).arrAt w (cfgs 0).N) 2
  have h3 : Pipeline.withArrays (cfgs 0).spec c (V0 m c) (fun w => (dats m 0 c).arrAt w (cfgs 0).N) (Proc.devRef .tc main_v72_1) = (dats m 0 c).arrAt 3 cfg0.N :=
    Pipeline.withArrays_arr spec0 (by decide) c (V0 m c) (fun w => (dats m 0 c).arrAt w (cfgs 0).N) 3
  unfold Pipeline.afterTail₀
  simp only [hostOps1, List.flatten_cons, List.flatten_nil, List.append_nil, List.cons_append, List.nil_append]
  after_reads_simp
  rw [h6, h2, h3]
  rfl
end Cert.RefIdeal.Gen.Sem
end
-- ==== Proof.RefIdealRegion.lean ====
/- What the reference's region writes, over the extended reals. -/
module
public import proofs.«01_k».proof.Proof.Gen.RefIdeal.Frame
public import Idealize.ShloMosaic.Lib.Pointwise
public import proofs.«01_k».proof.Proof.RefIdealValue
public import Idealize.ShloMosaic.Lib.Claim
public import Idealize.ShloMosaic.Lib.Pointwise.Sums
public import Idealize.ShloMosaic.Lib.Pipeline.ValueKit
public import Idealize.ShloMosaic.Lib.StableHlo.RunRead
@[expose] public section
set_option maxRecDepth 16384
noncomputable section
open Idealize.ShloMosaic Idealize.ShloMosaic.TcCoe Idealize.SL.Sem
namespace Cert.RefIdeal.Gen.Sem
open Cert.RefIdeal Cert.RefIdeal.Gen
variable (m : (ℓ : Loc nD τ sig) → Buf (Elt Ideal) ℓ) (c : Dev nD)

/-- The first output's payload at an index. -/
theorem o2_at (x0 : Vec Ideal S884736x4608 .f32) (x1 : Vec Ideal S18432x512 .fp8e4m3) (i : Fin 884736) (s : Fin 4608) :
    @Eq EReal (out0_2 x0 x1 (ix2 i s)) (min (Ideal.ofBits FTy.f32 1138753536#32) (max 0 (x0 (ix2 i s) * Ideal.ofBits FTy.f32 1132462080#32))) := by
  unfold out0_2
  frame_out
  pointwise [k0_pay1]
/-- The second output's payload at an index. -/
theorem o3_at (x0 : Vec Ideal S884736x4608 .f32) (x1 : Vec Ideal S18432x512 .fp8e4m3) (i : Fin 18432) (s : Fin 512) :
    @Eq EReal (out0_3 x0 x1 (ix2 i s)) (x1 (ix2 i s)) := by
  unfold out0_3
  frame_out
  pointwise [k0_pay2]
/-- Operand 0's block is the whole array. -/
theorem iblk0_at (j : Shape.Idx S884736x4608) :
    (iblk m c 0 t0_0 : Vec Ideal S884736x4608 .f32) j = (V m c main_v70 : Vec Ideal S884736x4608 .f32) (ix2 (j 0) (j 1)) := by
  have e0 : win0_0.index t0_0 0 = 0 := rfl
  have e1 : win0_0.index t0_0 1 = 0 := rfl
  unfold iblk
  rw [View.read_apply]
  show V m c main_v70 _ = V m c main_v70 _
  refine congrArg (V m c main_v70) (funext fun a => Fin.ext ?_)
  match a with
  | ⟨0, _⟩ =>
    show win0_0.index t0_0 0 * 884736 + 1 * (j 0).val = (j 0).val
    rw [e0, Nat.zero_mul, Nat.zero_add, Nat.one_mul]
  | ⟨1, _⟩ =>
    show win0_0.index t0_0 1 * 4608 + 1 * (j 1).val = (j 1).val
    rw [e1, Nat.zero_mul, Nat.zero_add, Nat.one_mul]
/-- Operand 1's block is the whole array. -/
theorem iblk1_at (j : Shape.Idx S18432x512) :
    (iblk m c 1 t0_0 : Vec Ideal S18432x512 .fp8e4m3) j = (V m c main_v71 : Vec Ideal S18432x512 .fp8e4m3) (ix2 (j 0) (j 1)) := by
  have e0 : win0_1.index t0_0 0 = 0 := rfl
  have e1 : win0_1.index t0_0 1 = 0 := rfl
  unfold iblk
  rw [View.read_apply]
  show V m c main_v71 _ = V m c main_v71 _
  refine congrArg (V m c main_v71) (funext fun a => Fin.ext ?_)
  match a with
  | ⟨0, _⟩ =>
    show win0_1.index t0_0 0 * 18432 + 1 * (j 0).val = (j 0).val
    rw [e0, Nat.zero_mul, Nat.zero_add, Nat.one_mul]
  | ⟨1, _⟩ =>
    show win0_1.index t0_0 1 * 512 + 1 * (j 1).val = (j 1).val
    rw [e1, Nat.zero_mul, Nat.zero_add, Nat.one_mul]
/-- The quantised weights. -/
theorem fin2 : (dats m 0 c).arrAt 2 cfg0.N = (show FVec Ideal S884736x4608 .bf16 from fun y => (min (Ideal.ofBits FTy.f32 1138753536#32) (max 0 (inP m c y * Ideal.ofBits FTy.f32 1132462080#32)))) := by
  refine (dats m 0 c).arrAt_eq_of_after_last 2 t0_0 (by decide +kernel) _ fun j => ?_
  rw [after0_2]
  refine (cast_eq rfl _).trans ?_
  have hj : ∀ (y : S884736x4608.Idx), y = ix2 (y 0) (y 1) := fun y => funext fun a => match a with | ⟨0, _⟩ => rfl | ⟨1, _⟩ => rfl
  refine ((congrArg (out0_2 (iblk m c 0 t0_0) (iblk m c 1 t0_0)) (hj _)).trans (o2_at _ _ _ _)).trans ?_
  refine congrArg (fun z : EReal => min (Ideal.ofBits FTy.f32 1138753536#32) (max 0 (z * Ideal.ofBits FTy.f32 1132462080#32))) ?_
  refine (iblk0_at m c _).trans ?_
  refine congrArg (V m c main_v70) (funext fun a => Fin.ext ?_)
  match a with
  | ⟨0, _⟩ => rfl
  | ⟨1, _⟩ => rfl
/-- The values come through. -/
theorem fin3 : (dats m 0 c).arrAt 3 cfg0.N = (show FVec Ideal S18432x512 .bf16 from fun y => inV m c y) := by
  refine (dats m 0 c).arrAt_eq_of_after_last 3 t0_0 (by decide +kernel) _ fun j => ?_
  rw [after0_3]
  refine (cast_eq rfl _).trans ?_
  have hj : ∀ (y : S18432x512.Idx), y = ix2 (y 0) (y 1) := fun y => funext fun a => match a with | ⟨0, _⟩ => rfl | ⟨1, _⟩ => rfl
  refine ((congrArg (out0_3 (iblk m c 0 t0_0) (iblk m c 1 t0_0)) (hj _)).trans (o3_at _ _ _ _)).trans ?_
  refine (iblk1_at m c _).trans ?_
  refine congrArg (V m c main_v71) (funext fun a => Fin.ext ?_)
  match a with
  | ⟨0, _⟩ => rfl
  | ⟨1, _⟩ => rfl

end Cert.RefIdeal.Gen.Sem
end
-- ==== Proof.KernelIdealRest.lean ====
/- The kernel body in two: the filling of the two scratch arrays, at a first query block, and the rest. -/
module

public import proofs.«01_k».proof.Proof.KernelIdealKit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The filling of the scratch arrays: the keys unpacked, the values scaled. -/
noncomputable def fill (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (k0_h1 : k0_cond1 i = 1#1) :
    Prog (TpuEff nD τ sig (Elt F) Λ₀ .tc) PUnit := do
  let ⟨v631, v667⟩ : Σ' (v631 : IVec S64x128 32), FVec F S64x128 .f32 ← k0_part1 i arg3 harg3 arg4 harg4 arg5 harg5 arg6 harg6 arg7 harg7 arg8 harg8 arg9 harg9 arg10 harg10 arg11 harg11 arg12 harg12 arg13 harg13 arg14 harg14 k0_h1
  let ⟨v677, v709⟩ : Σ' (v677 : FVec F S64x128 .f32), IVec S64x128x1 32 ← k0_part2 i arg3 harg3 arg4 harg4 arg5 harg5 arg6 harg6 arg7 harg7 arg8 harg8 arg9 harg9 arg10 harg10 arg11 harg11 arg12 harg12 arg13 harg13 arg14 harg14 v631 v667
  let ⟨v721, v747, v749⟩ : Σ' (v721 : FVec F S64x128 .f32) (v747 : IVec S64x128 32), IVec S64x128 1 ← k0_part3 i arg3 harg3 arg4 harg4 arg5 harg5 arg6 harg6 arg7 harg7 arg8 harg8 arg9 harg9 arg10 harg10 arg11 harg11 arg12 harg12 arg13 harg13 arg14 harg14 v631 v677 v709
  let ⟨v765, v789, c12_i32⟩ : Σ' (v765 : FVec F S64x128 .f32) (v789 : IVec S64x128 32), BitVec 32 ← k0_part4 i arg3 harg3 arg4 harg4 arg5 harg5 arg6 harg6 arg7 harg7 arg8 harg8 arg9 harg9 arg10 harg10 arg11 harg11 arg12 harg12 arg13 harg13 arg14 harg14 v631 v721 v747 v749
  let ⟨v809, v811, v830⟩ : Σ' (v809 : FVec F S64x128 .f32) (v811 : IVec S64x128 32), IVec S64x128 1 ← k0_part5 i arg3 harg3 arg4 harg4 arg5 harg5 arg6 harg6 arg7 harg7 arg8 harg8 arg9 harg9 arg10 harg10 arg11 harg11 arg12 harg12 arg13 harg13 arg14 harg14 v631 v765 v789 c12_i32
  let ⟨v853, v855, v869, v870⟩ : Σ' (v853 : FVec F S64x128 .f32) (v855 : IVec S64x128 32) (v869 : IVec S64x128 1), IVec S64x128 32 ← k0_part6 i arg3 harg3 arg4 harg4 arg5 harg5 arg6 harg6 arg7 harg7 arg8 harg8 arg9 harg9 arg10 harg10 arg11 harg11 arg12 harg12 arg13 harg13 arg14 harg14 v631 v809 v811 v830
  let ⟨v897, c32_i32_406, v899, v906, v908, v909⟩ : Σ' (v897 : FVec F S64x128 .f32) (c32_i32_406 : BitVec 32) (v899 : IVec S64x128 32) (v906 : IVec S64x128 32) (v908 : BitVec 32), BitVec 1 ← k0_part7 i arg3 harg3 arg4 harg4 arg5 harg5 arg6 harg6 arg7 harg7 arg8 harg8 arg9 harg9 arg10 harg10 arg11 harg11 arg12 harg12 arg13 harg13 arg14 harg14 v631 v853 v855 v869 v870
  let ⟨v941, c32_i32_424, v943, v950⟩ : Σ' (v941 : FVec F S64x128 .f32) (c32_i32_424 : BitVec 32) (v943 : IVec S64x128 32), IVec S64x128 32 ← k0_part8 i arg3 harg3 arg4 harg4 arg5 harg5 arg6 harg6 arg7 harg7 arg8 harg8 arg9 harg9 arg10 harg10 arg11 harg11 arg12 harg12 arg13 harg13 arg14 harg14 v631 v897 c32_i32_406 v899 v906 v908 v909
  let ⟨v985, c32_i32_442, v987, v990⟩ : Σ' (v985 : FVec F S64x128 .f32) (c32_i32_442 : BitVec 32) (v987 : IVec S64x128 32), IVec S64x128 32 ← k0_part9 i arg3 harg3 arg4 harg4 arg5 harg5 arg6 harg6 arg7 harg7 arg8 harg8 arg9 harg9 arg10 harg10 arg11 harg11 arg12 harg12 arg13 harg13 arg14 harg14 v631 v941 c32_i32_424 v943 v950
  let ⟨v1029, c32_i32_461, v1030⟩ : Σ' (v1029 : FVec F S64x128 .f32) (c32_i32_461 : BitVec 32), IVec S64x128 32 ← k0_part10 i arg3 harg3 arg4 harg4 arg5 harg5 arg6 harg6 arg7 harg7 arg8 harg8 arg9 harg9 arg10 harg10 arg11 harg11 arg12 harg12 arg13 harg13 arg14 harg14 v631 v985 c32_i32_442 v987 v990
  k0_part11 i arg3 harg3 arg4 harg4 arg5 harg5 arg6 harg6 arg7 harg7 arg8 harg8 arg9 harg9 arg10 harg10 arg11 harg11 arg12 harg12 arg13 harg13 arg14 harg14 v631 v1029 c32_i32_461 v1030
  let v1112 : FVec F S64x128 .bf16 ← k0_part12 i arg3 harg3 arg4 harg4 arg5 harg5 arg6 harg6 arg7 harg7 arg8 harg8 arg9 harg9 arg10 harg10 arg11 harg11 arg12 harg12 arg13 harg13 arg14 harg14 v631
  let v1155 : FVec F S64x128 .f32 ← k0_part13 i arg3 harg3 arg4 harg4 arg5 harg5 arg6 harg6 arg7 harg7 arg8 harg8 arg9 harg9 arg10 harg10 arg11 harg11 arg12 harg12 arg13 harg13 arg14 harg14 v631 v1112
  let v1195 : FVec F S64x128 .f32 ← k0_part14 i arg3 harg3 arg4 harg4 arg5 harg5 arg6 harg6 arg7 harg7 arg8 harg8 arg9 harg9 arg10 harg10 arg11 harg11 arg12 harg12 arg13 harg13 arg14 harg14 v631 v1155
  let ⟨v1205, v1237⟩ : Σ' (v1205 : FVec F S64x128 .f32), IVec S64x128x1 32 ← k0_part15 i arg3 harg3 arg4 harg4 arg5 harg5 arg6 harg6 arg7 harg7 arg8 harg8 arg9 harg9 arg10 harg10 arg11 harg11 arg12 harg12 arg13 harg13 arg14 harg14 v631 v1195
  let ⟨v1249, v1275, v1277⟩ : Σ' (v1249 : FVec F S64x128 .f32) (v1275 : IVec S64x128 32), IVec S64x128 1 ← k0_part16 i arg3 harg3 arg4 harg4 arg5 harg5 arg6 harg6 arg7 harg7 arg8 harg8 arg9 harg9 arg10 harg10 arg11 harg11 arg12 harg12 arg13 harg13 arg14 harg14 v631 v1205 v1237
  let ⟨v1293, v1317, c60_i32⟩ : Σ' (v1293 : FVec F S64x128 .f32) (v1317 : IVec S64x128 32), BitVec 32 ← k0_part17 i arg3 harg3 arg4 harg4 arg5 harg5 arg6 harg6 arg7 harg7 arg8 harg8 arg9 harg9 arg10 harg10 arg11 harg11 arg12 harg12 arg13 harg13 arg14 harg14 v631 v1249 v1275 v1277
  let ⟨v1337, v1339, v1358⟩ : Σ' (v1337 : FVec F S64x128 .f32) (v1339 : IVec S64x128 32), IVec S64x128 1 ← k0_part18 i arg3 harg3 arg4 harg4 arg5 harg5 arg6 harg6 arg7 harg7 arg8 harg8 arg9 harg9 arg10 harg10 arg11 harg11 arg12 harg12 arg13 harg13 arg14 harg14 v631 v1293 v1317 c60_i32
  let ⟨v1381, v1383, v1397, v1398⟩ : Σ' (v1381 : FVec F S64x128 .f32) (v1383 : IVec S64x128 32) (v1397 : IVec S64x128 1), IVec S64x128 32 ← k0_part19 i arg3 harg3 arg4 harg4 arg5 harg5 arg6 harg6 arg7 harg7 arg8 harg8 arg9 harg9 arg10 harg10 arg11 harg11 arg12 harg12 arg13 harg13 arg14 harg14 v631 v1337 v1339 v1358
  let ⟨v1425, c32_i32_623, v1427, v1434, v1436, v1437⟩ : Σ' (v1425 : FVec F S64x128 .f32) (c32_i32_623 : BitVec 32) (v1427 : IVec S64x128 32) (v1434 : IVec S64x128 32) (v1436 : BitVec 32), BitVec 1 ← k0_part20 i arg3 harg3 arg4 harg4 arg5 harg5 arg6 harg6 arg7 harg7 arg8 harg8 arg9 harg9 arg10 harg10 arg11 harg11 arg12 harg12 arg13 harg13 arg14 harg14 v631 v1381 v1383 v1397 v1398
  let ⟨v1469, c32_i32_641, v1471, v1478⟩ : Σ' (v1469 : FVec F S64x128 .f32) (c32_i32_641 : BitVec 32) (v1471 : IVec S64x128 32), IVec S64x128 32 ← k0_part21 i arg3 harg3 arg4 harg4 arg5 harg5 arg6 harg6 arg7 harg7 arg8 harg8 arg9 harg9 arg10 harg10 arg11 harg11 arg12 harg12 arg13 harg13 arg14 harg14 v631 v1425 c32_i32_623 v1427 v1434 v1436 v1437
  let ⟨v1513, c32_i32_659, v1515, v1518⟩ : Σ' (v1513 : FVec F S64x128 .f32) (c32_i32_659 : BitVec 32) (v1515 : IVec S64x128 32), IVec S64x128 32 ← k0_part22 i arg3 harg3 arg4 harg4 arg5 harg5 arg6 harg6 arg7 harg7 arg8 harg8 arg9 harg9 arg10 harg10 arg11 harg11 arg12 harg12 arg13 harg13 arg14 harg14 v631 v1469 c32_i32_641 v1471 v1478
  let ⟨v1557, c32_i32_677, v1558⟩ : Σ' (v1557 : FVec F S64x128 .f32) (c32_i32_677 : BitVec 32), IVec S64x128 32 ← k0_part23 i arg3 harg3 arg4 harg4 arg5 harg5 arg6 harg6 arg7 harg7 arg8 harg8 arg9 harg9 arg10 harg10 arg11 harg11 arg12 harg12 arg13 harg13 arg14 harg14 v631 v1513 c32_i32_659 v1515 v1518
  k0_part24 i arg3 harg3 arg4 harg4 arg5 harg5 arg6 harg6 arg7 harg7 arg8 harg8 arg9 harg9 arg10 harg10 arg11 harg11 arg12 harg12 arg13 harg13 arg14 harg14 v631 v1557 c32_i32_677 v1558
  let v1640 : FVec F S64x128 .bf16 ← k0_part25 i arg3 harg3 arg4 harg4 arg5 harg5 arg6 harg6 arg7 harg7 arg8 harg8 arg9 harg9 arg10 harg10 arg11 harg11 arg12 harg12 arg13 harg13 arg14 harg14 v631
  let v1683 : FVec F S64x128 .f32 ← k0_part26 i arg3 harg3 arg4 harg4 arg5 harg5 arg6 harg6 arg7 harg7 arg8 harg8 arg9 harg9 arg10 harg10 arg11 harg11 arg12 harg12 arg13 harg13 arg14 harg14 v631 v1640
  let v1723 : FVec F S64x128 .f32 ← k0_part27 i arg3 harg3 arg4 harg4 arg5 harg5 arg6 harg6 arg7 harg7 arg8 harg8 arg9 harg9 arg10 harg10 arg11 harg11 arg12 harg12 arg13 harg13 arg14 harg14 v631 v1683
  let ⟨v1733, v1765⟩ : Σ' (v1733 : FVec F S64x128 .f32), IVec S64x128x1 32 ← k0_part28 i arg3 harg3 arg4 harg4 arg5 harg5 arg6 harg6 arg7 harg7 arg8 harg8 arg9 harg9 arg10 harg10 arg11 harg11 arg12 harg12 arg13 harg13 arg14 harg14 v631 v1723
  let ⟨v1777, v1803, v1805⟩ : Σ' (v1777 : FVec F S64x128 .f32) (v1803 : IVec S64x128 32), IVec S64x128 1 ← k0_part29 i arg3 harg3 arg4 harg4 arg5 harg5 arg6 harg6 arg7 harg7 arg8 harg8 arg9 harg9 arg10 harg10 arg11 harg11 arg12 harg12 arg13 harg13 arg14 harg14 v631 v1733 v1765
  let ⟨v1821, v1845, c108_i32⟩ : Σ' (v1821 : FVec F S64x128 .f32) (v1845 : IVec S64x128 32), BitVec 32 ← k0_part30 i arg3 harg3 arg4 harg4 arg5 harg5 arg6 harg6 arg7 harg7 arg8 harg8 arg9 harg9 arg10 harg10 arg11 harg11 arg12 harg12 arg13 harg13 arg14 harg14 v631 v1777 v1803 v1805
  let ⟨v1865, v1867, v1886⟩ : Σ' (v1865 : FVec F S64x128 .f32) (v1867 : IVec S64x128 32), IVec S64x128 1 ← k0_part31 i arg3 harg3 arg4 harg4 arg5 harg5 arg6 harg6 arg7 harg7 arg8 harg8 arg9 harg9 arg10 harg10 arg11 harg11 arg12 harg12 arg13 harg13 arg14 harg14 v631 v1821 v1845 c108_i32
  let ⟨v1909, v1911, v1925, v1926⟩ : Σ' (v1909 : FVec F S64x128 .f32) (v1911 : IVec S64x128 32) (v1925 : IVec S64x128 1), IVec S64x128 32 ← k0_part32 i arg3 harg3 arg4 harg4 arg5 harg5 arg6 harg6 arg7 harg7 arg8 harg8 arg9 harg9 arg10 harg10 arg11 harg11 arg12 harg12 arg13 harg13 arg14 harg14 v631 v1865 v1867 v1886
  let ⟨v1953, c32_i32_839, v1955, v1962, v1964, v1965⟩ : Σ' (v1953 : FVec F S64x128 .f32) (c32_i32_839 : BitVec 32) (v1955 : IVec S64x128 32) (v1962 : IVec S64x128 32) (v1964 : BitVec 32), BitVec 1 ← k0_part33 i arg3 harg3 arg4 harg4 arg5 harg5 arg6 harg6 arg7 harg7 arg8 harg8 arg9 harg9 arg10 harg10 arg11 harg11 arg12 harg12 arg13 harg13 arg14 harg14 v631 v1909 v1911 v1925 v1926
  let ⟨v1997, c32_i32_857, v1999, v2006⟩ : Σ' (v1997 : FVec F S64x128 .f32) (c32_i32_857 : BitVec 32) (v1999 : IVec S64x128 32), IVec S64x128 32 ← k0_part34 i arg3 harg3 arg4 harg4 arg5 harg5 arg6 harg6 arg7 harg7 arg8 harg8 arg9 harg9 arg10 harg10 arg11 harg11 arg12 harg12 arg13 harg13 arg14 harg14 v631 v1953 c32_i32_839 v1955 v1962 v1964 v1965
  let ⟨v2041, c32_i32_875, v2043, v2046⟩ : Σ' (v2041 : FVec F S64x128 .f32) (c32_i32_875 : BitVec 32) (v2043 : IVec S64x128 32), IVec S64x128 32 ← k0_part35 i arg3 harg3 arg4 harg4 arg5 harg5 arg6 harg6 arg7 harg7 arg8 harg8 arg9 harg9 arg10 harg10 arg11 harg11 arg12 harg12 arg13 harg13 arg14 harg14 v631 v1997 c32_i32_857 v1999 v2006
  let ⟨v2085, c32_i32_894, v2086⟩ : Σ' (v2085 : FVec F S64x128 .f32) (c32_i32_894 : BitVec 32), IVec S64x128 32 ← k0_part36 i arg3 harg3 arg4 harg4 arg5 harg5 arg6 harg6 arg7 harg7 arg8 harg8 arg9 harg9 arg10 harg10 arg11 harg11 arg12 harg12 arg13 harg13 arg14 harg14 v631 v2041 c32_i32_875 v2043 v2046
  k0_part37 i arg3 harg3 arg4 harg4 arg5 harg5 arg6 harg6 arg7 harg7 arg8 harg8 arg9 harg9 arg10 harg10 arg11 harg11 arg12 harg12 arg13 harg13 arg14 harg14 v631 v2085 c32_i32_894 v2086
  let v2168 : FVec F S64x128 .bf16 ← k0_part38 i arg3 harg3 arg4 harg4 arg5 harg5 arg6 harg6 arg7 harg7 arg8 harg8 arg9 harg9 arg10 harg10 arg11 harg11 arg12 harg12 arg13 harg13 arg14 harg14 v631
  let v2211 : FVec F S64x128 .f32 ← k0_part39 i arg3 harg3 arg4 harg4 arg5 harg5 arg6 harg6 arg7 harg7 arg8 harg8 arg9 harg9 arg10 harg10 arg11 harg11 arg12 harg12 arg13 harg13 arg14 harg14 v631 v2168
  let v2213 : Vec F S64x128 .bf16 ← Prog.lift (.load arg12 (Rect.unit (s := S64x4608) ![0, 4480] S64x128.size inb_S64x4608_S64x128_0_4480).toLoadRect (View.loadsAt_vmem h_S64x128))
  Prog.lift (.store arg12 (Rect.unit (s := S64x4608) ![0, 4480] S64x128.size inb_S64x4608_S64x128_0_4480) (k0_pay188 v2211) Finset.univ (View.stores_vmem h_S64x128 (harg12.storeExact_slice rfl _ packedbf16_S64x4608_S64x128_0_4480) (fun _ => rfl)) (.inl rfl))
  pure ⟨⟩

/-- The first statements after the filling: the first query head unpacked. -/
noncomputable def rest52 (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) :
    Prog (TpuEff nD τ sig (Elt F) Λ₀ .tc) (Σ' (arg2 : BitVec 32) (v1 : BitVec 32) (v5 : BitVec 32) (v34 : FVec F S64x256 .f32), BitVec 32) := do
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg0 8#32
  let v1 : BitVec 32 := Scalar.addi v0 arg1
  let v5 : BitVec 32 := Scalar.addi arg2 1#32
  let v6 : Vec F S1x1x32x256 .i8 ← Prog.lift (.load arg4 (Rect.unit (s := S1x1x192x256) ![0, 0, 0, 0] S1x1x32x256.size inb_S1x1x192x256_S1x1x32x256_0_0_0_0).toLoadRect (View.loadsAt_vmem h_S1x1x32x256))
  let v9 : Vec F S1x1x1x256 .f32 ← Prog.lift (.load arg5 (Rect.unit (s := S1x1x6x256) ![0, 0, 0, 0] S1x1x1x256.size inb_S1x1x6x256_S1x1x1x256_0_0_0_0).toLoadRect (View.loadsAt_vmem h_S1x1x1x256))
  pure ⟨arg2, v1, v5, k0_pay189 v6 v9, 4294901760#32⟩

/-- Everything after the filling up to the last product. -/
noncomputable def rest67 (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) :
    Prog (TpuEff nD τ sig (Elt F) Λ₀ .tc) (FVec F S256x128 .f32) := do
  let ⟨arg2, v1, v5, v34, c_m65536_i32⟩ : Σ' (arg2 : BitVec 32) (v1 : BitVec 32) (v5 : BitVec 32) (v34 : FVec F S64x256 .f32), BitVec 32 ← rest52 i arg3 harg3 arg4 harg4 arg5 harg5 arg6 harg6 arg7 harg7 arg8 harg8 arg9 harg9 arg10 harg10 arg11 harg11 arg12 harg12 arg13 harg13 arg14 harg14
  let ⟨v59, v75, c1_i32_25⟩ : Σ' (v59 : FVec F S64x128 .f32) (v75 : BitVec 32), BitVec 32 ← k0_part53 i arg3 harg3 arg4 harg4 arg5 harg5 arg6 harg6 arg7 harg7 arg8 harg8 arg9 harg9 arg10 harg10 arg11 harg11 arg12 harg12 arg13 harg13 arg14 harg14 arg2 v34 c_m65536_i32
  let ⟨v94, v104, v114⟩ : Σ' (v94 : FVec F S1x256 .f32) (v104 : FVec F S32x256 .bf16), FVec F S32x256 .bf16 ← k0_part54 i arg3 harg3 arg4 harg4 arg5 harg5 arg6 harg6 arg7 harg7 arg8 harg8 arg9 harg9 arg10 harg10 arg11 harg11 arg12 harg12 arg13 harg13 arg14 harg14 v59 v75 c1_i32_25
  let ⟨v143, v155⟩ : Σ' (v143 : FVec F S64x128 .f32), FVec F S64x128 .bf16 ← k0_part55 i arg3 harg3 arg4 harg4 arg5 harg5 arg6 harg6 arg7 harg7 arg8 harg8 arg9 harg9 arg10 harg10 arg11 harg11 arg12 harg12 arg13 harg13 arg14 harg14 arg2 v94 v104 v114
  let ⟨v195, cst_79⟩ : Σ' (v195 : FVec F S1x512 .f32), F .f32 ← k0_part56 i arg3 harg3 arg4 harg4 arg5 harg5 arg6 harg6 arg7 harg7 arg8 harg8 arg9 harg9 arg10 harg10 arg11 harg11 arg12 harg12 arg13 harg13 arg14 harg14 arg2 v1 v5 v143 v155
  let ⟨v218, v228, v232⟩ : Σ' (v218 : FVec F S1x256 .f32) (v228 : FVec F S32x256 .bf16), IVec S8x256 32 ← k0_part57 i arg3 harg3 arg4 harg4 arg5 harg5 arg6 harg6 arg7 harg7 arg8 harg8 arg9 harg9 arg10 harg10 arg11 harg11 arg12 harg12 arg13 harg13 arg14 harg14 v5 v195 cst_79
  let ⟨v267, v275⟩ : Σ' (v267 : FVec F S64x128 .f32), IVec S64x128 32 ← k0_part58 i arg3 harg3 arg4 harg4 arg5 harg5 arg6 harg6 arg7 harg7 arg8 harg8 arg9 harg9 arg10 harg10 arg11 harg11 arg12 harg12 arg13 harg13 arg14 harg14 arg2 v218 v228 v232
  let ⟨v300, v302, v312, c4_i32_137⟩ : Σ' (v300 : IVec S8x256 32) (v302 : FVec F S1x256 .f32) (v312 : FVec F S32x256 .bf16), BitVec 32 ← k0_part59 i arg3 harg3 arg4 harg4 arg5 harg5 arg6 harg6 arg7 harg7 arg8 harg8 arg9 harg9 arg10 harg10 arg11 harg11 arg12 harg12 arg13 harg13 arg14 harg14 arg2 v267 v275
  let ⟨v351, v354, v355⟩ : Σ' (v351 : FVec F S64x128 .f32) (v354 : IVec S64x128 32), IVec S64x128 32 ← k0_part60 i arg3 harg3 arg4 harg4 arg5 harg5 arg6 harg6 arg7 harg7 arg8 harg8 arg9 harg9 arg10 harg10 arg11 harg11 arg12 harg12 arg13 harg13 arg14 harg14 arg2 v300 v302 v312 c4_i32_137
  let ⟨v391, v392, c0_i32_172, c1_i32_173, v395⟩ : Σ' (v391 : FVec F S1x512 .f32) (v392 : FVec F S8x512 .f32) (c0_i32_172 : BitVec 32) (c1_i32_173 : BitVec 32), BitVec 32 ← k0_part61 i arg3 harg3 arg4 harg4 arg5 harg5 arg6 harg6 arg7 harg7 arg8 harg8 arg9 harg9 arg10 harg10 arg11 harg11 arg12 harg12 arg13 harg13 arg14 harg14 arg2 v1 v5 v351 v354 v355
  let ⟨v424, v426, v430, c134744072_i32_196⟩ : Σ' (v424 : IVec S8x256 32) (v426 : FVec F S1x256 .f32) (v430 : IVec S8x256 32), BitVec 32 ← k0_part62 i arg3 harg3 arg4 harg4 arg5 harg5 arg6 harg6 arg7 harg7 arg8 harg8 arg9 harg9 arg10 harg10 arg11 harg11 arg12 harg12 arg13 harg13 arg14 harg14 v5 v391 v392 c0_i32_172 c1_i32_173 v395
  let v474 : FVec F S64x128 .bf16 ← k0_part63 i arg3 harg3 arg4 harg4 arg5 harg5 arg6 harg6 arg7 harg7 arg8 harg8 arg9 harg9 arg10 harg10 arg11 harg11 arg12 harg12 arg13 harg13 arg14 harg14 v424 v426 v430 c134744072_i32_196
  let ⟨v508, v510, v511⟩ : Σ' (v508 : IVec S8x256 32) (v510 : FVec F S1x256 .f32), IVec S8x256 32 ← k0_part64 i arg3 harg3 arg4 harg4 arg5 harg5 arg6 harg6 arg7 harg7 arg8 harg8 arg9 harg9 arg10 harg10 arg11 harg11 arg12 harg12 arg13 harg13 arg14 harg14 arg2 v474
  k0_part65 i arg3 harg3 arg4 harg4 arg5 harg5 arg6 harg6 arg7 harg7 arg8 harg8 arg9 harg9 arg10 harg10 arg11 harg11 arg12 harg12 arg13 harg13 arg14 harg14 v508 v510 v511
  let ⟨v590, c0_i32_264, v595, c1_i32_266⟩ : Σ' (v590 : FVec F S8x512 .f32) (c0_i32_264 : BitVec 32) (v595 : BitVec 32), BitVec 32 ← k0_part66 i arg3 harg3 arg4 harg4 arg5 harg5 arg6 harg6 arg7 harg7 arg8 harg8 arg9 harg9 arg10 harg10 arg11 harg11 arg12 harg12 arg13 harg13 arg14 harg14 arg2 v5
  let v596 : FVec F S8x512 .f32 ← Scf.Loop.for (k0_t14_loop i) (k0_t14_ok i) v590 (k0_t14_body i arg3 harg3 arg4 harg4 arg5 harg5 arg6 harg6 arg7 harg7 arg8 harg8 arg9 harg9 arg10 harg10 arg11 harg11 arg12 harg12 arg13 harg13 arg14 harg14 arg2 v1 c0_i32_264 c1_i32_266)
  let v597 : FVec F S8x512 .f32 ← Scf.Loop.for (k0_t15_loop i) (k0_t15_ok i) v596 (k0_t15_body i arg3 harg3 arg4 harg4 arg5 harg5 arg6 harg6 arg7 harg7 arg8 harg8 arg9 harg9 arg10 harg10 arg11 harg11 arg12 harg12 arg13 harg13 arg14 harg14 arg2 v1 v595)
  let v606 : FVec F S8x512 .f32 ← Scf.Loop.for (k0_t16_loop i) (k0_t16_ok i) (k0_pay319 (F := F)) (k0_t16_body i arg3 harg3 arg4 harg4 arg5 harg5 arg6 harg6 arg7 harg7 arg8 harg8 arg9 harg9 arg10 harg10 arg11 harg11 arg12 harg12 arg13 harg13 arg14 harg14 v597)
  let v607 : FVec F S8x512 .f32 ← Scf.Loop.for (k0_t17_loop i) (k0_t17_ok i) v606 (k0_t17_body i arg3 harg3 arg4 harg4 arg5 harg5 arg6 harg6 arg7 harg7 arg8 harg8 arg9 harg9 arg10 harg10 arg11 harg11 arg12 harg12 arg13 harg13 arg14 harg14 v597)
  let v618 : FVec F S64x512 .f32 ← Scf.Loop.for (k0_t18_loop i) (k0_t18_ok i) (k0_pay327 (F := F)) (k0_t18_body i arg3 harg3 arg4 harg4 arg5 harg5 arg6 harg6 arg7 harg7 arg8 harg8 arg9 harg9 arg10 harg10 arg11 harg11 arg12 harg12 arg13 harg13 arg14 harg14 v607)
  let v619 : FVec F S64x512 .f32 ← Scf.Loop.for (k0_t19_loop i) (k0_t19_ok i) v618 (k0_t19_body i arg3 harg3 arg4 harg4 arg5 harg5 arg6 harg6 arg7 harg7 arg8 harg8 arg9 harg9 arg10 harg10 arg11 harg11 arg12 harg12 arg13 harg13 arg14 harg14 v607)
  pure (k0_pay330 v619)

/-- Everything after the filling. -/
noncomputable def restAll (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) :
    Prog (TpuEff nD τ sig (Elt F) Λ₀ .tc) PUnit := do
  let v625 : FVec F S256x128 .f32 ← rest67 i arg3 harg3 arg4 harg4 arg5 harg5 arg6 harg6 arg7 harg7 arg8 harg8 arg9 harg9 arg10 harg10 arg11 harg11 arg12 harg12 arg13 harg13 arg14 harg14
  let v627 : Vec F S1x256x128 .bf16 ← Prog.lift (.load arg10 (Rect.unit (s := S1x256x384) ![0, 0, 256] S1x256x128.size inb_S1x256x384_S1x256x128_0_0_256).toLoadRect (View.loadsAt_vmem h_S1x256x128))
  Prog.lift (.store arg10 (Rect.unit (s := S1x256x384) ![0, 0, 256] S1x256x128.size inb_S1x256x384_S1x256x128_0_0_256) (k0_pay1 v625) Finset.univ (View.stores_vmem h_S1x256x128 (harg10.storeExact_slice rfl _ packedbf16_S1x256x384_S1x256x128_0_0_256) (fun _ => rfl)) (.inl rfl))
  pure ⟨⟩

/-- At a first query block the body is the filling, then the rest. -/
theorem body_fill (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (k0_h1 : k0_cond1 i = 1#1) :
    cc0_sage_attention (F := F) i arg3 harg3 arg4 harg4 arg5 harg5 arg6 harg6 arg7 harg7 arg8 harg8 arg9 harg9 arg10 harg10 arg11 harg11 arg12 harg12 arg13 harg13 arg14 harg14 = (fill (F := F) i arg3 harg3 arg4 harg4 arg5 harg5 arg6 harg6 arg7 harg7 arg8 harg8 arg9 harg9 arg10 harg10 arg11 harg11 arg12 harg12 arg13 harg13 arg14 harg14 k0_h1 >>= fun _ => restAll (F := F) i arg3 harg3 arg4 harg4 arg5 harg5 arg6 harg6 arg7 harg7 arg8 harg8 arg9 harg9 arg10 harg10 arg11 harg11 arg12 harg12 arg13 harg13 arg14 harg14) := by
  rw [cc0_sage_attention_eq_skeleton]; unfold cc0_sage_attention_skel restAll rest67
  rw [k0_part67_eq_skeleton]; unfold k0_part67_skel
  rw [k0_part52_eq_skeleton]; unfold k0_part52_skel rest52 fill
  simp only [k0_h1, dite_true, bind_assoc, pure_bind]

/-- At a later query block the body is the rest alone. -/
theorem body_rest (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (k0_h1 : ¬ k0_cond1 i = 1#1) :
    cc0_sage_attention (F := F) i arg3 harg3 arg4 harg4 arg5 harg5 arg6 harg6 arg7 harg7 arg8 harg8 arg9 harg9 arg10 harg10 arg11 harg11 arg12 harg12 arg13 harg13 arg14 harg14 = restAll (F := F) i arg3 harg3 arg4 harg4 arg5 harg5 arg6 harg6 arg7 harg7 arg8 harg8 arg9 harg9 arg10 harg10 arg11 harg11 arg12 harg12 arg13 harg13 arg14 harg14 := by
  rw [cc0_sage_attention_eq_skeleton]; unfold cc0_sage_attention_skel restAll rest67
  rw [k0_part67_eq_skeleton]; unfold k0_part67_skel
  rw [k0_part52_eq_skeleton]; unfold k0_part52_skel rest52
  simp only [k0_h1, dite_false, bind_assoc, pure_bind]

end Cert.KernelIdeal.Gen

end
-- ==== Proof.KernelIdealRunRest.lean ====
/- The kernel body after the filling: its run. -/
module

public import proofs.«01_k».proof.Proof.KernelIdealRest

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 9000000 in
/-- What the rest of the body stores, as pieces (last first) of the output block, with the run that leaves
    them. The filled scratch arrays enter at `xs0`, `xs1`, the stash at `ds3`, whatever that is. -/
noncomputable def kernelRest (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole)
    (x0 : Vec F S32x144 .f32) (x1 : Vec F S1x1x192x256 .i8) (x2 : Vec F S1x1x6x256 .f32) (x3 : Vec F S1x1x384x128 .bf16) (x4 : Vec F S1x1x4608x128 .i8) (x5 : Vec F S1x1x64x4608 .fp8e4m3) (x6 : Vec F S1x1x64x256 .f32) (ds3 : Vec F S4608x512 .f32) (xs0 : Vec F S4608x128 .bf16) (xs1 : Vec F S64x4608 .bf16) :
    Σ' (L7 : List (View.Piece (Elt F) S1x256x384 .bf16)), Σ' (LS0 : List (View.Piece (Elt F) S4608x128 .bf16)), { LS1 : List (View.Piece (Elt F) S64x4608 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ (∃ d, owns (c : Thread nD τ) arg13 fullShare d) ∗ owns (c : Thread nD τ) arg14 fullShare ds3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ (∃ d, owns (c : Thread nD τ) arg13 fullShare d) ∗ (∃ d, owns (c : Thread nD τ) arg14 fullShare d)) -∗ K ⟨⟩))
          ⊢ wp frame (wpE (defs₀ (F := F)) Variants.none c none) E (restAll (F := F) i arg3 harg3 arg4 harg4 arg5 harg5 arg6 harg6 arg7 harg7 arg8 harg8 arg9 harg9 arg10 harg10 arg11 harg11 arg12 harg12 arg13 harg13 arg14 harg14) K } := by
  refine ⟨?_, [], [], fun E K => ?run⟩
  case run =>
    unfold restAll rest67 rest52
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%ds2, %fs2, -, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1
    obtain rfl := harg14.eq_unread hfs3
    sl_exec_parts
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]
    · iexists _, _; isplitr; swap; · iexact HS2
      ipureintro; rfl
    iexists _, _; isplitr; swap; · iexact HS3
    ipureintro; rfl

end Cert.KernelIdeal.Gen

end
-- ==== Proof.KernelIdealTrips.lean ====
module
public import proofs.«01_k».proof.Proof.KernelIdealRunRest
public import Idealize.ShloMosaic.Lib.LoopRemainder

@[expose] public section
set_option maxHeartbeats 0
noncomputable section
open Idealize.ShloMosaic Idealize.ShloMosaic.TcCoe Idealize.SL.Sem
namespace Cert.KernelIdeal.Gen
open Cert.KernelIdeal
variable {F : FTy → Type} [FloatOps F] [Named F]

/-! ## The loops of one head pair as recursions over the key blocks

Every head pair runs the same three loops over the key blocks: the scores and their running maximum, the
exponentials and their running sum, the weighted values. The recursions below state one trip once; the generated
states of the nine loops are shown to be these. -/

/-- Rows `256 k` to `256 k + 255` of the stash. -/
def rowRect (k : ℕ) : Rect S4608x512 := Rect.unit (s := S4608x512) ![256 * (k % 18), 0] S256x512.size
  (by intro a; have := Nat.mod_lt k (show 18 > 0 by decide); fin_cases a <;> simp <;> omega)

/-- The unpacked key block `k`. -/
def kxRd (arg11 : Memref sig .tc .vmem S4608x128 .bf16) (X : BufTy.Contents (Elt F) arg11.view.ty) (k : ℕ) : Vec F S256x128 .bf16 :=
  View.readAt (Elt F) arg11.view (Rect.unit (s := S4608x128) ![256 * (k % 18), 0] S256x128.size
    (by intro a; have := Nat.mod_lt k (show 18 > 0 by decide); fin_cases a <;> simp <;> omega)).toLoadRect X

/-- The scaled value block `k`. -/
def vxRd (arg12 : Memref sig .tc .vmem S64x4608 .bf16) (X : BufTy.Contents (Elt F) arg12.view.ty) (k : ℕ) : Vec F S64x256 .bf16 :=
  View.readAt (Elt F) arg12.view (Rect.unit (s := S64x4608) ![0, 256 * (k % 18)] S64x256.size
    (by intro a; have := Nat.mod_lt k (show 18 > 0 by decide); fin_cases a <;> simp <;> omega)).toLoadRect X

/-- The query columns. -/
def qrRd (arg13 : Memref sig .tc .vmem S256x512 .bf16) (X : BufTy.Contents (Elt F) arg13.view.ty) : Vec F S256x512 .bf16 :=
  View.readAt (Elt F) arg13.view (Rect.unit (s := S256x512) ![0, 0] S256x512.size inb_S256x512_S256x512_0_0).toLoadRect X

/-- A key scale lies in the operand. -/
theorem off_sk_inb (i : grid0.Coords) (k g : ℕ) : ∀ a, (![8 * (i 0).val + (i 1).val, 8 * (k % 18) + g % 8] : Fin 2 → ℕ) a + S1x1.size a ≤ S32x144.size a := by
  intro a; have := Nat.mod_lt k (show 18 > 0 by decide); have := Nat.mod_lt g (show 8 > 0 by decide)
  have h0 : (i 0).val < 4 := (i 0).isLt
  have h1 : (i 1).val < 8 := (i 1).isLt
  fin_cases a <;> simp <;> omega

/-- The key scale of group `g` of key block `k`. -/
def skRd (i : grid0.Coords) (arg3 : Memref sig .tc .smem S32x144 .f32) (X : BufTy.Contents (Elt F) arg3.view.ty) (k g : ℕ) : Elt F .f32 :=
  View.readAt (Elt F) arg3.view (Rect.unit (s := S32x144) ![8 * (i 0).val + (i 1).val, 8 * (k % 18) + g % 8] S1x1.size (off_sk_inb i k g)).toLoadRect X
    (Shape.Idx.first (by change 0 < S1x1.numel; decide))

/-- The positions of key block `k`. -/
def kposv (k : ℕ) : IVec S256x512 32 :=
  addi (broadcast S256x512 (Scalar.muli (Scf.iv 0#32 1#32 k) 256#32)) (iota .tc S256x512 32 [0] iota_S256x512_d0_w32)

/-- The masked scores of key block `k`. -/
def scoreVal (a2 : BitVec 32) (k : ℕ) (kx : Vec F S256x128 .bf16) (qr : Vec F S256x512 .bf16) (sk : ℕ → Elt F .f32) : FVec F S256x512 .f32 :=
  k0_pay215 (kposv k) (k0_pay124 a2) (k0_pay125 kx qr (sk 0)) (k0_pay126 kx qr (sk 1)) (k0_pay127 kx qr (sk 2))
    (k0_pay128 (k0_pay122 kx qr) (sk 3)) (k0_pay129 (k0_pay122 kx qr) (sk 4)) (k0_pay130 (k0_pay122 kx qr) (sk 5))
    (k0_pay131 (k0_pay122 kx qr) (sk 6)) (k0_pay132 (k0_pay122 kx qr) (sk 7))

/-- The running maximum after a block of scores. -/
def maxStep (acc : FVec F S8x512 .f32) (s : FVec F S256x512 .f32) : FVec F S8x512 .f32 :=
  maximumf acc (multiReduction .maximumf [0] S8x512 (shapeCast S32x8x512 s shapeCasts_S256x512_S32x8x512) 0xFF800000#32 reduces_S32x8x512_S8x512 (.inl rfl) rfl)

/-- The score loop before trip `k`. -/
def scSt (init : FVec F S8x512 .f32) (S : ℕ → FVec F S256x512 .f32) : ℕ → FVec F S8x512 .f32 × List (View.Piece (Elt F) S4608x512 .f32)
  | 0 => (init, [])
  | k + 1 => (maxStep (scSt init S k).1 (S k), ⟨rowRect k, shapeCast S256x512 (S k) shapeCasts_S256x512_S256x512⟩ :: (scSt init S k).2)

/-- The exponentials of a block of scores. -/
def expVal (m : FVec F S1x512 .f32) (s : Vec F S256x512 .f32) : FVec F S256x512 .f32 :=
  exp2 (subf s (broadcastTo S256x512 m broadcasts_S1x512_S256x512))

/-- The running sum after a block of exponentials. -/
def addStep (acc : FVec F S8x512 .f32) (e : FVec F S256x512 .f32) : FVec F S8x512 .f32 :=
  addf acc (multiReduction .add [0] S8x512 (shapeCast S32x8x512 e shapeCasts_S256x512_S32x8x512) 0x00000000#32 reduces_S32x8x512_S8x512 (.inl rfl) rfl)

/-- Block `k` of the stash. -/
def stRd (arg14 : Memref sig .tc .vmem S4608x512 .f32) (X : BufTy.Contents (Elt F) arg14.view.ty) (k : ℕ) : Vec F S256x512 .f32 :=
  View.readAt (Elt F) arg14.view (rowRect k).toLoadRect X

/-- The exponential loop before trip `k`. -/
def exSt (arg14 : Memref sig .tc .vmem S4608x512 .f32) (G : BufTy.Contents (Elt F) arg14.view.ty) (m : FVec F S1x512 .f32) (init : FVec F S8x512 .f32) :
    ℕ → FVec F S8x512 .f32 × List (View.Piece (Elt F) S4608x512 .f32)
  | 0 => (init, [])
  | k + 1 => (addStep (exSt arg14 G m init k).1 (expVal m (stRd arg14 (arg14.view.writes (Elt F) G (exSt arg14 G m init k).2) k)),
      ⟨rowRect k, shapeCast S256x512 (expVal m (stRd arg14 (arg14.view.writes (Elt F) G (exSt arg14 G m init k).2) k)) shapeCasts_S256x512_S256x512⟩ :: (exSt arg14 G m init k).2)

/-- The value loop before trip `k`. -/
def pvSt (c : FVec F S1x512 .f32) (st : ℕ → Vec F S256x512 .f32) (vx : ℕ → Vec F S64x256 .bf16) (init : FVec F S64x512 .f32) : ℕ → FVec F S64x512 .f32
  | 0 => init
  | k + 1 => k0_pay231 c (pvSt c st vx init k) (st k) (vx k)

/-- Equal offsets, equal rectangles. -/
theorem rect_congr {s : Shape} {o o' sz : Fin s.rank → ℕ} (h : o = o') (i : ∀ a, o a + sz a ≤ s.size a) (i' : ∀ a, o' a + sz a ≤ s.size a) :
    Rect.unit (s := s) o sz i = Rect.unit (s := s) o' sz i' := by subst h; rfl

/-- Equal offsets, equal reads. -/
theorem readAt_congr {κ : Kind} {sp : Space} {s : Shape} {e : EltTy} {v : View sig κ sp s e} {o o' sz : Fin s.rank → ℕ} (h : o = o')
    (i : ∀ a, o a + sz a ≤ s.size a) (i' : ∀ a, o' a + sz a ≤ s.size a) (X : v.ty.Contents (Elt F)) :
    View.readAt (Elt F) v (Rect.unit (s := s) o' sz i').toLoadRect X = View.readAt (Elt F) v (Rect.unit (s := s) o sz i).toLoadRect X := by
  subst h; rfl

/-- Equal offsets and contents, equal pieces. -/
theorem piece_congr {s : Shape} {e : EltTy} {o o' sz : Fin s.rank → ℕ} (h : o = o')
    (i : ∀ a, o a + sz a ≤ s.size a) (i' : ∀ a, o' a + sz a ≤ s.size a) (w : (⟨s.rank, sz⟩ : Shape).Idx → Elt F e) :
    (⟨Rect.unit (s := s) o' sz i', w⟩ : View.Piece (Elt F) s e) = ⟨Rect.unit (s := s) o sz i, w⟩ := by
  subst h; rfl

/-- The row offset of trip `k`, in words. -/
theorem row_word (k : ℕ) (hk : k < 18) : (Scalar.indexCast (Scalar.muli (Scf.iv 0#32 1#32 k) 256#32)).toNat = 256 * (k % 18) := by
  revert k; decide

/-- The scale's column of trip `k`, in words. -/
theorem col_word (k g : ℕ) (hk : k < 18) (hg : g < 8) :
    (Scalar.indexCast (Scalar.addi (Scalar.muli (Scf.iv 0#32 1#32 k) 8#32) (BitVec.ofNat 32 g))).toNat = 8 * (k % 18) + g % 8 := by
  revert g; revert k; decide

/-- The scale's row, in words. -/
theorem bg_word (i : grid0.Coords) : (Scalar.indexCast (Scalar.addi (Scalar.muli (BitVec.ofNat 32 (i 0).val) 8#32) (BitVec.ofNat 32 (i 1).val))).toNat
    = 8 * (i 0).val + (i 1).val := by
  have h : ∀ (a : Fin 4) (b : Fin 8), (Scalar.indexCast (Scalar.addi (Scalar.muli (BitVec.ofNat 32 a.val) 8#32) (BitVec.ofNat 32 b.val))).toNat = 8 * a.val + b.val := by decide
  exact h (i 0) (i 1)

/-- The number of trips: one more than the query block's index. -/
theorem trips_main (i : grid0.Coords) : (k0_t2_loop i).trips = (i 2).val + 1 := by
  have h : ∀ q : Fin 18, (⟨0#32, Scalar.addi 0#32 (Scalar.muli (Scalar.divsi (Scalar.subi (Scalar.addi (BitVec.ofNat 32 q.val) 1#32) 0#32) 1#32) 1#32), 1#32⟩ : Scf.Loop 32).trips = q.val + 1 := by decide
  exact h (i 2)

/-- A round is below 18. -/
theorem trips_lt (i : grid0.Coords) (k : ℕ) (h : k < (k0_t2_loop i).trips) : k < 18 := by
  rw [trips_main] at h
  have h2 : (i 2).val < 18 := (i 2).isLt
  omega

/-- The remainder of loop 3 makes no trip. -/
theorem t3_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (arg2 : BitVec 32) (v1 : BitVec 32) (v5 : BitVec 32) (v143 : FVec F S64x128 .f32) (v155 : FVec F S64x128 .bf16) (v179 : BitVec 32) (X_arg3 : BufTy.Contents (Elt F) arg3.view.ty) (X_arg11 : BufTy.Contents (Elt F) arg11.view.ty) (X_arg13 : BufTy.Contents (Elt F) arg13.view.ty) (init : FVec F S8x512 .f32) :
    st_k0_t3 (F := F) Variants.none c none i arg3 harg3 arg4 harg4 arg5 harg5 arg6 harg6 arg7 harg7 arg8 harg8 arg9 harg9 arg10 harg10 arg11 harg11 arg12 harg12 arg13 harg13 arg14 harg14 arg2 v1 v5 v143 v155 v179 X_arg3 X_arg11 X_arg13 init (Scf.trips (k0_t3_loop i).lb (k0_t3_loop i).ub (k0_t3_loop i).st) = (init, []) := by
  rw [show Scf.trips (k0_t3_loop i).lb (k0_t3_loop i).ub (k0_t3_loop i).st = 0 from Scf.rem_trips _ _]; rfl

/-- The remainder of loop 5 makes no trip. -/
theorem t5_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (arg2 : BitVec 32) (v1 : BitVec 32) (v5 : BitVec 32) (v143 : FVec F S64x128 .f32) (v155 : FVec F S64x128 .bf16) (v181 : FVec F S8x512 .f32) (G_arg14 : BufTy.Contents (Elt F) arg14.view.ty) (init : FVec F S8x512 .f32) :
    st_k0_t5 (F := F) Variants.none c none i arg3 harg3 arg4 harg4 arg5 harg5 arg6 harg6 arg7 harg7 arg8 harg8 arg9 harg9 arg10 harg10 arg11 harg11 arg12 harg12 arg13 harg13 arg14 harg14 arg2 v1 v5 v143 v155 v181 G_arg14 init (Scf.trips (k0_t5_loop i).lb (k0_t5_loop i).ub (k0_t5_loop i).st) = (init, []) := by
  rw [show Scf.trips (k0_t5_loop i).lb (k0_t5_loop i).ub (k0_t5_loop i).st = 0 from Scf.rem_trips _ _]; rfl

/-- The remainder of loop 7 makes no trip. -/
theorem t7_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v5 : BitVec 32) (v195 : FVec F S1x512 .f32) (cst_79 : F .f32) (X_arg12 : BufTy.Contents (Elt F) arg12.view.ty) (X_arg14 : BufTy.Contents (Elt F) arg14.view.ty) (init : FVec F S64x512 .f32) :
    st_k0_t7 (F := F) Variants.none c none i arg3 harg3 arg4 harg4 arg5 harg5 arg6 harg6 arg7 harg7 arg8 harg8 arg9 harg9 arg10 harg10 arg11 harg11 arg12 harg12 arg13 harg13 arg14 harg14 v5 v195 cst_79 X_arg12 X_arg14 init (Scf.trips (k0_t7_loop i).lb (k0_t7_loop i).ub (k0_t7_loop i).st) = init := by
  rw [show Scf.trips (k0_t7_loop i).lb (k0_t7_loop i).ub (k0_t7_loop i).st = 0 from Scf.rem_trips _ _]; rfl

/-- Loop 2 is the score loop. -/
theorem t2_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v1 : BitVec 32) (v5 : BitVec 32) (v143 : FVec F S64x128 .f32) (v155 : FVec F S64x128 .bf16) (X_arg3 : BufTy.Contents (Elt F) arg3.view.ty) (X_arg11 : BufTy.Contents (Elt F) arg11.view.ty) (X_arg13 : BufTy.Contents (Elt F) arg13.view.ty) (init : FVec F S8x512 .f32) (n : ℕ) (hn : n ≤ (k0_t2_loop i).trips) :
    st_k0_t2 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) v1 v5 v143 v155 X_arg3 X_arg11 X_arg13 init n
      = scSt init (fun k => scoreVal (BitVec.ofNat 32 (i 2).val) k (kxRd arg11 X_arg11 k) (qrRd arg13 X_arg13) (skRd i arg3 X_arg3 k)) n := by
  induction n with
  | zero => rfl
  | succ n ih =>
    have hk : n < (k0_t2_loop i).trips := hn
    have h18 : n < 18 := trips_lt i n hn
    rw [st_k0_t2_succ Variants.none c none i arg3 harg3 arg4 harg4 arg5 harg5 arg6 harg6 arg7 harg7 arg8 harg8 arg9 harg9 arg10 harg10 arg11 harg11 arg12 harg12 arg13 harg13 arg14 harg14 (BitVec.ofNat 32 (i 2).val) v1 v5 v143 v155 X_arg3 X_arg11 X_arg13 init ⟨n, hk⟩, ih (by omega)]
    have e11 : kxRd arg11 X_arg11 n = _ := readAt_congr (F := F) (v := arg11.view) (sz := S256x128.size) (show k0_off3 i ⟨n, hk⟩ = ![256 * (n % 18), 0] from congrArg (fun z => ![z, 0]) (row_word n h18)) (k0_off3_inb i ⟨n, hk⟩) _ X_arg11
    have e3 : ∀ g : Fin 8, skRd i arg3 X_arg3 n g.val = _ := fun g => congrFun (readAt_congr (F := F) (v := arg3.view) (sz := S1x1.size) (show k0_off4 i ⟨n, hk⟩ (BitVec.ofNat 32 g.val) = ![8 * (i 0).val + (i 1).val, 8 * (n % 18) + g.val % 8] from congrArg₂ (fun y z => ![y, z]) (bg_word i) (col_word n g.val h18 g.isLt)) (k0_off4_inb i ⟨n, hk⟩ g) _ X_arg3) _
    have eS : scSt init (fun k => scoreVal (BitVec.ofNat 32 (i 2).val) k (kxRd arg11 X_arg11 k) (qrRd arg13 X_arg13) (skRd i arg3 X_arg3 k)) (n + 1) = (maxStep (scSt init (fun k => scoreVal (BitVec.ofNat 32 (i 2).val) k (kxRd arg11 X_arg11 k) (qrRd arg13 X_arg13) (skRd i arg3 X_arg3 k)) n).1 (scoreVal (BitVec.ofNat 32 (i 2).val) n (kxRd arg11 X_arg11 n) (qrRd arg13 X_arg13) (skRd i arg3 X_arg3 n)), ⟨rowRect n, shapeCast S256x512 (scoreVal (BitVec.ofNat 32 (i 2).val) n (kxRd arg11 X_arg11 n) (qrRd arg13 X_arg13) (skRd i arg3 X_arg3 n)) shapeCasts_S256x512_S256x512⟩ :: (scSt init (fun k => scoreVal (BitVec.ofNat 32 (i 2).val) k (kxRd arg11 X_arg11 k) (qrRd arg13 X_arg13) (skRd i arg3 X_arg3 k)) n).2) := rfl
    rw [eS]
    generalize scSt init (fun k => scoreVal (BitVec.ofNat 32 (i 2).val) k (kxRd arg11 X_arg11 k) (qrRd arg13 X_arg13) (skRd i arg3 X_arg3 k)) n = st
    unfold rowRect
    rw [piece_congr (F := F) (s := S4608x512) (show k0_off5 i ⟨n, hk⟩ = ![256 * (n % 18), 0] from congrArg (fun z => ![z, 0]) (row_word n h18)) (k0_off5_inb i ⟨n, hk⟩)]
    unfold scoreVal
    rw [e11, show skRd i arg3 X_arg3 n 0 = _ from e3 0, show skRd i arg3 X_arg3 n 1 = _ from e3 1, show skRd i arg3 X_arg3 n 2 = _ from e3 2, show skRd i arg3 X_arg3 n 3 = _ from e3 3, show skRd i arg3 X_arg3 n 4 = _ from e3 4, show skRd i arg3 X_arg3 n 5 = _ from e3 5, show skRd i arg3 X_arg3 n 6 = _ from e3 6, show skRd i arg3 X_arg3 n 7 = _ from e3 7]
    unfold tripR_k0_t2 tripL_k0_t2 trip_k0_t2
    rfl

/-- Loop 4 is the exponential loop. -/
theorem t4_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (arg2 : BitVec 32) (v1 : BitVec 32) (v5 : BitVec 32) (v143 : FVec F S64x128 .f32) (v155 : FVec F S64x128 .bf16) (v181 : FVec F S8x512 .f32) (G_arg14 : BufTy.Contents (Elt F) arg14.view.ty) (init : FVec F S8x512 .f32) (n : ℕ) (hn : n ≤ (k0_t2_loop i).trips) :
    st_k0_t4 (F := F) Variants.none c none i arg3 harg3 arg4 harg4 arg5 harg5 arg6 harg6 arg7 harg7 arg8 harg8 arg9 harg9 arg10 harg10 arg11 harg11 arg12 harg12 arg13 harg13 arg14 harg14 arg2 v1 v5 v143 v155 v181 G_arg14 init n = exSt arg14 G_arg14 (k0_pay221 v181) init n := by
  induction n with
  | zero => rfl
  | succ n ih =>
    have hk : n < (k0_t4_loop i).trips := hn
    have h18 : n < 18 := trips_lt i n hn
    rw [st_k0_t4_succ Variants.none c none i arg3 harg3 arg4 harg4 arg5 harg5 arg6 harg6 arg7 harg7 arg8 harg8 arg9 harg9 arg10 harg10 arg11 harg11 arg12 harg12 arg13 harg13 arg14 harg14 arg2 v1 v5 v143 v155 v181 G_arg14 init ⟨n, hk⟩, ih (by omega)]
    rw [show exSt arg14 G_arg14 (k0_pay221 v181) init (n + 1) = (addStep (exSt arg14 G_arg14 (k0_pay221 v181) init n).1 (expVal (k0_pay221 v181) (stRd arg14 (arg14.view.writes (Elt F) G_arg14 (exSt arg14 G_arg14 (k0_pay221 v181) init n).2) n)),
      ⟨rowRect n, shapeCast S256x512 (expVal (k0_pay221 v181) (stRd arg14 (arg14.view.writes (Elt F) G_arg14 (exSt arg14 G_arg14 (k0_pay221 v181) init n).2) n)) shapeCasts_S256x512_S256x512⟩ :: (exSt arg14 G_arg14 (k0_pay221 v181) init n).2) from rfl]
    generalize exSt arg14 G_arg14 (k0_pay221 v181) init n = st
    have ho : k0_off9 i ⟨n, hk⟩ = ![256 * (n % 18), 0] := congrArg (fun z => ![z, 0]) (row_word n h18)
    unfold stRd rowRect
    rw [piece_congr (F := F) (s := S4608x512) ho (k0_off9_inb i ⟨n, hk⟩), readAt_congr (F := F) (v := arg14.view) (sz := S256x512.size) ho (k0_off9_inb i ⟨n, hk⟩)]
    unfold tripR_k0_t4 tripL_k0_t4 trip_k0_t4
    rfl

/-- Loop 6 is the value loop. -/
theorem t6_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v5 : BitVec 32) (v195 : FVec F S1x512 .f32) (cst_79 : F .f32) (X_arg12 : BufTy.Contents (Elt F) arg12.view.ty) (X_arg14 : BufTy.Contents (Elt F) arg14.view.ty) (init : FVec F S64x512 .f32) (n : ℕ) (hn : n ≤ (k0_t2_loop i).trips) :
    st_k0_t6 (F := F) Variants.none c none i arg3 harg3 arg4 harg4 arg5 harg5 arg6 harg6 arg7 harg7 arg8 harg8 arg9 harg9 arg10 harg10 arg11 harg11 arg12 harg12 arg13 harg13 arg14 harg14 v5 v195 cst_79 X_arg12 X_arg14 init n = pvSt (v195) (stRd arg14 X_arg14) (vxRd arg12 X_arg12) init n := by
  induction n with
  | zero => rfl
  | succ n ih =>
    have hk : n < (k0_t6_loop i).trips := hn
    have h18 : n < 18 := trips_lt i n hn
    rw [st_k0_t6_succ Variants.none c none i arg3 harg3 arg4 harg4 arg5 harg5 arg6 harg6 arg7 harg7 arg8 harg8 arg9 harg9 arg10 harg10 arg11 harg11 arg12 harg12 arg13 harg13 arg14 harg14 v5 v195 cst_79 X_arg12 X_arg14 init ⟨n, hk⟩, ih (by omega)]
    rw [show pvSt (v195) (stRd arg14 X_arg14) (vxRd arg12 X_arg12) init (n + 1) = k0_pay231 (v195) (pvSt (v195) (stRd arg14 X_arg14) (vxRd arg12 X_arg12) init n) (stRd arg14 X_arg14 n) (vxRd arg12 X_arg12 n) from rfl]
    generalize pvSt (v195) (stRd arg14 X_arg14) (vxRd arg12 X_arg12) init n = st
    have ho : k0_off11 i ⟨n, hk⟩ = ![256 * (n % 18), 0] := congrArg (fun z => ![z, 0]) (row_word n h18)
    have ho' : k0_off12 i ⟨n, hk⟩ = ![0, 256 * (n % 18)] := congrArg (fun z => ![0, z]) (row_word n h18)
    unfold stRd vxRd rowRect
    rw [readAt_congr (F := F) (v := arg14.view) (sz := S256x512.size) ho (k0_off11_inb i ⟨n, hk⟩), readAt_congr (F := F) (v := arg12.view) (sz := S64x256.size) ho' (k0_off12_inb i ⟨n, hk⟩)]
    unfold tripR_k0_t6 trip_k0_t6
    rfl

/-- The remainder of loop 9 makes no trip. -/
theorem t9_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (arg2 : BitVec 32) (v1 : BitVec 32) (v5 : BitVec 32) (v351 : FVec F S64x128 .f32) (v354 : IVec S64x128 32) (v355 : IVec S64x128 32) (v387 : BitVec 32) (X_arg3 : BufTy.Contents (Elt F) arg3.view.ty) (X_arg11 : BufTy.Contents (Elt F) arg11.view.ty) (X_arg13 : BufTy.Contents (Elt F) arg13.view.ty) (init : FVec F S8x512 .f32) :
    st_k0_t9 (F := F) Variants.none c none i arg3 harg3 arg4 harg4 arg5 harg5 arg6 harg6 arg7 harg7 arg8 harg8 arg9 harg9 arg10 harg10 arg11 harg11 arg12 harg12 arg13 harg13 arg14 harg14 arg2 v1 v5 v351 v354 v355 v387 X_arg3 X_arg11 X_arg13 init (Scf.trips (k0_t9_loop i).lb (k0_t9_loop i).ub (k0_t9_loop i).st) = (init, []) := by
  rw [show Scf.trips (k0_t9_loop i).lb (k0_t9_loop i).ub (k0_t9_loop i).st = 0 from Scf.rem_trips _ _]; rfl

/-- The remainder of loop 11 makes no trip. -/
theorem t11_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v5 : BitVec 32) (v391 : FVec F S1x512 .f32) (v392 : FVec F S8x512 .f32) (c0_i32_172 : BitVec 32) (c1_i32_173 : BitVec 32) (v395 : BitVec 32) (G_arg14 : BufTy.Contents (Elt F) arg14.view.ty) (init : FVec F S8x512 .f32) :
    st_k0_t11 (F := F) Variants.none c none i arg3 harg3 arg4 harg4 arg5 harg5 arg6 harg6 arg7 harg7 arg8 harg8 arg9 harg9 arg10 harg10 arg11 harg11 arg12 harg12 arg13 harg13 arg14 harg14 v5 v391 v392 c0_i32_172 c1_i32_173 v395 G_arg14 init (Scf.trips (k0_t11_loop i).lb (k0_t11_loop i).ub (k0_t11_loop i).st) = (init, []) := by
  rw [show Scf.trips (k0_t11_loop i).lb (k0_t11_loop i).ub (k0_t11_loop i).st = 0 from Scf.rem_trips _ _]; rfl

/-- The remainder of loop 13 makes no trip. -/
theorem t13_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v5 : BitVec 32) (v391 : FVec F S1x512 .f32) (v392 : FVec F S8x512 .f32) (c0_i32_172 : BitVec 32) (c1_i32_173 : BitVec 32) (v395 : BitVec 32) (v399 : FVec F S8x512 .f32) (X_arg12 : BufTy.Contents (Elt F) arg12.view.ty) (X_arg14 : BufTy.Contents (Elt F) arg14.view.ty) (init : FVec F S64x512 .f32) :
    st_k0_t13 (F := F) Variants.none c none i arg3 harg3 arg4 harg4 arg5 harg5 arg6 harg6 arg7 harg7 arg8 harg8 arg9 harg9 arg10 harg10 arg11 harg11 arg12 harg12 arg13 harg13 arg14 harg14 v5 v391 v392 c0_i32_172 c1_i32_173 v395 v399 X_arg12 X_arg14 init (Scf.trips (k0_t13_loop i).lb (k0_t13_loop i).ub (k0_t13_loop i).st) = init := by
  rw [show Scf.trips (k0_t13_loop i).lb (k0_t13_loop i).ub (k0_t13_loop i).st = 0 from Scf.rem_trips _ _]; rfl

/-- Loop 8 is the score loop. -/
theorem t8_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v1 : BitVec 32) (v5 : BitVec 32) (v351 : FVec F S64x128 .f32) (v354 : IVec S64x128 32) (v355 : IVec S64x128 32) (X_arg3 : BufTy.Contents (Elt F) arg3.view.ty) (X_arg11 : BufTy.Contents (Elt F) arg11.view.ty) (X_arg13 : BufTy.Contents (Elt F) arg13.view.ty) (init : FVec F S8x512 .f32) (n : ℕ) (hn : n ≤ (k0_t2_loop i).trips) :
    st_k0_t8 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) v1 v5 v351 v354 v355 X_arg3 X_arg11 X_arg13 init n
      = scSt init (fun k => scoreVal (BitVec.ofNat 32 (i 2).val) k (kxRd arg11 X_arg11 k) (qrRd arg13 X_arg13) (skRd i arg3 X_arg3 k)) n := by
  induction n with
  | zero => rfl
  | succ n ih =>
    have hk : n < (k0_t8_loop i).trips := hn
    have h18 : n < 18 := trips_lt i n hn
    rw [st_k0_t8_succ Variants.none c none i arg3 harg3 arg4 harg4 arg5 harg5 arg6 harg6 arg7 harg7 arg8 harg8 arg9 harg9 arg10 harg10 arg11 harg11 arg12 harg12 arg13 harg13 arg14 harg14 (BitVec.ofNat 32 (i 2).val) v1 v5 v351 v354 v355 X_arg3 X_arg11 X_arg13 init ⟨n, hk⟩, ih (by omega)]
    have e11 : kxRd arg11 X_arg11 n = _ := readAt_congr (F := F) (v := arg11.view) (sz := S256x128.size) (show k0_off15 i ⟨n, hk⟩ = ![256 * (n % 18), 0] from congrArg (fun z => ![z, 0]) (row_word n h18)) (k0_off15_inb i ⟨n, hk⟩) _ X_arg11
    have e3 : ∀ g : Fin 8, skRd i arg3 X_arg3 n g.val = _ := fun g => congrFun (readAt_congr (F := F) (v := arg3.view) (sz := S1x1.size) (show k0_off16 i ⟨n, hk⟩ (BitVec.ofNat 32 g.val) = ![8 * (i 0).val + (i 1).val, 8 * (n % 18) + g.val % 8] from congrArg₂ (fun y z => ![y, z]) (bg_word i) (col_word n g.val h18 g.isLt)) (k0_off16_inb i ⟨n, hk⟩ g) _ X_arg3) _
    have eS : scSt init (fun k => scoreVal (BitVec.ofNat 32 (i 2).val) k (kxRd arg11 X_arg11 k) (qrRd arg13 X_arg13) (skRd i arg3 X_arg3 k)) (n + 1) = (maxStep (scSt init (fun k => scoreVal (BitVec.ofNat 32 (i 2).val) k (kxRd arg11 X_arg11 k) (qrRd arg13 X_arg13) (skRd i arg3 X_arg3 k)) n).1 (scoreVal (BitVec.ofNat 32 (i 2).val) n (kxRd arg11 X_arg11 n) (qrRd arg13 X_arg13) (skRd i arg3 X_arg3 n)), ⟨rowRect n, shapeCast S256x512 (scoreVal (BitVec.ofNat 32 (i 2).val) n (kxRd arg11 X_arg11 n) (qrRd arg13 X_arg13) (skRd i arg3 X_arg3 n)) shapeCasts_S256x512_S256x512⟩ :: (scSt init (fun k => scoreVal (BitVec.ofNat 32 (i 2).val) k (kxRd arg11 X_arg11 k) (qrRd arg13 X_arg13) (skRd i arg3 X_arg3 k)) n).2) := rfl
    rw [eS]
    generalize scSt init (fun k => scoreVal (BitVec.ofNat 32 (i 2).val) k (kxRd arg11 X_arg11 k) (qrRd arg13 X_arg13) (skRd i arg3 X_arg3 k)) n = st
    unfold rowRect
    rw [piece_congr (F := F) (s := S4608x512) (show k0_off17 i ⟨n, hk⟩ = ![256 * (n % 18), 0] from congrArg (fun z => ![z, 0]) (row_word n h18)) (k0_off17_inb i ⟨n, hk⟩)]
    unfold scoreVal
    rw [e11, show skRd i arg3 X_arg3 n 0 = _ from e3 0, show skRd i arg3 X_arg3 n 1 = _ from e3 1, show skRd i arg3 X_arg3 n 2 = _ from e3 2, show skRd i arg3 X_arg3 n 3 = _ from e3 3, show skRd i arg3 X_arg3 n 4 = _ from e3 4, show skRd i arg3 X_arg3 n 5 = _ from e3 5, show skRd i arg3 X_arg3 n 6 = _ from e3 6, show skRd i arg3 X_arg3 n 7 = _ from e3 7]
    unfold tripR_k0_t8 tripL_k0_t8 trip_k0_t8
    rfl

/-- Loop 10 is the exponential loop. -/
theorem t10_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v5 : BitVec 32) (v391 : FVec F S1x512 .f32) (v392 : FVec F S8x512 .f32) (v395 : BitVec 32) (G_arg14 : BufTy.Contents (Elt F) arg14.view.ty) (init : FVec F S8x512 .f32) (n : ℕ) (hn : n ≤ (k0_t2_loop i).trips) :
    st_k0_t10 (F := F) Variants.none c none i arg3 harg3 arg4 harg4 arg5 harg5 arg6 harg6 arg7 harg7 arg8 harg8 arg9 harg9 arg10 harg10 arg11 harg11 arg12 harg12 arg13 harg13 arg14 harg14 v5 v391 v392 (0#32) (1#32) v395 G_arg14 init n = exSt arg14 G_arg14 (v391) init n := by
  induction n with
  | zero => rfl
  | succ n ih =>
    have hk : n < (k0_t10_loop i).trips := hn
    have h18 : n < 18 := trips_lt i n hn
    rw [st_k0_t10_succ Variants.none c none i arg3 harg3 arg4 harg4 arg5 harg5 arg6 harg6 arg7 harg7 arg8 harg8 arg9 harg9 arg10 harg10 arg11 harg11 arg12 harg12 arg13 harg13 arg14 harg14 v5 v391 v392 (0#32) (1#32) v395 G_arg14 init ⟨n, hk⟩, ih (by omega)]
    rw [show exSt arg14 G_arg14 (v391) init (n + 1) = (addStep (exSt arg14 G_arg14 (v391) init n).1 (expVal (v391) (stRd arg14 (arg14.view.writes (Elt F) G_arg14 (exSt arg14 G_arg14 (v391) init n).2) n)),
      ⟨rowRect n, shapeCast S256x512 (expVal (v391) (stRd arg14 (arg14.view.writes (Elt F) G_arg14 (exSt arg14 G_arg14 (v391) init n).2) n)) shapeCasts_S256x512_S256x512⟩ :: (exSt arg14 G_arg14 (v391) init n).2) from rfl]
    generalize exSt arg14 G_arg14 (v391) init n = st
    have ho : k0_off21 i ⟨n, hk⟩ = ![256 * (n % 18), 0] := congrArg (fun z => ![z, 0]) (row_word n h18)
    unfold stRd rowRect
    rw [piece_congr (F := F) (s := S4608x512) ho (k0_off21_inb i ⟨n, hk⟩), readAt_congr (F := F) (v := arg14.view) (sz := S256x512.size) ho (k0_off21_inb i ⟨n, hk⟩)]
    unfold tripR_k0_t10 tripL_k0_t10 trip_k0_t10
    rfl

/-- Loop 12 is the value loop. -/
theorem t12_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v5 : BitVec 32) (v391 : FVec F S1x512 .f32) (v392 : FVec F S8x512 .f32) (v395 : BitVec 32) (v399 : FVec F S8x512 .f32) (X_arg12 : BufTy.Contents (Elt F) arg12.view.ty) (X_arg14 : BufTy.Contents (Elt F) arg14.view.ty) (init : FVec F S64x512 .f32) (n : ℕ) (hn : n ≤ (k0_t2_loop i).trips) :
    st_k0_t12 (F := F) Variants.none c none i arg3 harg3 arg4 harg4 arg5 harg5 arg6 harg6 arg7 harg7 arg8 harg8 arg9 harg9 arg10 harg10 arg11 harg11 arg12 harg12 arg13 harg13 arg14 harg14 v5 v391 v392 (0#32) (1#32) v395 v399 X_arg12 X_arg14 init n = pvSt (k0_pay229 v399) (stRd arg14 X_arg14) (vxRd arg12 X_arg12) init n := by
  induction n with
  | zero => rfl
  | succ n ih =>
    have hk : n < (k0_t12_loop i).trips := hn
    have h18 : n < 18 := trips_lt i n hn
    rw [st_k0_t12_succ Variants.none c none i arg3 harg3 arg4 harg4 arg5 harg5 arg6 harg6 arg7 harg7 arg8 harg8 arg9 harg9 arg10 harg10 arg11 harg11 arg12 harg12 arg13 harg13 arg14 harg14 v5 v391 v392 (0#32) (1#32) v395 v399 X_arg12 X_arg14 init ⟨n, hk⟩, ih (by omega)]
    rw [show pvSt (k0_pay229 v399) (stRd arg14 X_arg14) (vxRd arg12 X_arg12) init (n + 1) = k0_pay231 (k0_pay229 v399) (pvSt (k0_pay229 v399) (stRd arg14 X_arg14) (vxRd arg12 X_arg12) init n) (stRd arg14 X_arg14 n) (vxRd arg12 X_arg12 n) from rfl]
    generalize pvSt (k0_pay229 v399) (stRd arg14 X_arg14) (vxRd arg12 X_arg12) init n = st
    have ho : k0_off23 i ⟨n, hk⟩ = ![256 * (n % 18), 0] := congrArg (fun z => ![z, 0]) (row_word n h18)
    have ho' : k0_off24 i ⟨n, hk⟩ = ![0, 256 * (n % 18)] := congrArg (fun z => ![0, z]) (row_word n h18)
    unfold stRd vxRd rowRect
    rw [readAt_congr (F := F) (v := arg14.view) (sz := S256x512.size) ho (k0_off23_inb i ⟨n, hk⟩), readAt_congr (F := F) (v := arg12.view) (sz := S64x256.size) ho' (k0_off24_inb i ⟨n, hk⟩)]
    unfold tripR_k0_t12 trip_k0_t12
    rfl

/-- The remainder of loop 15 makes no trip. -/
theorem t15_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (arg2 : BitVec 32) (v1 : BitVec 32) (v595 : BitVec 32) (X_arg3 : BufTy.Contents (Elt F) arg3.view.ty) (X_arg11 : BufTy.Contents (Elt F) arg11.view.ty) (X_arg13 : BufTy.Contents (Elt F) arg13.view.ty) (init : FVec F S8x512 .f32) :
    st_k0_t15 (F := F) Variants.none c none i arg3 harg3 arg4 harg4 arg5 harg5 arg6 harg6 arg7 harg7 arg8 harg8 arg9 harg9 arg10 harg10 arg11 harg11 arg12 harg12 arg13 harg13 arg14 harg14 arg2 v1 v595 X_arg3 X_arg11 X_arg13 init (Scf.trips (k0_t15_loop i).lb (k0_t15_loop i).ub (k0_t15_loop i).st) = (init, []) := by
  rw [show Scf.trips (k0_t15_loop i).lb (k0_t15_loop i).ub (k0_t15_loop i).st = 0 from Scf.rem_trips _ _]; rfl

/-- The remainder of loop 17 makes no trip. -/
theorem t17_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v597 : FVec F S8x512 .f32) (G_arg14 : BufTy.Contents (Elt F) arg14.view.ty) (init : FVec F S8x512 .f32) :
    st_k0_t17 (F := F) Variants.none c none i arg3 harg3 arg4 harg4 arg5 harg5 arg6 harg6 arg7 harg7 arg8 harg8 arg9 harg9 arg10 harg10 arg11 harg11 arg12 harg12 arg13 harg13 arg14 harg14 v597 G_arg14 init (Scf.trips (k0_t17_loop i).lb (k0_t17_loop i).ub (k0_t17_loop i).st) = (init, []) := by
  rw [show Scf.trips (k0_t17_loop i).lb (k0_t17_loop i).ub (k0_t17_loop i).st = 0 from Scf.rem_trips _ _]; rfl

/-- The remainder of loop 19 makes no trip. -/
theorem t19_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v607 : FVec F S8x512 .f32) (X_arg12 : BufTy.Contents (Elt F) arg12.view.ty) (X_arg14 : BufTy.Contents (Elt F) arg14.view.ty) (init : FVec F S64x512 .f32) :
    st_k0_t19 (F := F) Variants.none c none i arg3 harg3 arg4 harg4 arg5 harg5 arg6 harg6 arg7 harg7 arg8 harg8 arg9 harg9 arg10 harg10 arg11 harg11 arg12 harg12 arg13 harg13 arg14 harg14 v607 X_arg12 X_arg14 init (Scf.trips (k0_t19_loop i).lb (k0_t19_loop i).ub (k0_t19_loop i).st) = init := by
  rw [show Scf.trips (k0_t19_loop i).lb (k0_t19_loop i).ub (k0_t19_loop i).st = 0 from Scf.rem_trips _ _]; rfl

/-- Loop 14 is the score loop. -/
theorem t14_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v1 : BitVec 32) (X_arg3 : BufTy.Contents (Elt F) arg3.view.ty) (X_arg11 : BufTy.Contents (Elt F) arg11.view.ty) (X_arg13 : BufTy.Contents (Elt F) arg13.view.ty) (init : FVec F S8x512 .f32) (n : ℕ) (hn : n ≤ (k0_t2_loop i).trips) :
    st_k0_t14 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) v1 (0#32) (1#32) X_arg3 X_arg11 X_arg13 init n
      = scSt init (fun k => scoreVal (BitVec.ofNat 32 (i 2).val) k (kxRd arg11 X_arg11 k) (qrRd arg13 X_arg13) (skRd i arg3 X_arg3 k)) n := by
  induction n with
  | zero => rfl
  | succ n ih =>
    have hk : n < (k0_t14_loop i).trips := hn
    have h18 : n < 18 := trips_lt i n hn
    rw [st_k0_t14_succ Variants.none c none i arg3 harg3 arg4 harg4 arg5 harg5 arg6 harg6 arg7 harg7 arg8 harg8 arg9 harg9 arg10 harg10 arg11 harg11 arg12 harg12 arg13 harg13 arg14 harg14 (BitVec.ofNat 32 (i 2).val) v1 (0#32) (1#32) X_arg3 X_arg11 X_arg13 init ⟨n, hk⟩, ih (by omega)]
    have e11 : kxRd arg11 X_arg11 n = _ := readAt_congr (F := F) (v := arg11.view) (sz := S256x128.size) (show k0_off27 i ⟨n, hk⟩ = ![256 * (n % 18), 0] from congrArg (fun z => ![z, 0]) (row_word n h18)) (k0_off27_inb i ⟨n, hk⟩) _ X_arg11
    have e3 : ∀ g : Fin 8, skRd i arg3 X_arg3 n g.val = _ := fun g => congrFun (readAt_congr (F := F) (v := arg3.view) (sz := S1x1.size) (show k0_off28 i ⟨n, hk⟩ (BitVec.ofNat 32 g.val) = ![8 * (i 0).val + (i 1).val, 8 * (n % 18) + g.val % 8] from congrArg₂ (fun y z => ![y, z]) (bg_word i) (col_word n g.val h18 g.isLt)) (k0_off28_inb i ⟨n, hk⟩ g) _ X_arg3) _
    have eS : scSt init (fun k => scoreVal (BitVec.ofNat 32 (i 2).val) k (kxRd arg11 X_arg11 k) (qrRd arg13 X_arg13) (skRd i arg3 X_arg3 k)) (n + 1) = (maxStep (scSt init (fun k => scoreVal (BitVec.ofNat 32 (i 2).val) k (kxRd arg11 X_arg11 k) (qrRd arg13 X_arg13) (skRd i arg3 X_arg3 k)) n).1 (scoreVal (BitVec.ofNat 32 (i 2).val) n (kxRd arg11 X_arg11 n) (qrRd arg13 X_arg13) (skRd i arg3 X_arg3 n)), ⟨rowRect n, shapeCast S256x512 (scoreVal (BitVec.ofNat 32 (i 2).val) n (kxRd arg11 X_arg11 n) (qrRd arg13 X_arg13) (skRd i arg3 X_arg3 n)) shapeCasts_S256x512_S256x512⟩ :: (scSt init (fun k => scoreVal (BitVec.ofNat 32 (i 2).val) k (kxRd arg11 X_arg11 k) (qrRd arg13 X_arg13) (skRd i arg3 X_arg3 k)) n).2) := rfl
    rw [eS]
    generalize scSt init (fun k => scoreVal (BitVec.ofNat 32 (i 2).val) k (kxRd arg11 X_arg11 k) (qrRd arg13 X_arg13) (skRd i arg3 X_arg3 k)) n = st
    unfold rowRect
    rw [piece_congr (F := F) (s := S4608x512) (show k0_off29 i ⟨n, hk⟩ = ![256 * (n % 18), 0] from congrArg (fun z => ![z, 0]) (row_word n h18)) (k0_off29_inb i ⟨n, hk⟩)]
    unfold scoreVal
    rw [e11, show skRd i arg3 X_arg3 n 0 = _ from e3 0, show skRd i arg3 X_arg3 n 1 = _ from e3 1, show skRd i arg3 X_arg3 n 2 = _ from e3 2, show skRd i arg3 X_arg3 n 3 = _ from e3 3, show skRd i arg3 X_arg3 n 4 = _ from e3 4, show skRd i arg3 X_arg3 n 5 = _ from e3 5, show skRd i arg3 X_arg3 n 6 = _ from e3 6, show skRd i arg3 X_arg3 n 7 = _ from e3 7]
    unfold tripR_k0_t14 tripL_k0_t14 trip_k0_t14
    rfl

/-- Loop 16 is the exponential loop. -/
theorem t16_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v597 : FVec F S8x512 .f32) (G_arg14 : BufTy.Contents (Elt F) arg14.view.ty) (init : FVec F S8x512 .f32) (n : ℕ) (hn : n ≤ (k0_t2_loop i).trips) :
    st_k0_t16 (F := F) Variants.none c none i arg3 harg3 arg4 harg4 arg5 harg5 arg6 harg6 arg7 harg7 arg8 harg8 arg9 harg9 arg10 harg10 arg11 harg11 arg12 harg12 arg13 harg13 arg14 harg14 v597 G_arg14 init n = exSt arg14 G_arg14 (k0_pay221 v597) init n := by
  induction n with
  | zero => rfl
  | succ n ih =>
    have hk : n < (k0_t16_loop i).trips := hn
    have h18 : n < 18 := trips_lt i n hn
    rw [st_k0_t16_succ Variants.none c none i arg3 harg3 arg4 harg4 arg5 harg5 arg6 harg6 arg7 harg7 arg8 harg8 arg9 harg9 arg10 harg10 arg11 harg11 arg12 harg12 arg13 harg13 arg14 harg14 v597 G_arg14 init ⟨n, hk⟩, ih (by omega)]
    rw [show exSt arg14 G_arg14 (k0_pay221 v597) init (n + 1) = (addStep (exSt arg14 G_arg14 (k0_pay221 v597) init n).1 (expVal (k0_pay221 v597) (stRd arg14 (arg14.view.writes (Elt F) G_arg14 (exSt arg14 G_arg14 (k0_pay221 v597) init n).2) n)),
      ⟨rowRect n, shapeCast S256x512 (expVal (k0_pay221 v597) (stRd arg14 (arg14.view.writes (Elt F) G_arg14 (exSt arg14 G_arg14 (k0_pay221 v597) init n).2) n)) shapeCasts_S256x512_S256x512⟩ :: (exSt arg14 G_arg14 (k0_pay221 v597) init n).2) from rfl]
    generalize exSt arg14 G_arg14 (k0_pay221 v597) init n = st
    have ho : k0_off33 i ⟨n, hk⟩ = ![256 * (n % 18), 0] := congrArg (fun z => ![z, 0]) (row_word n h18)
    unfold stRd rowRect
    rw [piece_congr (F := F) (s := S4608x512) ho (k0_off33_inb i ⟨n, hk⟩), readAt_congr (F := F) (v := arg14.view) (sz := S256x512.size) ho (k0_off33_inb i ⟨n, hk⟩)]
    unfold tripR_k0_t16 tripL_k0_t16 trip_k0_t16
    rfl

/-- Loop 18 is the value loop. -/
theorem t18_eq (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v607 : FVec F S8x512 .f32) (X_arg12 : BufTy.Contents (Elt F) arg12.view.ty) (X_arg14 : BufTy.Contents (Elt F) arg14.view.ty) (init : FVec F S64x512 .f32) (n : ℕ) (hn : n ≤ (k0_t2_loop i).trips) :
    st_k0_t18 (F := F) Variants.none c none i arg3 harg3 arg4 harg4 arg5 harg5 arg6 harg6 arg7 harg7 arg8 harg8 arg9 harg9 arg10 harg10 arg11 harg11 arg12 harg12 arg13 harg13 arg14 harg14 v607 X_arg12 X_arg14 init n = pvSt (k0_pay229 v607) (stRd arg14 X_arg14) (vxRd arg12 X_arg12) init n := by
  induction n with
  | zero => rfl
  | succ n ih =>
    have hk : n < (k0_t18_loop i).trips := hn
    have h18 : n < 18 := trips_lt i n hn
    rw [st_k0_t18_succ Variants.none c none i arg3 harg3 arg4 harg4 arg5 harg5 arg6 harg6 arg7 harg7 arg8 harg8 arg9 harg9 arg10 harg10 arg11 harg11 arg12 harg12 arg13 harg13 arg14 harg14 v607 X_arg12 X_arg14 init ⟨n, hk⟩, ih (by omega)]
    rw [show pvSt (k0_pay229 v607) (stRd arg14 X_arg14) (vxRd arg12 X_arg12) init (n + 1) = k0_pay231 (k0_pay229 v607) (pvSt (k0_pay229 v607) (stRd arg14 X_arg14) (vxRd arg12 X_arg12) init n) (stRd arg14 X_arg14 n) (vxRd arg12 X_arg12 n) from rfl]
    generalize pvSt (k0_pay229 v607) (stRd arg14 X_arg14) (vxRd arg12 X_arg12) init n = st
    have ho : k0_off35 i ⟨n, hk⟩ = ![256 * (n % 18), 0] := congrArg (fun z => ![z, 0]) (row_word n h18)
    have ho' : k0_off36 i ⟨n, hk⟩ = ![0, 256 * (n % 18)] := congrArg (fun z => ![0, z]) (row_word n h18)
    unfold stRd vxRd rowRect
    rw [readAt_congr (F := F) (v := arg14.view) (sz := S256x512.size) ho (k0_off35_inb i ⟨n, hk⟩), readAt_congr (F := F) (v := arg12.view) (sz := S64x256.size) ho' (k0_off36_inb i ⟨n, hk⟩)]
    unfold tripR_k0_t18 trip_k0_t18
    rfl

end Cert.KernelIdeal.Gen
-- ==== Proof.KernelIdealPair.lean ====
module
public import proofs.«01_k».proof.Proof.KernelIdealTrips
public import Idealize.ShloMosaic.Lib.Pipeline.Value
public import Idealize.ShloMosaic.Lib.WritesUnit

@[expose] public section
set_option maxHeartbeats 0
set_option maxRecDepth 16384
noncomputable section
open Idealize.ShloMosaic Idealize.ShloMosaic.TcCoe Idealize.SL.Sem
namespace Cert.KernelIdeal.Gen
open Cert.KernelIdeal
variable {F : FTy → Type} [FloatOps F] [Named F]

/-! ## One head pair, without its scratch arrays

What the stash holds in the first `n` blocks is what the loops last stored there, so a pair's result is a
function of the scores and the scaled values alone. -/

/-- Blocks `0` to `n - 1` of the stash, the last stored first. -/
def blocks (S : ℕ → FVec F S256x512 .f32) : ℕ → List (View.Piece (Elt F) S4608x512 .f32)
  | 0 => []
  | k + 1 => ⟨rowRect k, S k⟩ :: blocks S k

/-- The running maximum over `n` blocks. -/
def foldMax (init : FVec F S8x512 .f32) (S : ℕ → FVec F S256x512 .f32) : ℕ → FVec F S8x512 .f32
  | 0 => init
  | k + 1 => maxStep (foldMax init S k) (S k)

/-- The running sum over `n` blocks. -/
def foldAdd (init : FVec F S8x512 .f32) (E : ℕ → FVec F S256x512 .f32) : ℕ → FVec F S8x512 .f32
  | 0 => init
  | k + 1 => addStep (foldAdd init E k) (E k)

/-- The exponentials of block `k`: the scores less the maximum of the first `n` blocks. -/
def pairExp (n : ℕ) (S : ℕ → FVec F S256x512 .f32) (k : ℕ) : FVec F S256x512 .f32 :=
  expVal (k0_pay221 (foldMax k0_pay214 S n)) (S k)

/-- A head pair's result from its scores and scaled values. -/
def pairVal (n : ℕ) (S : ℕ → FVec F S256x512 .f32) (vx : ℕ → Vec F S64x256 .bf16) : FVec F S64x512 .f32 :=
  pvSt (k0_pay229 (foldAdd k0_pay222 (pairExp n S) n)) (pairExp n S) vx (k0_pay230 (Scalar.ofBits .f32 0x00000000#32)) n

/-- The score loop after some rounds: the running maximum and the stored scores. -/
theorem scSt_eq (init : FVec F S8x512 .f32) (S : ℕ → FVec F S256x512 .f32) (n : ℕ) : scSt init S n = (foldMax init S n, blocks S n) := by
  induction n with
  | zero => rfl
  | succ n ih =>
    simp only [scSt, ih, foldMax, blocks]
    rw [shapeCast_self]

/-- A block just written reads back. -/
theorem stRd_cons_self (arg14 : Memref sig .tc .vmem S4608x512 .f32) (X : BufTy.Contents (Elt F) arg14.view.ty) (k : ℕ) (w : FVec F S256x512 .f32)
    (L : List (View.Piece (Elt F) S4608x512 .f32)) : stRd arg14 (arg14.view.writes (Elt F) X (⟨rowRect k, w⟩ :: L)) k = w := by
  funext x
  exact View.read_writes_cons_emb arg14.view X (rowRect k) w L x

/-- A block is not changed by writing another. -/
theorem stRd_cons_ne (arg14 : Memref sig .tc .vmem S4608x512 .f32) (X : BufTy.Contents (Elt F) arg14.view.ty) (k j : ℕ) (w : FVec F S256x512 .f32)
    (L : List (View.Piece (Elt F) S4608x512 .f32)) (hk : k < 18) (hj : j < 18) (h : j ≠ k) :
    stRd arg14 (arg14.view.writes (Elt F) X (⟨rowRect k, w⟩ :: L)) j = stRd arg14 (arg14.view.writes (Elt F) X L) j := by
  funext x
  refine View.read_writes_cons_rows_of_not_mem arg14.view X (o := 256 * (k % 18)) (W := 256) _ w L _ rfl rfl ?_
  have hx : (x 0).val < 256 := (x 0).isLt
  have e : (((rowRect j).toLoadRect.idx x) (0 : Fin 2)).val = 256 * (j % 18) + 1 * (x 0).val := rfl
  rw [e, Nat.mod_eq_of_lt hk, Nat.mod_eq_of_lt hj]
  omega

/-- A block of those written reads back. -/
theorem stRd_blocks (arg14 : Memref sig .tc .vmem S4608x512 .f32) (X : BufTy.Contents (Elt F) arg14.view.ty) (S : ℕ → FVec F S256x512 .f32)
    (n : ℕ) (hn : n ≤ 18) (j : ℕ) (hj : j < 18) :
    stRd arg14 (arg14.view.writes (Elt F) X (blocks S n)) j = if j < n then S j else stRd arg14 X j := by
  induction n with
  | zero => simp [blocks]
  | succ n ih =>
    by_cases h : j = n
    · subst h; rw [if_pos (by omega)]; exact stRd_cons_self ..
    · refine (stRd_cons_ne arg14 X n j (S n) (blocks S n) (by omega) hj h).trans ?_
      rw [ih (by omega)]
      by_cases h' : j < n
      · rw [if_pos h', if_pos (by omega)]
      · rw [if_neg h', if_neg (by omega)]

/-- Equal blocks, equal running sums. -/
theorem foldAdd_congr (init : FVec F S8x512 .f32) {E E' : ℕ → FVec F S256x512 .f32} (n : ℕ) (h : ∀ k < n, E k = E' k) : foldAdd init E n = foldAdd init E' n := by
  induction n with
  | zero => rfl
  | succ n ih => rw [foldAdd, foldAdd, ih fun k hk => h k (by omega), h n (by omega)]

/-- Equal blocks, equal lists of pieces. -/
theorem blocks_congr {E E' : ℕ → FVec F S256x512 .f32} (n : ℕ) (h : ∀ k < n, E k = E' k) : blocks E n = blocks E' n := by
  induction n with
  | zero => rfl
  | succ n ih => rw [blocks, blocks, ih fun k hk => h k (by omega), h n (by omega)]

/-- The exponential loop after some rounds. -/
theorem exSt_eq (arg14 : Memref sig .tc .vmem S4608x512 .f32) (G : BufTy.Contents (Elt F) arg14.view.ty) (m : FVec F S1x512 .f32) (init : FVec F S8x512 .f32)
    (n : ℕ) (hn : n ≤ 18) : exSt arg14 G m init n = (foldAdd init (fun k => expVal m (stRd arg14 G k)) n, blocks (fun k => expVal m (stRd arg14 G k)) n) := by
  induction n with
  | zero => rfl
  | succ n ih =>
    rw [exSt, ih (by omega)]
    dsimp only
    rw [stRd_blocks arg14 G _ n (by omega) n (by omega), if_neg (by omega), shapeCast_self]
    rfl

/-- The exponential loop at its end, over the scores written before it. -/
theorem exSt_fin (arg14 : Memref sig .tc .vmem S4608x512 .f32) (f : BufTy.Contents (Elt F) arg14.view.ty) (S : ℕ → FVec F S256x512 .f32) (m : FVec F S1x512 .f32) (init : FVec F S8x512 .f32)
    (i : grid0.Coords) (L : List (View.Piece (Elt F) S4608x512 .f32)) :
    exSt arg14 (arg14.view.writes (Elt F) f (blocks S ((i 2).val + 1) ++ L)) m init ((i 2).val + 1)
      = (foldAdd init (fun k => expVal m (S k)) ((i 2).val + 1), blocks (fun k => expVal m (S k)) ((i 2).val + 1)) := by
  have h2 : (i 2).val < 18 := (i 2).isLt
  rw [View.writes_append, exSt_eq _ _ _ _ _ (by omega)]
  have h : ∀ k < (i 2).val + 1, expVal m (stRd arg14 (arg14.view.writes (Elt F) (arg14.view.writes (Elt F) f L) (blocks S ((i 2).val + 1))) k) = expVal m (S k) := by
    intro k hk
    rw [stRd_blocks _ _ _ _ (by omega) _ (by omega), if_pos hk]
  rw [foldAdd_congr _ _ h, blocks_congr _ h]

/-- The exponential loop at its end, as the program writes it. -/
theorem exSt_fin' (arg14 : Memref sig .tc .vmem S4608x512 .f32) (f : BufTy.Contents (Elt F) arg14.view.ty) (S : ℕ → FVec F S256x512 .f32) (m : FVec F S1x512 .f32) (init : FVec F S8x512 .f32)
    (i : grid0.Coords) :
    exSt arg14 (arg14.view.writes (Elt F) f (blocks S ((i 2).val + 1))) m init ((i 2).val + 1)
      = (foldAdd init (fun k => expVal m (S k)) ((i 2).val + 1), blocks (fun k => expVal m (S k)) ((i 2).val + 1)) := by
  have h := exSt_fin arg14 f S m init i []
  rwa [List.append_nil] at h

/-- The product loop at its end, over the exponentials written before it. -/
theorem pvSt_fin (arg14 : Memref sig .tc .vmem S4608x512 .f32) (f : BufTy.Contents (Elt F) arg14.view.ty) (E : ℕ → FVec F S256x512 .f32) (c : FVec F S1x512 .f32)
    (vx : ℕ → Vec F S64x256 .bf16) (init : FVec F S64x512 .f32) (i : grid0.Coords) (L : List (View.Piece (Elt F) S4608x512 .f32)) :
    pvSt c (stRd arg14 (arg14.view.writes (Elt F) f (blocks E ((i 2).val + 1) ++ L))) vx init ((i 2).val + 1) = pvSt c E vx init ((i 2).val + 1) := by
  have h2 : (i 2).val < 18 := (i 2).isLt
  rw [View.writes_append]
  generalize arg14.view.writes (Elt F) f L = g
  have key : ∀ n ≤ (i 2).val + 1, pvSt c (stRd arg14 (arg14.view.writes (Elt F) g (blocks E ((i 2).val + 1)))) vx init n = pvSt c E vx init n := by
    intro n
    induction n with
    | zero => intro _; rfl
    | succ n ih =>
      intro hn
      rw [pvSt, pvSt, ih (by omega), stRd_blocks _ _ _ _ (by omega) _ (by omega), if_pos (by omega)]
  exact key _ le_rfl

/-- The product loop at its end, as the program writes it. -/
theorem pvSt_fin' (arg14 : Memref sig .tc .vmem S4608x512 .f32) (f : BufTy.Contents (Elt F) arg14.view.ty) (E : ℕ → FVec F S256x512 .f32) (c : FVec F S1x512 .f32)
    (vx : ℕ → Vec F S64x256 .bf16) (init : FVec F S64x512 .f32) (i : grid0.Coords) :
    pvSt c (stRd arg14 (arg14.view.writes (Elt F) f (blocks E ((i 2).val + 1)))) vx init ((i 2).val + 1) = pvSt c E vx init ((i 2).val + 1) := by
  have h := pvSt_fin arg14 f E c vx init i []
  rwa [List.append_nil] at h

/-- One counted loop, run to its end. -/
theorem t2_fin (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v1 : BitVec 32) (v5 : BitVec 32) (v143 : FVec F S64x128 .f32) (v155 : FVec F S64x128 .bf16) (X_arg3 : BufTy.Contents (Elt F) arg3.view.ty) (X_arg11 : BufTy.Contents (Elt F) arg11.view.ty) (X_arg13 : BufTy.Contents (Elt F) arg13.view.ty) (init : FVec F S8x512 .f32) :
    st_k0_t2 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) v1 v5 v143 v155 X_arg3 X_arg11 X_arg13 init (Scf.trips (k0_t2_loop i).lb (k0_t2_loop i).ub (k0_t2_loop i).st) = (foldMax init (fun k => scoreVal (BitVec.ofNat 32 (i 2).val) k (kxRd arg11 X_arg11 k) (qrRd arg13 X_arg13) (skRd i arg3 X_arg3 k)) ((i 2).val + 1), blocks (fun k => scoreVal (BitVec.ofNat 32 (i 2).val) k (kxRd arg11 X_arg11 k) (qrRd arg13 X_arg13) (skRd i arg3 X_arg3 k)) ((i 2).val + 1)) := by
  rw [show Scf.trips (k0_t2_loop i).lb (k0_t2_loop i).ub (k0_t2_loop i).st = (i 2).val + 1 from trips_main i]
  exact (t2_eq c i arg3 harg3 arg4 harg4 arg5 harg5 arg6 harg6 arg7 harg7 arg8 harg8 arg9 harg9 arg10 harg10 arg11 harg11 arg12 harg12 arg13 harg13 arg14 harg14 v1 v5 v143 v155 X_arg3 X_arg11 X_arg13 init ((i 2).val + 1) (le_of_eq (trips_main i).symm)).trans (scSt_eq _ _ _)

/-- One counted loop, run to its end. -/
theorem t4_fin (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (arg2 : BitVec 32) (v1 : BitVec 32) (v5 : BitVec 32) (v143 : FVec F S64x128 .f32) (v155 : FVec F S64x128 .bf16) (v181 : FVec F S8x512 .f32) (G_arg14 : BufTy.Contents (Elt F) arg14.view.ty) (init : FVec F S8x512 .f32) :
    st_k0_t4 (F := F) Variants.none c none i arg3 harg3 arg4 harg4 arg5 harg5 arg6 harg6 arg7 harg7 arg8 harg8 arg9 harg9 arg10 harg10 arg11 harg11 arg12 harg12 arg13 harg13 arg14 harg14 arg2 v1 v5 v143 v155 v181 G_arg14 init (Scf.trips (k0_t4_loop i).lb (k0_t4_loop i).ub (k0_t4_loop i).st) = exSt arg14 G_arg14 (k0_pay221 v181) init ((i 2).val + 1) := by
  rw [show Scf.trips (k0_t4_loop i).lb (k0_t4_loop i).ub (k0_t4_loop i).st = (i 2).val + 1 from trips_main i]
  exact (t4_eq c i arg3 harg3 arg4 harg4 arg5 harg5 arg6 harg6 arg7 harg7 arg8 harg8 arg9 harg9 arg10 harg10 arg11 harg11 arg12 harg12 arg13 harg13 arg14 harg14 arg2 v1 v5 v143 v155 v181 G_arg14 init ((i 2).val + 1) (le_of_eq (trips_main i).symm))

/-- One counted loop, run to its end. -/
theorem t6_fin (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v5 : BitVec 32) (v195 : FVec F S1x512 .f32) (cst_79 : F .f32) (X_arg12 : BufTy.Contents (Elt F) arg12.view.ty) (X_arg14 : BufTy.Contents (Elt F) arg14.view.ty) (init : FVec F S64x512 .f32) :
    st_k0_t6 (F := F) Variants.none c none i arg3 harg3 arg4 harg4 arg5 harg5 arg6 harg6 arg7 harg7 arg8 harg8 arg9 harg9 arg10 harg10 arg11 harg11 arg12 harg12 arg13 harg13 arg14 harg14 v5 v195 cst_79 X_arg12 X_arg14 init (Scf.trips (k0_t6_loop i).lb (k0_t6_loop i).ub (k0_t6_loop i).st) = pvSt (v195) (stRd arg14 X_arg14) (vxRd arg12 X_arg12) init ((i 2).val + 1) := by
  rw [show Scf.trips (k0_t6_loop i).lb (k0_t6_loop i).ub (k0_t6_loop i).st = (i 2).val + 1 from trips_main i]
  exact (t6_eq c i arg3 harg3 arg4 harg4 arg5 harg5 arg6 harg6 arg7 harg7 arg8 harg8 arg9 harg9 arg10 harg10 arg11 harg11 arg12 harg12 arg13 harg13 arg14 harg14 v5 v195 cst_79 X_arg12 X_arg14 init ((i 2).val + 1) (le_of_eq (trips_main i).symm))

/-- One counted loop, run to its end. -/
theorem t8_fin (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v1 : BitVec 32) (v5 : BitVec 32) (v351 : FVec F S64x128 .f32) (v354 : IVec S64x128 32) (v355 : IVec S64x128 32) (X_arg3 : BufTy.Contents (Elt F) arg3.view.ty) (X_arg11 : BufTy.Contents (Elt F) arg11.view.ty) (X_arg13 : BufTy.Contents (Elt F) arg13.view.ty) (init : FVec F S8x512 .f32) :
    st_k0_t8 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) v1 v5 v351 v354 v355 X_arg3 X_arg11 X_arg13 init (Scf.trips (k0_t8_loop i).lb (k0_t8_loop i).ub (k0_t8_loop i).st) = (foldMax init (fun k => scoreVal (BitVec.ofNat 32 (i 2).val) k (kxRd arg11 X_arg11 k) (qrRd arg13 X_arg13) (skRd i arg3 X_arg3 k)) ((i 2).val + 1), blocks (fun k => scoreVal (BitVec.ofNat 32 (i 2).val) k (kxRd arg11 X_arg11 k) (qrRd arg13 X_arg13) (skRd i arg3 X_arg3 k)) ((i 2).val + 1)) := by
  rw [show Scf.trips (k0_t8_loop i).lb (k0_t8_loop i).ub (k0_t8_loop i).st = (i 2).val + 1 from trips_main i]
  exact (t8_eq c i arg3 harg3 arg4 harg4 arg5 harg5 arg6 harg6 arg7 harg7 arg8 harg8 arg9 harg9 arg10 harg10 arg11 harg11 arg12 harg12 arg13 harg13 arg14 harg14 v1 v5 v351 v354 v355 X_arg3 X_arg11 X_arg13 init ((i 2).val + 1) (le_of_eq (trips_main i).symm)).trans (scSt_eq _ _ _)

/-- One counted loop, run to its end. -/
theorem t10_fin (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v5 : BitVec 32) (v391 : FVec F S1x512 .f32) (v392 : FVec F S8x512 .f32) (v395 : BitVec 32) (G_arg14 : BufTy.Contents (Elt F) arg14.view.ty) (init : FVec F S8x512 .f32) :
    st_k0_t10 (F := F) Variants.none c none i arg3 harg3 arg4 harg4 arg5 harg5 arg6 harg6 arg7 harg7 arg8 harg8 arg9 harg9 arg10 harg10 arg11 harg11 arg12 harg12 arg13 harg13 arg14 harg14 v5 v391 v392 (0#32) (1#32) v395 G_arg14 init (Scf.trips (k0_t10_loop i).lb (k0_t10_loop i).ub (k0_t10_loop i).st) = exSt arg14 G_arg14 (v391) init ((i 2).val + 1) := by
  rw [show Scf.trips (k0_t10_loop i).lb (k0_t10_loop i).ub (k0_t10_loop i).st = (i 2).val + 1 from trips_main i]
  exact (t10_eq c i arg3 harg3 arg4 harg4 arg5 harg5 arg6 harg6 arg7 harg7 arg8 harg8 arg9 harg9 arg10 harg10 arg11 harg11 arg12 harg12 arg13 harg13 arg14 harg14 v5 v391 v392 v395 G_arg14 init ((i 2).val + 1) (le_of_eq (trips_main i).symm))

/-- One counted loop, run to its end. -/
theorem t12_fin (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v5 : BitVec 32) (v391 : FVec F S1x512 .f32) (v392 : FVec F S8x512 .f32) (v395 : BitVec 32) (v399 : FVec F S8x512 .f32) (X_arg12 : BufTy.Contents (Elt F) arg12.view.ty) (X_arg14 : BufTy.Contents (Elt F) arg14.view.ty) (init : FVec F S64x512 .f32) :
    st_k0_t12 (F := F) Variants.none c none i arg3 harg3 arg4 harg4 arg5 harg5 arg6 harg6 arg7 harg7 arg8 harg8 arg9 harg9 arg10 harg10 arg11 harg11 arg12 harg12 arg13 harg13 arg14 harg14 v5 v391 v392 (0#32) (1#32) v395 v399 X_arg12 X_arg14 init (Scf.trips (k0_t12_loop i).lb (k0_t12_loop i).ub (k0_t12_loop i).st) = pvSt (k0_pay229 v399) (stRd arg14 X_arg14) (vxRd arg12 X_arg12) init ((i 2).val + 1) := by
  rw [show Scf.trips (k0_t12_loop i).lb (k0_t12_loop i).ub (k0_t12_loop i).st = (i 2).val + 1 from trips_main i]
  exact (t12_eq c i arg3 harg3 arg4 harg4 arg5 harg5 arg6 harg6 arg7 harg7 arg8 harg8 arg9 harg9 arg10 harg10 arg11 harg11 arg12 harg12 arg13 harg13 arg14 harg14 v5 v391 v392 v395 v399 X_arg12 X_arg14 init ((i 2).val + 1) (le_of_eq (trips_main i).symm))

/-- One counted loop, run to its end. -/
theorem t14_fin (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v1 : BitVec 32) (X_arg3 : BufTy.Contents (Elt F) arg3.view.ty) (X_arg11 : BufTy.Contents (Elt F) arg11.view.ty) (X_arg13 : BufTy.Contents (Elt F) arg13.view.ty) (init : FVec F S8x512 .f32) :
    st_k0_t14 (F := F) Variants.none c none i arg3 harg3 arg4 harg4 arg5 harg5 arg6 harg6 arg7 harg7 arg8 harg8 arg9 harg9 arg10 harg10 arg11 harg11 arg12 harg12 arg13 harg13 arg14 harg14 (BitVec.ofNat 32 (i 2).val) v1 (0#32) (1#32) X_arg3 X_arg11 X_arg13 init (Scf.trips (k0_t14_loop i).lb (k0_t14_loop i).ub (k0_t14_loop i).st) = (foldMax init (fun k => scoreVal (BitVec.ofNat 32 (i 2).val) k (kxRd arg11 X_arg11 k) (qrRd arg13 X_arg13) (skRd i arg3 X_arg3 k)) ((i 2).val + 1), blocks (fun k => scoreVal (BitVec.ofNat 32 (i 2).val) k (kxRd arg11 X_arg11 k) (qrRd arg13 X_arg13) (skRd i arg3 X_arg3 k)) ((i 2).val + 1)) := by
  rw [show Scf.trips (k0_t14_loop i).lb (k0_t14_loop i).ub (k0_t14_loop i).st = (i 2).val + 1 from trips_main i]
  exact (t14_eq c i arg3 harg3 arg4 harg4 arg5 harg5 arg6 harg6 arg7 harg7 arg8 harg8 arg9 harg9 arg10 harg10 arg11 harg11 arg12 harg12 arg13 harg13 arg14 harg14 v1 X_arg3 X_arg11 X_arg13 init ((i 2).val + 1) (le_of_eq (trips_main i).symm)).trans (scSt_eq _ _ _)

/-- One counted loop, run to its end. -/
theorem t16_fin (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v597 : FVec F S8x512 .f32) (G_arg14 : BufTy.Contents (Elt F) arg14.view.ty) (init : FVec F S8x512 .f32) :
    st_k0_t16 (F := F) Variants.none c none i arg3 harg3 arg4 harg4 arg5 harg5 arg6 harg6 arg7 harg7 arg8 harg8 arg9 harg9 arg10 harg10 arg11 harg11 arg12 harg12 arg13 harg13 arg14 harg14 v597 G_arg14 init (Scf.trips (k0_t16_loop i).lb (k0_t16_loop i).ub (k0_t16_loop i).st) = exSt arg14 G_arg14 (k0_pay221 v597) init ((i 2).val + 1) := by
  rw [show Scf.trips (k0_t16_loop i).lb (k0_t16_loop i).ub (k0_t16_loop i).st = (i 2).val + 1 from trips_main i]
  exact (t16_eq c i arg3 harg3 arg4 harg4 arg5 harg5 arg6 harg6 arg7 harg7 arg8 harg8 arg9 harg9 arg10 harg10 arg11 harg11 arg12 harg12 arg13 harg13 arg14 harg14 v597 G_arg14 init ((i 2).val + 1) (le_of_eq (trips_main i).symm))

/-- One counted loop, run to its end. -/
theorem t18_fin (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (v607 : FVec F S8x512 .f32) (X_arg12 : BufTy.Contents (Elt F) arg12.view.ty) (X_arg14 : BufTy.Contents (Elt F) arg14.view.ty) (init : FVec F S64x512 .f32) :
    st_k0_t18 (F := F) Variants.none c none i arg3 harg3 arg4 harg4 arg5 harg5 arg6 harg6 arg7 harg7 arg8 harg8 arg9 harg9 arg10 harg10 arg11 harg11 arg12 harg12 arg13 harg13 arg14 harg14 v607 X_arg12 X_arg14 init (Scf.trips (k0_t18_loop i).lb (k0_t18_loop i).ub (k0_t18_loop i).st) = pvSt (k0_pay229 v607) (stRd arg14 X_arg14) (vxRd arg12 X_arg12) init ((i 2).val + 1) := by
  rw [show Scf.trips (k0_t18_loop i).lb (k0_t18_loop i).ub (k0_t18_loop i).st = (i 2).val + 1 from trips_main i]
  exact (t18_eq c i arg3 harg3 arg4 harg4 arg5 harg5 arg6 harg6 arg7 harg7 arg8 harg8 arg9 harg9 arg10 harg10 arg11 harg11 arg12 harg12 arg13 harg13 arg14 harg14 v607 X_arg12 X_arg14 init ((i 2).val + 1) (le_of_eq (trips_main i).symm))

/-- The first of a pair. -/
theorem fst_mk' {α β : Type} (a : α) (b : β) : (a, b).1 = a := rfl
/-- The second of a pair. -/
theorem snd_mk' {α β : Type} (a : α) (b : β) : (a, b).2 = b := rfl

/-- The query columns of head pair 0 as stored: the newest piece first. -/
def qrPieces0 (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (x1 : Vec F S1x1x192x256 .i8) (x2 : Vec F S1x1x6x256 .f32) (x3 : Vec F S1x1x384x128 .bf16) : List (View.Piece (Elt F) S256x512 .bf16) :=
  kernelRest.sl.HS2_10 c i arg4 harg4 arg5 harg5 arg6 harg6 x1 x2 x3

/-- The query columns of head pair 1 as stored. -/
def qrPieces1 (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (x1 : Vec F S1x1x192x256 .i8) (x2 : Vec F S1x1x6x256 .f32) (x3 : Vec F S1x1x384x128 .bf16) : List (View.Piece (Elt F) S256x512 .bf16) :=
  ⟨Rect.unit ![192, 384] ![64, 128] inb_S256x512_S64x128_192_384, k0_pay263 (BitVec.ofNat 32 (i 2).val) (kernelRest.sl.v351 c arg6 harg6 x3)⟩ ::
  ⟨Rect.unit ![192, 256] ![64, 128] inb_S256x512_S64x128_192_256, k0_pay262 (kernelRest.sl.v351 c arg6 harg6 x3) (kernelRest.sl.v270 i) kernelRest.sl.v271⟩ ::
  kernelRest.sl.HS2_18 c i arg4 harg4 arg5 harg5 arg6 harg6 x1 x2 x3

/-- The query columns of head pair 2 as stored. -/
def qrPieces2 (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (x1 : Vec F S1x1x192x256 .i8) (x2 : Vec F S1x1x6x256 .f32) (x3 : Vec F S1x1x384x128 .bf16) : List (View.Piece (Elt F) S256x512 .bf16) :=
  ⟨Rect.unit ![192, 384] ![64, 128] inb_S256x512_S64x128_192_384, kernelRest.sl.v589 c i arg6 harg6 x3⟩ ::
  kernelRest.sl.HS2_29 c i arg4 harg4 arg5 harg5 arg6 harg6 x1 x2 x3

/-- What a head pair stores, from its query columns and the arrays read: the output block's columns of that pair. -/
def pairOut (i : grid0.Coords) (arg3 : Memref sig .tc .smem S32x144 .f32) (harg3 : arg3.IsWhole) (arg11 : Memref sig .tc .vmem S4608x128 .bf16) (harg11 : arg11.IsWhole) (arg12 : Memref sig .tc .vmem S64x4608 .bf16) (harg12 : arg12.IsWhole)
    (arg13 : Memref sig .tc .vmem S256x512 .bf16) (x0 : Vec F S32x144 .f32) (xs0 : Vec F S4608x128 .bf16) (xs1 : Vec F S64x4608 .bf16) (L : List (View.Piece (Elt F) S256x512 .bf16)) : FVec F S1x256x128 .bf16 :=
  k0_pay233 (pairVal ((i 2).val + 1) (fun k => scoreVal (BitVec.ofNat 32 (i 2).val) k (kxRd arg11 (harg11.unread xs0) k) (qrRd arg13 (arg13.view.writes (Elt F) arg13.view.junk L)) (skRd i arg3 (harg3.unread x0) k)) (vxRd arg12 (harg12.unread xs1)))

/-- The output block the body leaves: the three pairs' columns. -/
theorem rest_pieces (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole)
    (x0 : Vec F S32x144 .f32) (x1 : Vec F S1x1x192x256 .i8) (x2 : Vec F S1x1x6x256 .f32) (x3 : Vec F S1x1x384x128 .bf16) (x4 : Vec F S1x1x4608x128 .i8) (x5 : Vec F S1x1x64x4608 .fp8e4m3) (x6 : Vec F S1x1x64x256 .f32) (ds3 : Vec F S4608x512 .f32) (xs0 : Vec F S4608x128 .bf16) (xs1 : Vec F S64x4608 .bf16) :
    (kernelRest c i arg3 harg3 arg4 harg4 arg5 harg5 arg6 harg6 arg7 harg7 arg8 harg8 arg9 harg9 arg10 harg10 arg11 harg11 arg12 harg12 arg13 harg13 arg14 harg14 x0 x1 x2 x3 x4 x5 x6 ds3 xs0 xs1).1 =
      [⟨Rect.unit ![0, 0, 256] ![1, 256, 128] inb_S1x256x384_S1x256x128_0_0_256, pairOut i arg3 harg3 arg11 harg11 arg12 harg12 arg13 x0 xs0 xs1 (qrPieces2 c i arg3 harg3 arg4 harg4 arg5 harg5 arg6 harg6 arg7 harg7 arg8 harg8 arg9 harg9 arg10 harg10 arg11 harg11 arg12 harg12 arg13 harg13 arg14 harg14 x1 x2 x3)⟩,
       ⟨Rect.unit ![0, 0, 128] ![1, 256, 128] inb_S1x256x384_S1x256x128_0_0_128, pairOut i arg3 harg3 arg11 harg11 arg12 harg12 arg13 x0 xs0 xs1 (qrPieces1 c i arg3 harg3 arg4 harg4 arg5 harg5 arg6 harg6 arg7 harg7 arg8 harg8 arg9 harg9 arg10 harg10 arg11 harg11 arg12 harg12 arg13 harg13 arg14 harg14 x1 x2 x3)⟩,
       ⟨Rect.unit ![0, 0, 0] ![1, 256, 128] inb_S1x256x384_S1x256x128_0_0_0, pairOut i arg3 harg3 arg11 harg11 arg12 harg12 arg13 x0 xs0 xs1 (qrPieces0 c i arg3 harg3 arg4 harg4 arg5 harg5 arg6 harg6 arg7 harg7 arg8 harg8 arg9 harg9 arg10 harg10 arg11 harg11 arg12 harg12 arg13 harg13 arg14 harg14 x1 x2 x3)⟩] := by
  have g1 : kernelRest.sl.v413 c i arg3 harg3 arg4 harg4 arg5 harg5 arg6 harg6 arg7 harg7 arg8 harg8 arg9 harg9 arg10 harg10 arg11 harg11 arg12 harg12 arg13 harg13 arg14 harg14 x0 x1 x2 x3 ds3 xs0 xs1 = mulf (pairVal ((i 2).val + 1) (fun k => scoreVal (BitVec.ofNat 32 (i 2).val) k (kxRd arg11 (harg11.unread xs0) k) (qrRd arg13 (arg13.view.writes (Elt F) arg13.view.junk (qrPieces1 c i arg3 harg3 arg4 harg4 arg5 harg5 arg6 harg6 arg7 harg7 arg8 harg8 arg9 harg9 arg10 harg10 arg11 harg11 arg12 harg12 arg13 harg13 arg14 harg14 x1 x2 x3))) (skRd i arg3 (harg3.unread x0) k)) (vxRd arg12 (harg12.unread xs1))) (broadcast S64x512 (Scalar.ofBits .f32 0x3B800000#32)) := by
    unfold kernelRest.sl.v413
    simp (config := {proj := false}) only [t3_eq, t5_eq, t7_eq, t9_eq, t11_eq, t13_eq, t15_eq, t17_eq, t19_eq, t2_fin, t4_fin, t6_fin, t8_fin, t10_fin, t12_fin, t14_fin, t16_fin, t18_fin, List.nil_append, fst_mk', snd_mk', exSt_fin, exSt_fin', pvSt_fin, pvSt_fin']
    rfl
  have g0 : kernelRest.sl.v205 c i arg3 harg3 arg4 harg4 arg5 harg5 arg6 harg6 arg7 harg7 arg8 harg8 arg9 harg9 arg10 harg10 arg11 harg11 arg12 harg12 arg13 harg13 arg14 harg14 x0 x1 x2 x3 ds3 xs0 xs1 = mulf (pairVal ((i 2).val + 1) (fun k => scoreVal (BitVec.ofNat 32 (i 2).val) k (kxRd arg11 (harg11.unread xs0) k) (qrRd arg13 (arg13.view.writes (Elt F) arg13.view.junk (qrPieces0 c i arg3 harg3 arg4 harg4 arg5 harg5 arg6 harg6 arg7 harg7 arg8 harg8 arg9 harg9 arg10 harg10 arg11 harg11 arg12 harg12 arg13 harg13 arg14 harg14 x1 x2 x3))) (skRd i arg3 (harg3.unread x0) k)) (vxRd arg12 (harg12.unread xs1))) (broadcast S64x512 (Scalar.ofBits .f32 0x3B800000#32)) := by
    unfold kernelRest.sl.v205
    simp (config := {proj := false}) only [t3_eq, t5_eq, t7_eq, t9_eq, t11_eq, t13_eq, t15_eq, t17_eq, t19_eq, t2_fin, t4_fin, t6_fin, t8_fin, t10_fin, t12_fin, t14_fin, t16_fin, t18_fin, List.nil_append, fst_mk', snd_mk', exSt_fin, exSt_fin', pvSt_fin, pvSt_fin']
    rfl
  have h2 : k0_pay1 (kernelRest.sl.r_3 c i arg3 harg3 arg4 harg4 arg5 harg5 arg6 harg6 arg7 harg7 arg8 harg8 arg9 harg9 arg10 harg10 arg11 harg11 arg12 harg12 arg13 harg13 arg14 harg14 x0 x1 x2 x3 ds3 xs0 xs1) = pairOut i arg3 harg3 arg11 harg11 arg12 harg12 arg13 x0 xs0 xs1 (qrPieces2 c i arg3 harg3 arg4 harg4 arg5 harg5 arg6 harg6 arg7 harg7 arg8 harg8 arg9 harg9 arg10 harg10 arg11 harg11 arg12 harg12 arg13 harg13 arg14 harg14 x1 x2 x3) := by
    unfold kernelRest.sl.r_3
    simp (config := {proj := false}) only [t3_eq, t5_eq, t7_eq, t9_eq, t11_eq, t13_eq, t15_eq, t17_eq, t19_eq, t2_fin, t4_fin, t6_fin, t8_fin, t10_fin, t12_fin, t14_fin, t16_fin, t18_fin, List.nil_append, fst_mk', snd_mk', exSt_fin, exSt_fin', pvSt_fin, pvSt_fin']
    rfl
  have h1 : kernelRest.sl.v421 c i arg3 harg3 arg4 harg4 arg5 harg5 arg6 harg6 arg7 harg7 arg8 harg8 arg9 harg9 arg10 harg10 arg11 harg11 arg12 harg12 arg13 harg13 arg14 harg14 x0 x1 x2 x3 ds3 xs0 xs1 = pairOut i arg3 harg3 arg11 harg11 arg12 harg12 arg13 x0 xs0 xs1 (qrPieces1 c i arg3 harg3 arg4 harg4 arg5 harg5 arg6 harg6 arg7 harg7 arg8 harg8 arg9 harg9 arg10 harg10 arg11 harg11 arg12 harg12 arg13 harg13 arg14 harg14 x1 x2 x3) := by
    unfold kernelRest.sl.v421 kernelRest.sl.v418 kernelRest.sl.v417 kernelRest.sl.v416 kernelRest.sl.v414 kernelRest.sl.v415
    rw [g1]
    rfl
  have h0 : kernelRest.sl.v213 c i arg3 harg3 arg4 harg4 arg5 harg5 arg6 harg6 arg7 harg7 arg8 harg8 arg9 harg9 arg10 harg10 arg11 harg11 arg12 harg12 arg13 harg13 arg14 harg14 x0 x1 x2 x3 ds3 xs0 xs1 = pairOut i arg3 harg3 arg11 harg11 arg12 harg12 arg13 x0 xs0 xs1 (qrPieces0 c i arg3 harg3 arg4 harg4 arg5 harg5 arg6 harg6 arg7 harg7 arg8 harg8 arg9 harg9 arg10 harg10 arg11 harg11 arg12 harg12 arg13 harg13 arg14 harg14 x1 x2 x3) := by
    unfold kernelRest.sl.v213 kernelRest.sl.v210 kernelRest.sl.v209 kernelRest.sl.v208 kernelRest.sl.v206 kernelRest.sl.v207
    rw [g0]
    rfl
  rw [← h2, ← h1, ← h0]
  rfl

end Cert.KernelIdeal.Gen
-- ==== Proof.KernelIdealQr.lean ====
module
public import proofs.«01_k».proof.Proof.KernelIdealPair
public import Idealize.ShloMosaic.Lib.Pointwise.Index
@[expose] public section
set_option maxHeartbeats 0
set_option maxRecDepth 16384
noncomputable section
open Idealize.ShloMosaic Idealize.ShloMosaic.TcCoe Idealize.SL.Sem
namespace Cert.KernelIdeal.Gen
open Cert.KernelIdeal
variable {F : FTy → Type} [FloatOps F] [Named F]

/-! ## The query columns, without the scratch array

The ten pieces a head pair stores cover the query array, so what the score loop reads there is a function of the
query block, its scales and its means. -/

/-- The packed queries of head `h`. -/
def qLd (x1 : Vec F S1x1x192x256 .i8) (h : ℕ) : Vec F S1x1x32x256 .i8 := fun j => x1 (ix4 0 0 ⟨32 * (h % 6) + (j 2).val, by have : (j 2).val < 32 := (j 2).isLt; omega⟩ (j 3))
/-- The scales of head `h`. -/
def sLd (x2 : Vec F S1x1x6x256 .f32) (h : ℕ) : Vec F S1x1x1x256 .f32 := fun j => x2 (ix4 0 0 ⟨h % 6, by omega⟩ (j 3))
/-- The means of head `h`. -/
def mLd (x3 : Vec F S1x1x384x128 .bf16) (h : ℕ) : Vec F S1x1x64x128 .bf16 := fun j => x3 (ix4 0 0 ⟨64 * (h % 6) + (j 2).val, by have : (j 2).val < 64 := (j 2).isLt; omega⟩ (j 3))

/-- The unpacked, scaled queries of head `h` of a query block. -/
def qV (x1 : Vec F S1x1x192x256 .i8) (x2 : Vec F S1x1x6x256 .f32) (h : ℕ) : FVec F S64x256 .f32 :=
  k0_pay189 (qLd x1 h)
    (sLd x2 h)

/-- The mean column `2 qb + part` of head `h`. -/
def mV (a2 : BitVec 32) (x3 : Vec F S1x1x384x128 .bf16) (h : ℕ) (part : BitVec 32) : FVec F S64x128 .bf16 :=
  k0_pay262 (extf .f32 (shapeCast S64x128 (mLd x3 h) shapeCasts_S1x1x64x128_S64x128) bitsLt_bf16_f32)
    (broadcast S64x128 (Scalar.addi (Scalar.muli a2 2#32) part)) (broadcast S64x128 0#32)

/-- The first part of the queries. -/
def qA (q : FVec F S64x256 .f32) : FVec F S64x256 .f32 := extf .f32 (truncf .bf16 q bitsLt_bf16_f32) bitsLt_bf16_f32
/-- The second part. -/
def qB (q : FVec F S64x256 .f32) : FVec F S64x256 .f32 := qA (subf q (qA q))
/-- The third part. -/
def qC (q : FVec F S64x256 .f32) : FVec F S64x256 .f32 := subf (subf q (qA q)) (qB q)
/-- A part as stored. -/
def qSt (q : FVec F S64x256 .f32) : FVec F S64x256 .bf16 := shapeCast S64x256 (truncf .bf16 q bitsLt_bf16_f32) shapeCasts_S64x256_S64x256

/-- The query array's column block of head `2 p` or `2 p + 1` in rows of 64. -/
def qrV (a2 : BitVec 32) (x1 : Vec F S1x1x192x256 .i8) (x2 : Vec F S1x1x6x256 .f32) (x3 : Vec F S1x1x384x128 .bf16) (p : ℕ) : Vec F S256x512 .bf16 :=
  fun y =>
    let h := 2 * p + (y 1).val / 256
    let r : Fin 64 := ⟨(y 0).val % 64, by omega⟩
    let q : Fin 256 := ⟨(y 1).val % 256, by omega⟩
    if (y 0).val < 64 then qSt (qA (qV x1 x2 h)) (ix2 r q)
    else if (y 0).val < 128 then qSt (qB (qV x1 x2 h)) (ix2 r q)
    else if (y 0).val < 192 then qSt (qC (qV x1 x2 h)) (ix2 r q)
    else mV a2 x3 h (BitVec.ofNat 32 ((y 1).val % 256 / 128)) (ix2 r ⟨(y 1).val % 128, by omega⟩)

/-- The ten pieces of a head pair, the newest first, over what was there. -/
def qrList (q0 q1 : FVec F S64x256 .f32) (m00 m01 m10 m11 : FVec F S64x128 .bf16) (L : List (View.Piece (Elt F) S256x512 .bf16)) : List (View.Piece (Elt F) S256x512 .bf16) :=
  ⟨Rect.unit ![192, 384] ![64, 128] inb_S256x512_S64x128_192_384, m11⟩ ::
  ⟨Rect.unit ![192, 256] ![64, 128] inb_S256x512_S64x128_192_256, m10⟩ ::
  ⟨Rect.unit ![128, 256] ![64, 256] inb_S256x512_S64x256_128_256, qSt (qC q1)⟩ ::
  ⟨Rect.unit ![64, 256] ![64, 256] inb_S256x512_S64x256_64_256, qSt (qB q1)⟩ ::
  ⟨Rect.unit ![0, 256] ![64, 256] inb_S256x512_S64x256_0_256, qSt (qA q1)⟩ ::
  ⟨Rect.unit ![192, 128] ![64, 128] inb_S256x512_S64x128_192_128, m01⟩ ::
  ⟨Rect.unit ![192, 0] ![64, 128] inb_S256x512_S64x128_192_0, m00⟩ ::
  ⟨Rect.unit ![128, 0] ![64, 256] inb_S256x512_S64x256_128_0, qSt (qC q0)⟩ ::
  ⟨Rect.unit ![64, 0] ![64, 256] inb_S256x512_S64x256_64_0, qSt (qB q0)⟩ ::
  ⟨Rect.unit ![0, 0] ![64, 256] inb_S256x512_S64x256_0_0, qSt (qA q0)⟩ :: L

section
variable (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (x1 : Vec F S1x1x192x256 .i8) (x2 : Vec F S1x1x6x256 .f32) (x3 : Vec F S1x1x384x128 .bf16)

/-- The packed queries of a head as loaded. -/
theorem q_load (h : ℕ) (o : ℕ) (ho : o = 32 * (h % 6)) (hi : ∀ a, (![0, 0, o, 0] : Fin 4 → ℕ) a + S1x1x32x256.size a ≤ S1x1x192x256.size a) :
    View.readAt (Elt F) arg4.view (Rect.unit (s := S1x1x192x256) ![0, 0, o, 0] S1x1x32x256.size hi).toLoadRect (harg4.unread x1)
      = qLd x1 h := by
  subst ho
  funext j
  rw [View.readAt_apply, harg4.read_unread]
  congr 1
  funext a
  have h0 : (j 0).val < 1 := (j 0).isLt
  have h1 : (j 1).val < 1 := (j 1).isLt
  apply Fin.ext
  fin_cases a
  · show 0 + 1 * (j 0).val = 0; omega
  · show 0 + 1 * (j 1).val = 0; omega
  · show 32 * (h % 6) + 1 * (j 2).val = 32 * (h % 6) + (j 2).val; omega
  · show 0 + 1 * (j 3).val = (j 3).val; omega

/-- The scales of a head as loaded. -/
theorem s_load (h : ℕ) (o : ℕ) (ho : o = h % 6) (hi : ∀ a, (![0, 0, o, 0] : Fin 4 → ℕ) a + S1x1x1x256.size a ≤ S1x1x6x256.size a) :
    View.readAt (Elt F) arg5.view (Rect.unit (s := S1x1x6x256) ![0, 0, o, 0] S1x1x1x256.size hi).toLoadRect (harg5.unread x2)
      = sLd x2 h := by
  subst ho
  funext j
  rw [View.readAt_apply, harg5.read_unread]
  congr 1
  funext a
  have h0 : (j 0).val < 1 := (j 0).isLt
  have h1 : (j 1).val < 1 := (j 1).isLt
  have h2 : (j 2).val < 1 := (j 2).isLt
  apply Fin.ext
  fin_cases a
  · show 0 + 1 * (j 0).val = 0; omega
  · show 0 + 1 * (j 1).val = 0; omega
  · show h % 6 + 1 * (j 2).val = h % 6; omega
  · show 0 + 1 * (j 3).val = (j 3).val; omega

/-- The means of a head as loaded. -/
theorem m_load (h : ℕ) (o : ℕ) (ho : o = 64 * (h % 6)) (hi : ∀ a, (![0, 0, o, 0] : Fin 4 → ℕ) a + S1x1x64x128.size a ≤ S1x1x384x128.size a) :
    View.readAt (Elt F) arg6.view (Rect.unit (s := S1x1x384x128) ![0, 0, o, 0] S1x1x64x128.size hi).toLoadRect (harg6.unread x3)
      = mLd x3 h := by
  subst ho
  funext j
  rw [View.readAt_apply, harg6.read_unread]
  congr 1
  funext a
  have h0 : (j 0).val < 1 := (j 0).isLt
  have h1 : (j 1).val < 1 := (j 1).isLt
  apply Fin.ext
  fin_cases a
  · show 0 + 1 * (j 0).val = 0; omega
  · show 0 + 1 * (j 1).val = 0; omega
  · show 64 * (h % 6) + 1 * (j 2).val = 64 * (h % 6) + (j 2).val; omega
  · show 0 + 1 * (j 3).val = (j 3).val; omega

/-- The query pieces of the first head pair. -/
theorem qrPieces0_eq : qrPieces0 c i arg3 harg3 arg4 harg4 arg5 harg5 arg6 harg6 arg7 harg7 arg8 harg8 arg9 harg9 arg10 harg10 arg11 harg11 arg12 harg12 arg13 harg13 arg14 harg14 x1 x2 x3
    = qrList (qV x1 x2 0) (qV x1 x2 1) (mV (BitVec.ofNat 32 (i 2).val) x3 0 0#32) (mV (BitVec.ofNat 32 (i 2).val) x3 0 1#32)
        (mV (BitVec.ofNat 32 (i 2).val) x3 1 0#32) (mV (BitVec.ofNat 32 (i 2).val) x3 1 1#32) [] := by
  unfold qV mV
  rw [← q_load arg4 harg4 x1 0 0 rfl inb_S1x1x192x256_S1x1x32x256_0_0_0_0, ← q_load arg4 harg4 x1 1 32 rfl inb_S1x1x192x256_S1x1x32x256_0_0_32_0,
    ← s_load arg5 harg5 x2 0 0 rfl inb_S1x1x6x256_S1x1x1x256_0_0_0_0, ← s_load arg5 harg5 x2 1 1 rfl inb_S1x1x6x256_S1x1x1x256_0_0_1_0,
    ← m_load arg6 harg6 x3 0 0 rfl inb_S1x1x384x128_S1x1x64x128_0_0_0_0, ← m_load arg6 harg6 x3 1 64 rfl inb_S1x1x384x128_S1x1x64x128_0_0_64_0]
  rfl

/-- The query pieces of the second head pair: its own four and the earlier ones. -/
theorem qrPieces1_eq : ∃ L, qrPieces1 c i arg3 harg3 arg4 harg4 arg5 harg5 arg6 harg6 arg7 harg7 arg8 harg8 arg9 harg9 arg10 harg10 arg11 harg11 arg12 harg12 arg13 harg13 arg14 harg14 x1 x2 x3
    = qrList (qV x1 x2 2) (qV x1 x2 3) (mV (BitVec.ofNat 32 (i 2).val) x3 2 0#32) (mV (BitVec.ofNat 32 (i 2).val) x3 2 1#32)
        (mV (BitVec.ofNat 32 (i 2).val) x3 3 0#32) (mV (BitVec.ofNat 32 (i 2).val) x3 3 1#32) L := by
  refine ⟨kernelRest.sl.HS2_10 c i arg4 harg4 arg5 harg5 arg6 harg6 x1 x2 x3, ?_⟩
  unfold qV mV
  rw [← q_load arg4 harg4 x1 2 64 rfl inb_S1x1x192x256_S1x1x32x256_0_0_64_0, ← q_load arg4 harg4 x1 3 96 rfl inb_S1x1x192x256_S1x1x32x256_0_0_96_0,
    ← s_load arg5 harg5 x2 2 2 rfl inb_S1x1x6x256_S1x1x1x256_0_0_2_0, ← s_load arg5 harg5 x2 3 3 rfl inb_S1x1x6x256_S1x1x1x256_0_0_3_0,
    ← m_load arg6 harg6 x3 2 128 rfl inb_S1x1x384x128_S1x1x64x128_0_0_128_0, ← m_load arg6 harg6 x3 3 192 rfl inb_S1x1x384x128_S1x1x64x128_0_0_192_0]
  rfl

/-- The query pieces of the third head pair: its own four and the earlier ones. -/
theorem qrPieces2_eq : ∃ L, qrPieces2 c i arg3 harg3 arg4 harg4 arg5 harg5 arg6 harg6 arg7 harg7 arg8 harg8 arg9 harg9 arg10 harg10 arg11 harg11 arg12 harg12 arg13 harg13 arg14 harg14 x1 x2 x3
    = qrList (qV x1 x2 4) (qV x1 x2 5) (mV (BitVec.ofNat 32 (i 2).val) x3 4 0#32) (mV (BitVec.ofNat 32 (i 2).val) x3 4 1#32)
        (mV (BitVec.ofNat 32 (i 2).val) x3 5 0#32) (mV (BitVec.ofNat 32 (i 2).val) x3 5 1#32) L := by
  refine ⟨?L, ?_⟩
  case L => exact ⟨Rect.unit ![192, 384] ![64, 128] inb_S256x512_S64x128_192_384, k0_pay263 (BitVec.ofNat 32 (i 2).val) (kernelRest.sl.v351 c arg6 harg6 x3)⟩ ::
    ⟨Rect.unit ![192, 256] ![64, 128] inb_S256x512_S64x128_192_256, k0_pay262 (kernelRest.sl.v351 c arg6 harg6 x3) (kernelRest.sl.v270 i) kernelRest.sl.v271⟩ ::
    kernelRest.sl.HS2_18 c i arg4 harg4 arg5 harg5 arg6 harg6 x1 x2 x3
  unfold qV mV
  rw [← q_load arg4 harg4 x1 4 128 rfl inb_S1x1x192x256_S1x1x32x256_0_0_128_0, ← q_load arg4 harg4 x1 5 160 rfl inb_S1x1x192x256_S1x1x32x256_0_0_160_0,
    ← s_load arg5 harg5 x2 4 4 rfl inb_S1x1x6x256_S1x1x1x256_0_0_4_0, ← s_load arg5 harg5 x2 5 5 rfl inb_S1x1x6x256_S1x1x1x256_0_0_5_0,
    ← m_load arg6 harg6 x3 4 256 rfl inb_S1x1x384x128_S1x1x64x128_0_0_256_0, ← m_load arg6 harg6 x3 5 320 rfl inb_S1x1x384x128_S1x1x64x128_0_0_320_0]
  rfl

end

end Cert.KernelIdeal.Gen
-- ==== Proof.KernelIdealBlock.lean ====
module
public import proofs.«01_k».proof.Proof.KernelIdealQr
public import Idealize.ShloMosaic.Lib.WritesUnit
@[expose] public section
set_option maxHeartbeats 0
set_option maxRecDepth 16384
noncomputable section
open Idealize.ShloMosaic Idealize.ShloMosaic.TcCoe Idealize.SL.Sem
namespace Cert.KernelIdeal.Gen
open Cert.KernelIdeal
variable {F : FTy → Type} [FloatOps F] [Named F]

/-! ## The output block as a function of the blocks read -/

/-- Key block `k` of the unpacked keys. -/
def kxV (xs0 : Vec F S4608x128 .bf16) (k : ℕ) : Vec F S256x128 .bf16 :=
  fun y => xs0 (ix2 ⟨256 * (k % 18) + (y 0).val, by have : (y 0).val < 256 := (y 0).isLt; omega⟩ (y 1))
/-- Key block `k` of the scaled values. -/
def vxV (xs1 : Vec F S64x4608 .bf16) (k : ℕ) : Vec F S64x256 .bf16 :=
  fun y => xs1 (ix2 (y 0) ⟨256 * (k % 18) + (y 1).val, by have : (y 1).val < 256 := (y 1).isLt; omega⟩)
/-- The scale of group `g` of key block `k`. -/
def skV (i : grid0.Coords) (x0 : Vec F S32x144 .f32) (k g : ℕ) : Elt F .f32 :=
  x0 (ix2 ⟨8 * (i 0).val + (i 1).val, by have h0 : (i 0).val < 4 := (i 0).isLt; have h1 : (i 1).val < 8 := (i 1).isLt; omega⟩ ⟨8 * (k % 18) + g % 8, by omega⟩)

/-- The columns of head pair `p` of the output block. -/
def outV (i : grid0.Coords) (x0 : Vec F S32x144 .f32) (x1 : Vec F S1x1x192x256 .i8) (x2 : Vec F S1x1x6x256 .f32) (x3 : Vec F S1x1x384x128 .bf16)
    (xs0 : Vec F S4608x128 .bf16) (xs1 : Vec F S64x4608 .bf16) (p : ℕ) : FVec F S1x256x128 .bf16 :=
  k0_pay233 (pairVal ((i 2).val + 1) (fun k => scoreVal (BitVec.ofNat 32 (i 2).val) k (kxV xs0 k) (qrV (BitVec.ofNat 32 (i 2).val) x1 x2 x3 p) (skV i x0 k)) (vxV xs1))

/-- The output block. -/
def outBlk (i : grid0.Coords) (x0 : Vec F S32x144 .f32) (x1 : Vec F S1x1x192x256 .i8) (x2 : Vec F S1x1x6x256 .f32) (x3 : Vec F S1x1x384x128 .bf16)
    (xs0 : Vec F S4608x128 .bf16) (xs1 : Vec F S64x4608 .bf16) : Vec F S1x256x384 .bf16 :=
  fun y => outV i x0 x1 x2 x3 xs0 xs1 ((y 2).val / 128) (ix3 0 (y 1) ⟨(y 2).val % 128, by omega⟩)

/-- Reading a block of the key scratch reads the contents it holds. -/
theorem kxRd_eq (arg11 : Memref sig .tc .vmem S4608x128 .bf16) (harg11 : arg11.IsWhole) (xs0 : Vec F S4608x128 .bf16) :
    kxRd arg11 (harg11.unread xs0) = kxV xs0 := by
  funext k y
  unfold kxRd kxV
  rw [View.readAt_apply, harg11.read_unread]
  congr 1
  funext a
  apply Fin.ext
  fin_cases a
  · show 256 * (k % 18) + 1 * (y 0).val = 256 * (k % 18) + (y 0).val; omega
  · show 0 + 1 * (y 1).val = (y 1).val; omega

/-- Reading a block of the value scratch reads the contents it holds. -/
theorem vxRd_eq (arg12 : Memref sig .tc .vmem S64x4608 .bf16) (harg12 : arg12.IsWhole) (xs1 : Vec F S64x4608 .bf16) :
    vxRd arg12 (harg12.unread xs1) = vxV xs1 := by
  funext k y
  unfold vxRd vxV
  rw [View.readAt_apply, harg12.read_unread]
  congr 1
  funext a
  apply Fin.ext
  fin_cases a
  · show 0 + 1 * (y 0).val = (y 0).val; omega
  · show 256 * (k % 18) + 1 * (y 1).val = 256 * (k % 18) + (y 1).val; omega

/-- Reading a key scale reads the operand. -/
theorem skRd_eq (i : grid0.Coords) (arg3 : Memref sig .tc .smem S32x144 .f32) (harg3 : arg3.IsWhole) (x0 : Vec F S32x144 .f32) (k : ℕ) :
    skRd i arg3 (harg3.unread x0) k = skV i x0 k := by
  funext g
  unfold skRd skV
  rw [View.readAt_apply, harg3.read_unread]
  congr 1
  funext a
  apply Fin.ext
  fin_cases a
  · show 8 * (i 0).val + (i 1).val + 1 * 0 = 8 * (i 0).val + (i 1).val; omega
  · show 8 * (k % 18) + g % 8 + 1 * 0 = 8 * (k % 18) + g % 8; omega

/-- What the ten pieces leave at an index. -/
theorem qrList_read (v : View sig .tc .vmem S256x512 .bf16) (f : v.ty.Contents (Elt F)) (a2 : BitVec 32) (x1 : Vec F S1x1x192x256 .i8) (x2 : Vec F S1x1x6x256 .f32) (x3 : Vec F S1x1x384x128 .bf16) (p h0 h1 : ℕ)
    (e0 : h0 = 2 * p) (e1 : h1 = 2 * p + 1) (L : List (View.Piece (Elt F) S256x512 .bf16)) (y : S256x512.Idx) :
    v.read (Elt F) (v.writes (Elt F) f (qrList (qV x1 x2 h0) (qV x1 x2 h1) (mV a2 x3 h0 0#32) (mV a2 x3 h0 1#32) (mV a2 x3 h1 0#32) (mV a2 x3 h1 1#32) L)) y
      = qrV a2 x1 x2 x3 p y := by
  subst e0 e1
  have b0 : (y 0).val < 256 := (y 0).isLt
  have b1 : (y 1).val < 512 := (y 1).isLt
  unfold qrList qrV
  dsimp only
  rcases lt_or_ge (y 1).val 256 with c1 | c1
  · rcases lt_or_ge (y 0).val 64 with c0 | c0
    · refine (View.read_writes_cons_unit_of_not_mem _ _ _ _ _ y rfl 0 (Or.inl (show (y 0).val < 192 by omega))).trans ?_
      refine (View.read_writes_cons_unit_of_not_mem _ _ _ _ _ y rfl 0 (Or.inl (show (y 0).val < 192 by omega))).trans ?_
      refine (View.read_writes_cons_unit_of_not_mem _ _ _ _ _ y rfl 0 (Or.inl (show (y 0).val < 128 by omega))).trans ?_
      refine (View.read_writes_cons_unit_of_not_mem _ _ _ _ _ y rfl 0 (Or.inl (show (y 0).val < 64 by omega))).trans ?_
      refine (View.read_writes_cons_unit_of_not_mem _ _ _ _ _ y rfl 1 (Or.inl (show (y 1).val < 256 by omega))).trans ?_
      refine (View.read_writes_cons_unit_of_not_mem _ _ _ _ _ y rfl 0 (Or.inl (show (y 0).val < 192 by omega))).trans ?_
      refine (View.read_writes_cons_unit_of_not_mem _ _ _ _ _ y rfl 0 (Or.inl (show (y 0).val < 192 by omega))).trans ?_
      refine (View.read_writes_cons_unit_of_not_mem _ _ _ _ _ y rfl 0 (Or.inl (show (y 0).val < 128 by omega))).trans ?_
      refine (View.read_writes_cons_unit_of_not_mem _ _ _ _ _ y rfl 0 (Or.inl (show (y 0).val < 64 by omega))).trans ?_
      refine (View.read_writes_cons_unit_of_mem _ _ _ _ _ y (ix2 (n0 := 64) (n1 := 256) ⟨(y 0).val % 64, by omega⟩ ⟨(y 1).val % 256, by omega⟩) rfl (Fin.forall_fin_two.mpr ⟨show (y 0).val = 0 + (y 0).val % 64 by omega, show (y 1).val = 0 + (y 1).val % 256 by omega⟩)).trans ?_
      rw [show 2 * p + (y 1).val / 256 = 2 * p by omega, if_pos (show (y 0).val < 64 by omega)]
    rcases lt_or_ge (y 0).val 128 with c2 | c2
    · refine (View.read_writes_cons_unit_of_not_mem _ _ _ _ _ y rfl 0 (Or.inl (show (y 0).val < 192 by omega))).trans ?_
      refine (View.read_writes_cons_unit_of_not_mem _ _ _ _ _ y rfl 0 (Or.inl (show (y 0).val < 192 by omega))).trans ?_
      refine (View.read_writes_cons_unit_of_not_mem _ _ _ _ _ y rfl 0 (Or.inl (show (y 0).val < 128 by omega))).trans ?_
      refine (View.read_writes_cons_unit_of_not_mem _ _ _ _ _ y rfl 1 (Or.inl (show (y 1).val < 256 by omega))).trans ?_
      refine (View.read_writes_cons_unit_of_not_mem _ _ _ _ _ y rfl 0 (Or.inr (show 0 + 64 ≤ (y 0).val by omega))).trans ?_
      refine (View.read_writes_cons_unit_of_not_mem _ _ _ _ _ y rfl 0 (Or.inl (show (y 0).val < 192 by omega))).trans ?_
      refine (View.read_writes_cons_unit_of_not_mem _ _ _ _ _ y rfl 0 (Or.inl (show (y 0).val < 192 by omega))).trans ?_
      refine (View.read_writes_cons_unit_of_not_mem _ _ _ _ _ y rfl 0 (Or.inl (show (y 0).val < 128 by omega))).trans ?_
      refine (View.read_writes_cons_unit_of_mem _ _ _ _ _ y (ix2 (n0 := 64) (n1 := 256) ⟨(y 0).val % 64, by omega⟩ ⟨(y 1).val % 256, by omega⟩) rfl (Fin.forall_fin_two.mpr ⟨show (y 0).val = 64 + (y 0).val % 64 by omega, show (y 1).val = 0 + (y 1).val % 256 by omega⟩)).trans ?_
      rw [show 2 * p + (y 1).val / 256 = 2 * p by omega, if_neg (show ¬ (y 0).val < 64 by omega), if_pos (show (y 0).val < 128 by omega)]
    rcases lt_or_ge (y 0).val 192 with c3 | c3
    · refine (View.read_writes_cons_unit_of_not_mem _ _ _ _ _ y rfl 0 (Or.inl (show (y 0).val < 192 by omega))).trans ?_
      refine (View.read_writes_cons_unit_of_not_mem _ _ _ _ _ y rfl 0 (Or.inl (show (y 0).val < 192 by omega))).trans ?_
      refine (View.read_writes_cons_unit_of_not_mem _ _ _ _ _ y rfl 1 (Or.inl (show (y 1).val < 256 by omega))).trans ?_
      refine (View.read_writes_cons_unit_of_not_mem _ _ _ _ _ y rfl 0 (Or.inr (show 64 + 64 ≤ (y 0).val by omega))).trans ?_
      refine (View.read_writes_cons_unit_of_not_mem _ _ _ _ _ y rfl 0 (Or.inr (show 0 + 64 ≤ (y 0).val by omega))).trans ?_
      refine (View.read_writes_cons_unit_of_not_mem _ _ _ _ _ y rfl 0 (Or.inl (show (y 0).val < 192 by omega))).trans ?_
      refine (View.read_writes_cons_unit_of_not_mem _ _ _ _ _ y rfl 0 (Or.inl (show (y 0).val < 192 by omega))).trans ?_
      refine (View.read_writes_cons_unit_of_mem _ _ _ _ _ y (ix2 (n0 := 64) (n1 := 256) ⟨(y 0).val % 64, by omega⟩ ⟨(y 1).val % 256, by omega⟩) rfl (Fin.forall_fin_two.mpr ⟨show (y 0).val = 128 + (y 0).val % 64 by omega, show (y 1).val = 0 + (y 1).val % 256 by omega⟩)).trans ?_
      rw [show 2 * p + (y 1).val / 256 = 2 * p by omega, if_neg (show ¬ (y 0).val < 64 by omega), if_neg (show ¬ (y 0).val < 128 by omega), if_pos (show (y 0).val < 192 by omega)]
    rcases lt_or_ge (y 1).val 128 with c4 | c4
    · refine (View.read_writes_cons_unit_of_not_mem _ _ _ _ _ y rfl 1 (Or.inl (show (y 1).val < 384 by omega))).trans ?_
      refine (View.read_writes_cons_unit_of_not_mem _ _ _ _ _ y rfl 1 (Or.inl (show (y 1).val < 256 by omega))).trans ?_
      refine (View.read_writes_cons_unit_of_not_mem _ _ _ _ _ y rfl 0 (Or.inr (show 128 + 64 ≤ (y 0).val by omega))).trans ?_
      refine (View.read_writes_cons_unit_of_not_mem _ _ _ _ _ y rfl 0 (Or.inr (show 64 + 64 ≤ (y 0).val by omega))).trans ?_
      refine (View.read_writes_cons_unit_of_not_mem _ _ _ _ _ y rfl 0 (Or.inr (show 0 + 64 ≤ (y 0).val by omega))).trans ?_
      refine (View.read_writes_cons_unit_of_not_mem _ _ _ _ _ y rfl 1 (Or.inl (show (y 1).val < 128 by omega))).trans ?_
      refine (View.read_writes_cons_unit_of_mem _ _ _ _ _ y (ix2 (n0 := 64) (n1 := 128) ⟨(y 0).val % 64, by omega⟩ ⟨(y 1).val % 128, by omega⟩) rfl (Fin.forall_fin_two.mpr ⟨show (y 0).val = 192 + (y 0).val % 64 by omega, show (y 1).val = 0 + (y 1).val % 128 by omega⟩)).trans ?_
      rw [show 2 * p + (y 1).val / 256 = 2 * p by omega, show (y 1).val % 256 / 128 = 0 by omega, if_neg (show ¬ (y 0).val < 64 by omega), if_neg (show ¬ (y 0).val < 128 by omega), if_neg (show ¬ (y 0).val < 192 by omega)]
    · refine (View.read_writes_cons_unit_of_not_mem _ _ _ _ _ y rfl 1 (Or.inl (show (y 1).val < 384 by omega))).trans ?_
      refine (View.read_writes_cons_unit_of_not_mem _ _ _ _ _ y rfl 1 (Or.inl (show (y 1).val < 256 by omega))).trans ?_
      refine (View.read_writes_cons_unit_of_not_mem _ _ _ _ _ y rfl 0 (Or.inr (show 128 + 64 ≤ (y 0).val by omega))).trans ?_
      refine (View.read_writes_cons_unit_of_not_mem _ _ _ _ _ y rfl 0 (Or.inr (show 64 + 64 ≤ (y 0).val by omega))).trans ?_
      refine (View.read_writes_cons_unit_of_not_mem _ _ _ _ _ y rfl 0 (Or.inr (show 0 + 64 ≤ (y 0).val by omega))).trans ?_
      refine (View.read_writes_cons_unit_of_mem _ _ _ _ _ y (ix2 (n0 := 64) (n1 := 128) ⟨(y 0).val % 64, by omega⟩ ⟨(y 1).val % 128, by omega⟩) rfl (Fin.forall_fin_two.mpr ⟨show (y 0).val = 192 + (y 0).val % 64 by omega, show (y 1).val = 128 + (y 1).val % 128 by omega⟩)).trans ?_
      rw [show 2 * p + (y 1).val / 256 = 2 * p by omega, show (y 1).val % 256 / 128 = 1 by omega, if_neg (show ¬ (y 0).val < 64 by omega), if_neg (show ¬ (y 0).val < 128 by omega), if_neg (show ¬ (y 0).val < 192 by omega)]
  · rcases lt_or_ge (y 0).val 64 with c0 | c0
    · refine (View.read_writes_cons_unit_of_not_mem _ _ _ _ _ y rfl 0 (Or.inl (show (y 0).val < 192 by omega))).trans ?_
      refine (View.read_writes_cons_unit_of_not_mem _ _ _ _ _ y rfl 0 (Or.inl (show (y 0).val < 192 by omega))).trans ?_
      refine (View.read_writes_cons_unit_of_not_mem _ _ _ _ _ y rfl 0 (Or.inl (show (y 0).val < 128 by omega))).trans ?_
      refine (View.read_writes_cons_unit_of_not_mem _ _ _ _ _ y rfl 0 (Or.inl (show (y 0).val < 64 by omega))).trans ?_
      refine (View.read_writes_cons_unit_of_mem _ _ _ _ _ y (ix2 (n0 := 64) (n1 := 256) ⟨(y 0).val % 64, by omega⟩ ⟨(y 1).val % 256, by omega⟩) rfl (Fin.forall_fin_two.mpr ⟨show (y 0).val = 0 + (y 0).val % 64 by omega, show (y 1).val = 256 + (y 1).val % 256 by omega⟩)).trans ?_
      rw [show 2 * p + (y 1).val / 256 = 2 * p + 1 by omega, if_pos (show (y 0).val < 64 by omega)]
    rcases lt_or_ge (y 0).val 128 with c2 | c2
    · refine (View.read_writes_cons_unit_of_not_mem _ _ _ _ _ y rfl 0 (Or.inl (show (y 0).val < 192 by omega))).trans ?_
      refine (View.read_writes_cons_unit_of_not_mem _ _ _ _ _ y rfl 0 (Or.inl (show (y 0).val < 192 by omega))).trans ?_
      refine (View.read_writes_cons_unit_of_not_mem _ _ _ _ _ y rfl 0 (Or.inl (show (y 0).val < 128 by omega))).trans ?_
      refine (View.read_writes_cons_unit_of_mem _ _ _ _ _ y (ix2 (n0 := 64) (n1 := 256) ⟨(y 0).val % 64, by omega⟩ ⟨(y 1).val % 256, by omega⟩) rfl (Fin.forall_fin_two.mpr ⟨show (y 0).val = 64 + (y 0).val % 64 by omega, show (y 1).val = 256 + (y 1).val % 256 by omega⟩)).trans ?_
      rw [show 2 * p + (y 1).val / 256 = 2 * p + 1 by omega, if_neg (show ¬ (y 0).val < 64 by omega), if_pos (show (y 0).val < 128 by omega)]
    rcases lt_or_ge (y 0).val 192 with c3 | c3
    · refine (View.read_writes_cons_unit_of_not_mem _ _ _ _ _ y rfl 0 (Or.inl (show (y 0).val < 192 by omega))).trans ?_
      refine (View.read_writes_cons_unit_of_not_mem _ _ _ _ _ y rfl 0 (Or.inl (show (y 0).val < 192 by omega))).trans ?_
      refine (View.read_writes_cons_unit_of_mem _ _ _ _ _ y (ix2 (n0 := 64) (n1 := 256) ⟨(y 0).val % 64, by omega⟩ ⟨(y 1).val % 256, by omega⟩) rfl (Fin.forall_fin_two.mpr ⟨show (y 0).val = 128 + (y 0).val % 64 by omega, show (y 1).val = 256 + (y 1).val % 256 by omega⟩)).trans ?_
      rw [show 2 * p + (y 1).val / 256 = 2 * p + 1 by omega, if_neg (show ¬ (y 0).val < 64 by omega), if_neg (show ¬ (y 0).val < 128 by omega), if_pos (show (y 0).val < 192 by omega)]
    rcases lt_or_ge (y 1).val 384 with c4 | c4
    · refine (View.read_writes_cons_unit_of_not_mem _ _ _ _ _ y rfl 1 (Or.inl (show (y 1).val < 384 by omega))).trans ?_
      refine (View.read_writes_cons_unit_of_mem _ _ _ _ _ y (ix2 (n0 := 64) (n1 := 128) ⟨(y 0).val % 64, by omega⟩ ⟨(y 1).val % 128, by omega⟩) rfl (Fin.forall_fin_two.mpr ⟨show (y 0).val = 192 + (y 0).val % 64 by omega, show (y 1).val = 256 + (y 1).val % 128 by omega⟩)).trans ?_
      rw [show 2 * p + (y 1).val / 256 = 2 * p + 1 by omega, show (y 1).val % 256 / 128 = 0 by omega, if_neg (show ¬ (y 0).val < 64 by omega), if_neg (show ¬ (y 0).val < 128 by omega), if_neg (show ¬ (y 0).val < 192 by omega)]
    · refine (View.read_writes_cons_unit_of_mem _ _ _ _ _ y (ix2 (n0 := 64) (n1 := 128) ⟨(y 0).val % 64, by omega⟩ ⟨(y 1).val % 128, by omega⟩) rfl (Fin.forall_fin_two.mpr ⟨show (y 0).val = 192 + (y 0).val % 64 by omega, show (y 1).val = 384 + (y 1).val % 128 by omega⟩)).trans ?_
      rw [show 2 * p + (y 1).val / 256 = 2 * p + 1 by omega, show (y 1).val % 256 / 128 = 1 by omega, if_neg (show ¬ (y 0).val < 64 by omega), if_neg (show ¬ (y 0).val < 128 by omega), if_neg (show ¬ (y 0).val < 192 by omega)]

/-- Reading the query scratch back gives the pieces written. -/
theorem qrRd_eq (arg13 : Memref sig .tc .vmem S256x512 .bf16) (f : BufTy.Contents (Elt F) arg13.view.ty) (g : Vec F S256x512 .bf16)
    (hg : ∀ y, arg13.view.read (Elt F) f y = g y) : qrRd arg13 f = g := by
  funext y
  unfold qrRd
  rw [View.readAt_apply, hg]
  congr 1
  funext a
  apply Fin.ext
  fin_cases a
  · show 0 + 1 * (y 0).val = (y 0).val; omega
  · show 0 + 1 * (y 1).val = (y 1).val; omega

section
variable (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (x0 : Vec F S32x144 .f32) (x1 : Vec F S1x1x192x256 .i8) (x2 : Vec F S1x1x6x256 .f32) (x3 : Vec F S1x1x384x128 .bf16) (x4 : Vec F S1x1x4608x128 .i8) (x5 : Vec F S1x1x64x4608 .fp8e4m3) (x6 : Vec F S1x1x64x256 .f32) (ds3 : Vec F S4608x512 .f32) (xs0 : Vec F S4608x128 .bf16) (xs1 : Vec F S64x4608 .bf16)

/-- The output columns of one head pair. -/
theorem pairOut_eq (L : List (View.Piece (Elt F) S256x512 .bf16)) (p : ℕ)
    (h : ∀ y, arg13.view.read (Elt F) (arg13.view.writes (Elt F) arg13.view.junk L) y = qrV (BitVec.ofNat 32 (i 2).val) x1 x2 x3 p y) :
    pairOut i arg3 harg3 arg11 harg11 arg12 harg12 arg13 x0 xs0 xs1 L = outV i x0 x1 x2 x3 xs0 xs1 p := by
  unfold pairOut outV
  rw [qrRd_eq arg13 _ _ h, vxRd_eq, kxRd_eq]
  simp only [skRd_eq]

/-- The pieces the body leaves read back as the output block. -/
theorem rest_read (v : View sig .tc .vmem S1x256x384 .bf16) (f : v.ty.Contents (Elt F)) :
    v.read (Elt F) (v.writes (Elt F) f (kernelRest c i arg3 harg3 arg4 harg4 arg5 harg5 arg6 harg6 arg7 harg7 arg8 harg8 arg9 harg9 arg10 harg10 arg11 harg11 arg12 harg12 arg13 harg13 arg14 harg14 x0 x1 x2 x3 x4 x5 x6 ds3 xs0 xs1).1) = outBlk i x0 x1 x2 x3 xs0 xs1 := by
  obtain ⟨L1, e1⟩ := qrPieces1_eq c i arg3 harg3 arg4 harg4 arg5 harg5 arg6 harg6 arg7 harg7 arg8 harg8 arg9 harg9 arg10 harg10 arg11 harg11 arg12 harg12 arg13 harg13 arg14 harg14 x1 x2 x3
  obtain ⟨L2, e2⟩ := qrPieces2_eq c i arg3 harg3 arg4 harg4 arg5 harg5 arg6 harg6 arg7 harg7 arg8 harg8 arg9 harg9 arg10 harg10 arg11 harg11 arg12 harg12 arg13 harg13 arg14 harg14 x1 x2 x3
  have p0 := pairOut_eq i arg3 harg3 arg11 harg11 arg12 harg12 arg13 x0 x1 x2 x3 xs0 xs1 (qrPieces0 c i arg3 harg3 arg4 harg4 arg5 harg5 arg6 harg6 arg7 harg7 arg8 harg8 arg9 harg9 arg10 harg10 arg11 harg11 arg12 harg12 arg13 harg13 arg14 harg14 x1 x2 x3) 0
    (fun y => by rw [qrPieces0_eq]; exact qrList_read _ _ _ x1 x2 x3 0 0 1 rfl rfl _ y)
  have p1 := pairOut_eq i arg3 harg3 arg11 harg11 arg12 harg12 arg13 x0 x1 x2 x3 xs0 xs1 (qrPieces1 c i arg3 harg3 arg4 harg4 arg5 harg5 arg6 harg6 arg7 harg7 arg8 harg8 arg9 harg9 arg10 harg10 arg11 harg11 arg12 harg12 arg13 harg13 arg14 harg14 x1 x2 x3) 1
    (fun y => by rw [e1]; exact qrList_read _ _ _ x1 x2 x3 1 2 3 rfl rfl _ y)
  have p2 := pairOut_eq i arg3 harg3 arg11 harg11 arg12 harg12 arg13 x0 x1 x2 x3 xs0 xs1 (qrPieces2 c i arg3 harg3 arg4 harg4 arg5 harg5 arg6 harg6 arg7 harg7 arg8 harg8 arg9 harg9 arg10 harg10 arg11 harg11 arg12 harg12 arg13 harg13 arg14 harg14 x1 x2 x3) 2
    (fun y => by rw [e2]; exact qrList_read _ _ _ x1 x2 x3 2 4 5 rfl rfl _ y)
  rw [rest_pieces, p0, p1, p2]
  funext y
  have b0 : (y 0).val < 1 := (y 0).isLt
  have b1 : (y 1).val < 256 := (y 1).isLt
  have b2 : (y 2).val < 384 := (y 2).isLt
  unfold outBlk
  have key : ∀ (o q : ℕ) (hq : o = 128 * q) (w : FVec F S1x256x128 .bf16) (hw : w = outV i x0 x1 x2 x3 xs0 xs1 q) (hi : ∀ a, (![0, 0, o] : Fin 3 → ℕ) a + (![1, 256, 128] : Fin 3 → ℕ) a ≤ S1x256x384.size a)
      (L : List (View.Piece (Elt F) S1x256x384 .bf16)) (hy : o ≤ (y 2).val ∧ (y 2).val < o + 128),
      v.read (Elt F) (v.writes (Elt F) f ((⟨Rect.unit ![0, 0, o] ![1, 256, 128] hi, w⟩ : View.Piece (Elt F) S1x256x384 .bf16) :: L)) y
        = outV i x0 x1 x2 x3 xs0 xs1 ((y 2).val / 128) (ix3 0 (y 1) ⟨(y 2).val % 128, by omega⟩) := by
    intro o q hq w hw hi L hy
    refine (View.read_writes_cons_unit_of_mem v f hi w L y (ix3 (n0 := 1) (n1 := 256) (n2 := 128) 0 (y 1) ⟨(y 2).val % 128, by omega⟩) rfl ?_).trans ?_
    · intro a
      fin_cases a
      · show (y 0).val = 0 + 0; omega
      · show (y 1).val = 0 + (y 1).val; omega
      · show (y 2).val = o + (y 2).val % 128; omega
    · rw [hw, show (y 2).val / 128 = q by omega]
  rcases lt_or_ge (y 2).val 128 with c0 | c0
  · refine (View.read_writes_cons_unit_of_not_mem _ _ _ _ _ y rfl 2 (Or.inl (show (y 2).val < 256 by omega))).trans ?_
    refine (View.read_writes_cons_unit_of_not_mem _ _ _ _ _ y rfl 2 (Or.inl (show (y 2).val < 128 by omega))).trans ?_
    exact key 0 0 rfl _ rfl _ _ ⟨by omega, by omega⟩
  rcases lt_or_ge (y 2).val 256 with c1 | c1
  · refine (View.read_writes_cons_unit_of_not_mem _ _ _ _ _ y rfl 2 (Or.inl (show (y 2).val < 256 by omega))).trans ?_
    exact key 128 1 rfl _ rfl _ _ ⟨by omega, by omega⟩
  · exact key 256 2 rfl _ rfl _ _ ⟨by omega, by omega⟩

end

end Cert.KernelIdeal.Gen
-- ==== Proof.KernelIdealRunFill.lean ====
/- The filling of the two scratch arrays: its run. -/
module

public import proofs.«01_k».proof.Proof.KernelIdealRest

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 9000000 in
/-- What the filling stores, as pieces (last first) of the two scratch arrays, with the run that leaves them. -/
noncomputable def kernelFill (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole) (hc0 : Scalar.cmpi .ne (Scalar.extui (Scalar.cmpi .eq (BitVec.ofNat 32 (i 2).val) 0#32)) 0#32 = 1#1)
    (x4 : Vec F S1x1x4608x128 .i8) (x5 : Vec F S1x1x64x4608 .fp8e4m3) (x6 : Vec F S1x1x64x256 .f32) (ds0 : Vec F S4608x128 .bf16) :
    Σ' (LS0 : List (View.Piece (Elt F) S4608x128 .bf16)), { LS1 : List (View.Piece (Elt F) S64x4608 .bf16) //
      ∀ (E : Set ℕ) (K : PUnit → sProp 𝕄),
        iprop(owns (c : Thread nD τ) arg7 fullShare x4 ∗ owns (c : Thread nD τ) arg8 fullShare x5 ∗ owns (c : Thread nD τ) arg9 fullShare x6 ∗ owns (c : Thread nD τ) arg11 fullShare ds0 ∗ (∃ d, owns (c : Thread nD τ) arg12 fullShare d)
            ∗ (iprop(owns (c : Thread nD τ) arg7 fullShare x4 ∗ owns (c : Thread nD τ) arg8 fullShare x5 ∗ owns (c : Thread nD τ) arg9 fullShare x6 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (fill (F := F) i arg3 harg3 arg4 harg4 arg5 harg5 arg6 harg6 arg7 harg7 arg8 harg8 arg9 harg9 arg10 harg10 arg11 harg11 arg12 harg12 arg13 harg13 arg14 harg14 hc0) K } := by
  refine ⟨?_, ?_, fun E K => ?run⟩
  case run =>
    unfold fill
    unfold owns
    iintro ⟨⟨%f4, %hf4, H4⟩, ⟨%f5, %hf5, H5⟩, ⟨%f6, %hf6, H6⟩, ⟨%fs0, %hfs0, HS0⟩, ⟨%ds1, %fs1, -, HS1⟩, Hk⟩
    obtain rfl := harg7.eq_unread hf4; obtain rfl := harg8.eq_unread hf5; obtain rfl := harg9.eq_unread hf6
    obtain rfl := harg11.eq_unread hfs0
    let prep := loopInv_k0_t1 (F := F) Variants.none c none E i arg3 harg3 arg4 harg4 arg5 harg5 arg6 harg6 arg7 harg7 arg8 harg8 arg9 harg9 arg10 harg10 arg11 harg11 arg12 harg12 arg13 harg13 arg14 harg14 hc0 (harg7.unread x4) (harg11.unread ds0)
    sl_exec_parts
    sl_step
    iapply Hk
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.KernelIdeal.Gen

end
-- ==== Proof.KernelIdealFill.lean ====
module
public import proofs.«01_k».proof.Proof.KernelIdealRunFill
public import proofs.«01_k».proof.Proof.KernelIdealBlock
public import Idealize.ShloMosaic.Lib.Pointwise
@[expose] public section
set_option maxHeartbeats 0
set_option maxRecDepth 16384
noncomputable section
open Idealize.ShloMosaic Idealize.ShloMosaic.TcCoe Idealize.SL.Sem
namespace Cert.KernelIdeal.Gen
open Cert.KernelIdeal
variable {F : FTy → Type} [FloatOps F] [Named F]

/-! ## What the filling leaves in the two scratch arrays -/

/-- The unpacked keys: 256 rows of the key array at a time. -/
def kxAll (x4 : Vec F S1x1x4608x128 .i8) : Vec F S4608x128 .bf16 :=
  fun y => k0_pay2 (fun j => x4 (ix4 0 0 ⟨256 * ((y 0).val / 256) + (j 2).val, by have : (j 2).val < 256 := (j 2).isLt; have : (y 0).val < 4608 := (y 0).isLt; omega⟩ (j 3)))
    (ix2 ⟨(y 0).val % 256, by omega⟩ (y 1))

/-- The scaled values. -/
def vxAll (x5 : Vec F S1x1x64x4608 .fp8e4m3) (x6 : Vec F S1x1x64x256 .f32) : Vec F S64x4608 .bf16 :=
  truncf .bf16 (mulf (extf .f32 (show FVec F S64x4608 .fp8e4m3 from fun y => x5 (ix4 0 0 (y 0) (y 1))) bitsLt_fp8e4m3_f32)
    (show FVec F S64x4608 .f32 from fun y => x6 (ix4 0 0 (y 0) ⟨(y 1).val / 32, by have : (y 1).val < 4608 := (y 1).isLt; omega⟩))) bitsLt_bf16_f32

/-- The column scales gathered for 128 keys, from word `off` on. -/
def vGath (off : BitVec 32) (v632 : Vec F S1x1x64x128 .f32) : FVec F S64x128 .f32 :=
  have v631 : IVec S64x128 32 := iota .tc S64x128 32 [1] iota_S64x128_d1_w32
  have v633 : FVec F S64x128 .f32 := shapeCast S64x128 v632 shapeCasts_S1x1x64x128_S64x128
  have v634 : IVec S64x128 32 := broadcast S64x128 32#32
  have v635 : IVec S64x128 32 := divsi v631 v634
  have v636 : IVec S64x128 32 := broadcast S64x128 0#32
  have v637 : IVec S64x128 1 := cmpi .sgt v631 v636
  have v638 : IVec S64x128 32 := extui 32 v637 natLt_1_32
  have v639 : IVec S64x128 32 := broadcast S64x128 0#32
  have v640 : IVec S64x128 1 := cmpi .slt v631 v639
  have v641 : IVec S64x128 32 := extui 32 v640 natLt_1_32
  have v642 : IVec S64x128 32 := subi v638 v641
  let v643 : BitVec 1 := Scalar.cmpi .sgt 32#32 0#32
  let v644 : BitVec 32 := Scalar.extui v643
  let v645 : BitVec 1 := Scalar.cmpi .slt 32#32 0#32
  let v646 : BitVec 32 := Scalar.extui v645
  let v647 : BitVec 32 := Scalar.subi v644 v646
  have v648 : IVec S64x128 32 := broadcast S64x128 v647
  have v649 : IVec S64x128 1 := cmpi .ne v642 v648
  have v650 : IVec S64x128 32 := broadcast S64x128 32#32
  have v651 : IVec S64x128 32 := remsi v631 v650
  have v652 : IVec S64x128 32 := broadcast S64x128 0#32
  have v653 : IVec S64x128 1 := cmpi .ne v651 v652
  have v654 : IVec S64x128 1 := andi v649 v653
  have v655 : IVec S64x128 32 := broadcast S64x128 1#32
  have v656 : IVec S64x128 32 := subi v635 v655
  have v657 : IVec S64x128 32 := select v654 v656 v635
  have v658 : IVec S64x128 32 := broadcast S64x128 off
  have v659 : IVec S64x128 32 := addi v657 v658
  have v660 : IVec S64x128 32 := broadcast S64x128 0#32
  have v661 : IVec S64x128 1 := cmpi .slt v659 v660
  have v662 : IVec S64x128 32 := broadcast S64x128 128#32
  have v663 : IVec S64x128 32 := addi v659 v662
  have v664 : IVec S64x128 32 := select v661 v663 v659
  have v665 : IVec S64x128x1 32 := shapeCast S64x128x1 v664 shapeCasts_S64x128_S64x128x1
  have v666 : IVec S64x128 32 := shapeCast S64x128 v665 shapeCasts_S64x128x1_S64x128
  have v667 : FVec F S64x128 .f32 := dynamicGather 1 v633 v666
  v667

/-- Equal entries, equal scaled values. -/
theorem elt_congr {s t : Shape} (A : FVec F s .fp8e4m3) (A' : FVec F t .fp8e4m3) (B : FVec F s .f32) (B' : FVec F t .f32) (y : s.Idx) (y' : t.Idx)
    (h1 : A y = A' y') (h2 : B y = B' y') :
    truncf .bf16 (mulf (extf .f32 A bitsLt_fp8e4m3_f32) B) bitsLt_bf16_f32 y = truncf .bf16 (mulf (extf .f32 A' bitsLt_fp8e4m3_f32) B') bitsLt_bf16_f32 y' := by
  unfold truncf mulf extf
  simp only [h1, h2]

/-- The word of `vGath` at a lane. -/
def gw (x off : BitVec 32) : BitVec 32 :=
  let q := Scalar.divsi x 32#32
  let s : BitVec 32 := Scalar.subi (Scalar.extui (Scalar.cmpi .sgt x 0#32)) (Scalar.extui (Scalar.cmpi .slt x 0#32))
  let c : BitVec 32 := Scalar.subi (Scalar.extui (Scalar.cmpi .sgt 32#32 0#32)) (Scalar.extui (Scalar.cmpi .slt 32#32 0#32))
  let f := Scalar.select (Scalar.andi (Scalar.cmpi .ne s c) (Scalar.cmpi .ne (Scalar.remsi x 32#32) 0#32)) (Scalar.subi q 1#32) q
  let g := Scalar.addi f off
  Scalar.select (Scalar.cmpi .slt g 0#32) (Scalar.addi g 128#32) g

/-- The gathered word of a lane is the lane over 32, from the offset on. -/
theorem gw_eq : ∀ (l : Fin 128) (o : Fin 32), (gw (BitVec.ofNat 32 l.val) (BitVec.ofNat 32 (4 * o.val))).toNat % 128 = l.val / 32 + 4 * o.val := by
  decide +kernel

/-- The gathered value scales at an index. -/
theorem vGath_eq (o : Fin 32) (w : Vec F S1x1x64x128 .f32) (d : Fin 64) (l : Fin 128) :
    vGath (BitVec.ofNat 32 (4 * o.val)) w (ix2 d l) = w (ix4 0 0 d ⟨l.val / 32 + 4 * o.val, by omega⟩) := by
  have hs : ∀ e : Fin 128, shapeCast S64x128 w shapeCasts_S1x1x64x128_S64x128 (ix2 d e) = w (ix4 0 0 d e) := fun e => by pointwise
  rw [← hs]
  unfold vGath
  dsimp only
  simp only [shapeCast_shapeCast]
  rw [dynamicGather_apply]
  congr 1
  funext b
  fin_cases b
  · rfl
  · apply Fin.ext
    refine (congrArg Fin.val (if_pos rfl)).trans ?_
    have hi : iota .tc S64x128 32 [1] iota_S64x128_d1_w32 (ix2 d l) = BitVec.ofNat 32 l.val := by pointwise
    show (gw (iota .tc S64x128 32 [1] iota_S64x128_d1_w32 (ix2 d l)) (BitVec.ofNat 32 (4 * o.val))).toNat % 128 = _
    rw [hi]
    exact gw_eq l o

section
variable (c : Dev nD) (i : grid0.Coords) (arg3 : Memref sig .tc .smem S32x144 .f32) (harg3 : arg3.IsWhole) (arg4 : Memref sig .tc .vmem S1x1x192x256 .i8) (harg4 : arg4.IsWhole) (arg5 : Memref sig .tc .vmem S1x1x6x256 .f32) (harg5 : arg5.IsWhole) (arg6 : Memref sig .tc .vmem S1x1x384x128 .bf16) (harg6 : arg6.IsWhole) (arg7 : Memref sig .tc .vmem S1x1x4608x128 .i8) (harg7 : arg7.IsWhole) (arg8 : Memref sig .tc .vmem S1x1x64x4608 .fp8e4m3) (harg8 : arg8.IsWhole) (arg9 : Memref sig .tc .vmem S1x1x64x256 .f32) (harg9 : arg9.IsWhole) (arg10 : Memref sig .tc .vmem S1x256x384 .bf16) (harg10 : arg10.IsWhole) (arg11 : Memref sig .tc .vmem S4608x128 .bf16) (harg11 : arg11.IsWhole) (arg12 : Memref sig .tc .vmem S64x4608 .bf16) (harg12 : arg12.IsWhole) (arg13 : Memref sig .tc .vmem S256x512 .bf16) (harg13 : arg13.IsWhole) (arg14 : Memref sig .tc .vmem S4608x512 .f32) (harg14 : arg14.IsWhole)
  (hc0 : Scalar.cmpi .ne (Scalar.extui (Scalar.cmpi .eq (BitVec.ofNat 32 (i 2).val) 0#32)) 0#32 = 1#1)
  (x4 : Vec F S1x1x4608x128 .i8) (x5 : Vec F S1x1x64x4608 .fp8e4m3) (x6 : Vec F S1x1x64x256 .f32) (ds0 : Vec F S4608x128 .bf16)

/-- A block of value codes lies in the operand. -/
theorem vx_inb8 (j : ℕ) : ∀ a, (![0, 0, 0, 128 * (j % 36)] : Fin 4 → ℕ) a + S1x1x64x128.size a ≤ S1x1x64x4608.size a := by
  intro a; fin_cases a <;> simp <;> omega
/-- A block of value scales lies in the operand. -/
theorem vx_inb9 (j : ℕ) : ∀ a, (![0, 0, 0, 128 * (j % 36 / 32)] : Fin 4 → ℕ) a + S1x1x64x128.size a ≤ S1x1x64x256.size a := by
  intro a; fin_cases a <;> simp <;> omega
/-- A block of scaled values lies in the scratch. -/
theorem vx_inb12 (j : ℕ) : ∀ a, (![0, 128 * (j % 36)] : Fin 2 → ℕ) a + S64x128.size a ≤ S64x4608.size a := by
  intro a; fin_cases a <;> simp <;> omega

/-- The pieces of the scaled values, 128 keys each, the newest first. -/
def vxList : ℕ → List (View.Piece (Elt F) S64x4608 .bf16)
  | 0 => []
  | j + 1 => ⟨Rect.unit (s := S64x4608) ![0, 128 * (j % 36)] S64x128.size (vx_inb12 j),
      k0_pay4 (vGath (BitVec.ofNat 32 (4 * j % 128)) (View.readAt (Elt F) arg9.view (Rect.unit (s := S1x1x64x256) ![0, 0, 0, 128 * (j % 36 / 32)] S1x1x64x128.size (vx_inb9 j)).toLoadRect (harg9.unread x6)))
        (View.readAt (Elt F) arg8.view (Rect.unit (s := S1x1x64x4608) ![0, 0, 0, 128 * (j % 36)] S1x1x64x128.size (vx_inb8 j)).toLoadRect (harg8.unread x5))⟩ :: vxList j

/-- The pieces the filling writes to the value scratch. -/
theorem fill_pieces1 : (kernelFill c i arg3 harg3 arg4 harg4 arg5 harg5 arg6 harg6 arg7 harg7 arg8 harg8 arg9 harg9 arg10 harg10 arg11 harg11 arg12 harg12 arg13 harg13 arg14 harg14 hc0 x4 x5 x6 ds0).2.val = vxList arg8 harg8 arg9 harg9 x5 x6 36 := by
  unfold kernelFill
  dsimp only
  sl_unfold_words
  rfl

/-- A block of key codes lies in the operand. -/
theorem kx_inb7 (k : ℕ) : ∀ a, (![0, 0, 256 * (k % 18), 0] : Fin 4 → ℕ) a + S1x1x256x128.size a ≤ S1x1x4608x128.size a := by
  intro a; fin_cases a <;> simp <;> omega
/-- A block of keys lies in the scratch. -/
theorem kx_inb11 (k : ℕ) : ∀ a, (![256 * (k % 18), 0] : Fin 2 → ℕ) a + S256x128.size a ≤ S4608x128.size a := by
  intro a; fin_cases a <;> simp <;> omega

/-- The pieces of the unpacked keys. -/
def kxList : ℕ → List (View.Piece (Elt F) S4608x128 .bf16)
  | 0 => []
  | k + 1 => ⟨Rect.unit (s := S4608x128) ![256 * (k % 18), 0] S256x128.size (kx_inb11 k),
      k0_pay2 (View.readAt (Elt F) arg7.view (Rect.unit (s := S1x1x4608x128) ![0, 0, 256 * (k % 18), 0] S1x1x256x128.size (kx_inb7 k)).toLoadRect (harg7.unread x4))⟩ :: kxList k

/-- The pieces written by the first rounds of the key loop. -/
theorem pb_eq (n : ℕ) (hn : n ≤ k0_t1_loop.trips) : pb_k0_t1 (F := F) Variants.none c none i arg3 harg3 arg4 harg4 arg5 harg5 arg6 harg6 arg7 harg7 arg8 harg8 arg9 harg9 arg10 harg10 arg11 harg11 arg12 harg12 arg13 harg13 arg14 harg14 hc0 (harg7.unread x4) n = kxList arg7 harg7 x4 n := by
  induction n with
  | zero => rfl
  | succ n ih =>
    have h18 : n < 18 := by have : k0_t1_loop.trips = 18 := by decide
                            omega
    refine (pb_k0_t1_succ (F := F) Variants.none c none i arg3 harg3 arg4 harg4 arg5 harg5 arg6 harg6 arg7 harg7 arg8 harg8 arg9 harg9 arg10 harg10 arg11 harg11 arg12 harg12 arg13 harg13 arg14 harg14 hc0 (harg7.unread x4) ⟨n, hn⟩).trans ?_
    rw [ih (by omega)]
    have e1 : k0_off1 ⟨n, hn⟩ = ![0, 0, 256 * (n % 18), 0] := congrArg (fun z => ![0, 0, z, 0]) (row_word n h18)
    have e2 : k0_off2 ⟨n, hn⟩ = ![256 * (n % 18), 0] := congrArg (fun z => ![z, 0]) (row_word n h18)
    have er := readAt_congr (F := F) (v := arg7.view) (sz := S1x1x256x128.size) e1 (k0_off1_inb i ⟨n, hn⟩ hc0) (kx_inb7 n) (harg7.unread x4)
    rw [show kxList arg7 harg7 x4 (n + 1) = ⟨Rect.unit (s := S4608x128) ![256 * (n % 18), 0] S256x128.size (kx_inb11 n),
      k0_pay2 (View.readAt (Elt F) arg7.view (Rect.unit (s := S1x1x4608x128) ![0, 0, 256 * (n % 18), 0] S1x1x256x128.size (kx_inb7 n)).toLoadRect (harg7.unread x4))⟩ :: kxList arg7 harg7 x4 n from rfl]
    generalize kxList arg7 harg7 x4 n = st
    rw [er]
    refine Eq.trans ?_ (congrArg (· :: st) (piece_congr (F := F) (s := S4608x128) (sz := S256x128.size) e2 (k0_off2_inb i ⟨n, hn⟩ hc0) (kx_inb11 n)
      (k0_pay2 (View.readAt (Elt F) arg7.view (Rect.unit (s := S1x1x4608x128) (k0_off1 ⟨n, hn⟩) S1x1x256x128.size (k0_off1_inb i ⟨n, hn⟩ hc0)).toLoadRect (harg7.unread x4))))).symm
    unfold tripL_k0_t1 trip_k0_t1
    rfl

/-- The pieces the filling writes to the key scratch. -/
theorem fill_pieces0 : (kernelFill c i arg3 harg3 arg4 harg4 arg5 harg5 arg6 harg6 arg7 harg7 arg8 harg8 arg9 harg9 arg10 harg10 arg11 harg11 arg12 harg12 arg13 harg13 arg14 harg14 hc0 x4 x5 x6 ds0).1 = kxList arg7 harg7 x4 18 := by
  rw [← pb_eq c i arg3 harg3 arg4 harg4 arg5 harg5 arg6 harg6 arg7 harg7 arg8 harg8 arg9 harg9 arg10 harg10 arg11 harg11 arg12 harg12 arg13 harg13 arg14 harg14 hc0 x4 18 (by decide)]
  unfold kernelFill
  rfl

/-- The key pieces read back as the unpacked keys. -/
theorem kxList_read (v : View sig .tc .vmem S4608x128 .bf16) (f : v.ty.Contents (Elt F)) (n : ℕ) (hn : n ≤ 18) (y : S4608x128.Idx) (hy : (y 0).val < 256 * n) :
    v.read (Elt F) (v.writes (Elt F) f (kxList arg7 harg7 x4 n)) y = kxAll x4 y := by
  induction n with
  | zero => omega
  | succ n ih =>
    have b1 : (y 1).val < 128 := (y 1).isLt
    unfold kxList
    rcases lt_or_ge (y 0).val (256 * n) with h | h
    · refine (View.read_writes_cons_unit_of_not_mem _ _ _ _ _ y rfl 0 (Or.inl (show (y 0).val < 256 * (n % 18) by omega))).trans ?_
      exact ih (by omega) h
    · refine (View.read_writes_cons_unit_of_mem _ _ _ _ _ y (ix2 (n0 := 256) (n1 := 128) ⟨(y 0).val % 256, by omega⟩ (y 1)) rfl
        (Fin.forall_fin_two.mpr ⟨show (y 0).val = 256 * (n % 18) + (y 0).val % 256 by omega, show (y 1).val = 0 + (y 1).val by omega⟩)).trans ?_
      unfold kxAll
      congr 1
      congr 1
      funext j
      rw [View.readAt_apply, harg7.read_unread]
      congr 1
      funext a
      have h0 : (j 0).val < 1 := (j 0).isLt
      have h1 : (j 1).val < 1 := (j 1).isLt
      apply Fin.ext
      fin_cases a
      · show 0 + 1 * (j 0).val = 0; omega
      · show 0 + 1 * (j 1).val = 0; omega
      · show 256 * (n % 18) + 1 * (j 2).val = 256 * ((y 0).val / 256) + (j 2).val; omega
      · show 0 + 1 * (j 3).val = (j 3).val; omega

/-- The value pieces read back as the scaled values. -/
theorem vxList_read (v : View sig .tc .vmem S64x4608 .bf16) (f : v.ty.Contents (Elt F)) (n : ℕ) (hn : n ≤ 36) (y : S64x4608.Idx) (hy : (y 1).val < 128 * n) :
    v.read (Elt F) (v.writes (Elt F) f (vxList arg8 harg8 arg9 harg9 x5 x6 n)) y = vxAll x5 x6 y := by
  induction n with
  | zero => omega
  | succ n ih =>
    have b0 : (y 0).val < 64 := (y 0).isLt
    unfold vxList
    rcases lt_or_ge (y 1).val (128 * n) with h | h
    · refine (View.read_writes_cons_unit_of_not_mem _ _ _ _ _ y rfl 1 (Or.inl (show (y 1).val < 128 * (n % 36) by omega))).trans ?_
      exact ih (by omega) h
    · refine (View.read_writes_cons_unit_of_mem _ _ _ _ _ y (ix2 (n0 := 64) (n1 := 128) (y 0) ⟨(y 1).val % 128, by omega⟩) rfl
        (Fin.forall_fin_two.mpr ⟨show (y 0).val = 0 + (y 0).val by omega, show (y 1).val = 128 * (n % 36) + (y 1).val % 128 by omega⟩)).trans ?_
      have hg := fun w => vGath_eq (F := F) ⟨n % 32, by omega⟩ w (y 0) ⟨(y 1).val % 128, by omega⟩
      have hs : ∀ (w : Vec F S1x1x64x128 .fp8e4m3) (e : Fin 128), shapeCast S64x128 w shapeCasts_S1x1x64x128_S64x128 (ix2 (y 0) e) = w (ix4 0 0 (y 0) e) := fun w e => by pointwise
      rw [show 4 * n % 128 = 4 * (n % 32) by omega]
      unfold k0_pay4 vxAll
      dsimp only
      rw [shapeCast_self]
      refine elt_congr _ _ _ _ _ _ ((hs _ _).trans ?_) ((hg _).trans ?_)
      · rw [View.readAt_apply, harg8.read_unread]
        congr 1
        funext a
        apply Fin.ext
        fin_cases a
        · rfl
        · rfl
        · show 0 + 1 * (y 0).val = (y 0).val; omega
        · show 128 * (n % 36) + 1 * ((y 1).val % 128) = (y 1).val; omega
      · rw [View.readAt_apply, harg9.read_unread]
        congr 1
        funext a
        apply Fin.ext
        fin_cases a
        · rfl
        · rfl
        · show 0 + 1 * (y 0).val = (y 0).val; omega
        · show 128 * (n % 36 / 32) + 1 * ((y 1).val % 128 / 32 + 4 * (n % 32)) = (y 1).val / 32; omega

/-- After the filling the key scratch holds the keys. -/
theorem fill_read0 (v : View sig .tc .vmem S4608x128 .bf16) (f : v.ty.Contents (Elt F)) :
    v.read (Elt F) (v.writes (Elt F) f (kernelFill c i arg3 harg3 arg4 harg4 arg5 harg5 arg6 harg6 arg7 harg7 arg8 harg8 arg9 harg9 arg10 harg10 arg11 harg11 arg12 harg12 arg13 harg13 arg14 harg14 hc0 x4 x5 x6 ds0).1) = kxAll x4 := by
  rw [fill_pieces0]
  funext y
  exact kxList_read arg7 harg7 x4 v f 18 le_rfl y (show (y 0).val < 4608 from (y 0).isLt)

/-- After the filling the value scratch holds the scaled values. -/
theorem fill_read1 (v : View sig .tc .vmem S64x4608 .bf16) (f : v.ty.Contents (Elt F)) :
    v.read (Elt F) (v.writes (Elt F) f (kernelFill c i arg3 harg3 arg4 harg4 arg5 harg5 arg6 harg6 arg7 harg7 arg8 harg8 arg9 harg9 arg10 harg10 arg11 harg11 arg12 harg12 arg13 harg13 arg14 harg14 hc0 x4 x5 x6 ds0).2.val) = vxAll x5 x6 := by
  rw [fill_pieces1]
  funext y
  exact vxList_read arg8 harg8 arg9 harg9 x5 x6 v f 36 le_rfl y (show (y 1).val < 4608 from (y 1).isLt)

end
end Cert.KernelIdeal.Gen
-- ==== Proof.KernelIdealValue.lean ====
/- The value of the launch: what each point leaves in its output block, and what the result array ends at. -/
module

public import proofs.«01_k».proof.Proof.KernelIdealBlock
public import proofs.«01_k».proof.Proof.KernelIdealFill
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Gen.Track

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Below the number of points. -/
theorem lt_N {n : ℕ} (h : n < 576) : n < cfg0.N := Nat.lt_of_lt_of_eq h N_0.symm

/-- There are 576 points. -/
theorem isLt_N (t : Fin cfg0.N) : t.val < 576 := Nat.lt_of_lt_of_eq t.isLt N_0

/-- The grid coordinates of a point. -/
theorem co0 (t : Fin cfg0.N) : (grid0.coords t 0).val = t.val / 144 := by
  have ht := isLt_N t
  have e0 : (grid0.coords t 0).val = t.val / 144 % 4 := Pipeline.Grid.coords_val t 0 (by decide) rfl
  omega
/-- The second grid coordinate. -/
theorem co1 (t : Fin cfg0.N) : (grid0.coords t 1).val = t.val / 18 % 8 := Pipeline.Grid.coords_val t 1 (by decide) rfl
/-- The third grid coordinate. -/
theorem co2 (t : Fin cfg0.N) : (grid0.coords t 2).val = t.val % 18 := by
  have e2 : (grid0.coords t 2).val = t.val / 1 % 18 := Pipeline.Grid.coords_val t 2 (by decide) rfl
  omega

/-- Operand 0's block at an index. -/
theorem iblk0_at (c : Dev nD) (t : Fin cfg0.N) (j : Shape.Idx S32x144) :
    (iblk m c 0 t : Vec F S32x144 .f32) j = (V m c main_v15 : Vec F S32x144 .f32) (ix2 (j 0) (j 1)) := by
  have ht := isLt_N t
  have e0 : win0_0.index t 0 = 0 := rfl
  have e1 : win0_0.index t 1 = 0 := rfl
  unfold iblk
  rw [View.read_apply]
  show V m c main_v15 _ = V m c main_v15 _
  refine congrArg (V m c main_v15) (funext fun a => Fin.ext ?_)
  match a with
  | ⟨0, _⟩ =>
    show win0_0.index t 0 * 32 + 1 * (j 0).val = (j 0).val
    rw [e0]; have hj : (j 0).val < 32 := (j 0).isLt; omega
  | ⟨1, _⟩ =>
    show win0_0.index t 1 * 144 + 1 * (j 1).val = (j 1).val
    rw [e1]; have hj : (j 1).val < 144 := (j 1).isLt; omega

/-- Operand 1's block at an index. -/
theorem iblk1_at (c : Dev nD) (t : Fin cfg0.N) (j : Shape.Idx S1x1x192x256) :
    (iblk m c 1 t : Vec F S1x1x192x256 .i8) j = (V m c main_v1 : Vec F S4x8x192x4608 .i8) (ix4 ⟨t.val / 144, by have := isLt_N t; omega⟩ ⟨t.val / 18 % 8, by omega⟩ (j 2) ⟨256 * (t.val % 18) + (j 3).val, by have h : (j 3).val < 256 := (j 3).isLt; omega⟩) := by
  have ht := isLt_N t
  have e0 : win0_1.index t 0 = t.val / 144 := by
    show (BitVec.ofNat 32 (grid0.coords t 0).val).toNat = _
    rw [co0, BitVec.toNat_ofNat]; omega
  have e1 : win0_1.index t 1 = t.val / 18 % 8 := by
    show (BitVec.ofNat 32 (grid0.coords t 1).val).toNat = _
    rw [co1, BitVec.toNat_ofNat]; omega
  have e2 : win0_1.index t 2 = 0 := rfl
  have e3 : win0_1.index t 3 = t.val % 18 := by
    show (BitVec.ofNat 32 (grid0.coords t 2).val).toNat = _
    rw [co2, BitVec.toNat_ofNat]; omega
  unfold iblk
  rw [View.read_apply]
  show V m c main_v1 _ = V m c main_v1 _
  refine congrArg (V m c main_v1) (funext fun a => Fin.ext ?_)
  match a with
  | ⟨0, _⟩ =>
    show win0_1.index t 0 * 1 + 1 * (j 0).val = t.val / 144
    rw [e0]; have hj : (j 0).val < 1 := (j 0).isLt; omega
  | ⟨1, _⟩ =>
    show win0_1.index t 1 * 1 + 1 * (j 1).val = t.val / 18 % 8
    rw [e1]; have hj : (j 1).val < 1 := (j 1).isLt; omega
  | ⟨2, _⟩ =>
    show win0_1.index t 2 * 192 + 1 * (j 2).val = (j 2).val
    rw [e2]; have hj : (j 2).val < 192 := (j 2).isLt; omega
  | ⟨3, _⟩ =>
    show win0_1.index t 3 * 256 + 1 * (j 3).val = 256 * (t.val % 18) + (j 3).val
    rw [e3]; have hj : (j 3).val < 256 := (j 3).isLt; omega

/-- Operand 2's block at an index. -/
theorem iblk2_at (c : Dev nD) (t : Fin cfg0.N) (j : Shape.Idx S1x1x6x256) :
    (iblk m c 2 t : Vec F S1x1x6x256 .f32) j = (V m c main_v5 : Vec F S4x8x6x4608 .f32) (ix4 ⟨t.val / 144, by have := isLt_N t; omega⟩ ⟨t.val / 18 % 8, by omega⟩ (j 2) ⟨256 * (t.val % 18) + (j 3).val, by have h : (j 3).val < 256 := (j 3).isLt; omega⟩) := by
  have ht := isLt_N t
  have e0 : win0_2.index t 0 = t.val / 144 := by
    show (BitVec.ofNat 32 (grid0.coords t 0).val).toNat = _
    rw [co0, BitVec.toNat_ofNat]; omega
  have e1 : win0_2.index t 1 = t.val / 18 % 8 := by
    show (BitVec.ofNat 32 (grid0.coords t 1).val).toNat = _
    rw [co1, BitVec.toNat_ofNat]; omega
  have e2 : win0_2.index t 2 = 0 := rfl
  have e3 : win0_2.index t 3 = t.val % 18 := by
    show (BitVec.ofNat 32 (grid0.coords t 2).val).toNat = _
    rw [co2, BitVec.toNat_ofNat]; omega
  unfold iblk
  rw [View.read_apply]
  show V m c main_v5 _ = V m c main_v5 _
  refine congrArg (V m c main_v5) (funext fun a => Fin.ext ?_)
  match a with
  | ⟨0, _⟩ =>
    show win0_2.index t 0 * 1 + 1 * (j 0).val = t.val / 144
    rw [e0]; have hj : (j 0).val < 1 := (j 0).isLt; omega
  | ⟨1, _⟩ =>
    show win0_2.index t 1 * 1 + 1 * (j 1).val = t.val / 18 % 8
    rw [e1]; have hj : (j 1).val < 1 := (j 1).isLt; omega
  | ⟨2, _⟩ =>
    show win0_2.index t 2 * 6 + 1 * (j 2).val = (j 2).val
    rw [e2]; have hj : (j 2).val < 6 := (j 2).isLt; omega
  | ⟨3, _⟩ =>
    show win0_2.index t 3 * 256 + 1 * (j 3).val = 256 * (t.val % 18) + (j 3).val
    rw [e3]; have hj : (j 3).val < 256 := (j 3).isLt; omega

/-- Operand 3's block at an index. -/
theorem iblk3_at (c : Dev nD) (t : Fin cfg0.N) (j : Shape.Idx S1x1x384x128) :
    (iblk m c 3 t : Vec F S1x1x384x128 .bf16) j = (V m c main_v9 : Vec F S4x8x384x128 .bf16) (ix4 ⟨t.val / 144, by have := isLt_N t; omega⟩ ⟨t.val / 18 % 8, by omega⟩ (j 2) (j 3)) := by
  have ht := isLt_N t
  have e0 : win0_3.index t 0 = t.val / 144 := by
    show (BitVec.ofNat 32 (grid0.coords t 0).val).toNat = _
    rw [co0, BitVec.toNat_ofNat]; omega
  have e1 : win0_3.index t 1 = t.val / 18 % 8 := by
    show (BitVec.ofNat 32 (grid0.coords t 1).val).toNat = _
    rw [co1, BitVec.toNat_ofNat]; omega
  have e2 : win0_3.index t 2 = 0 := rfl
  have e3 : win0_3.index t 3 = 0 := rfl
  unfold iblk
  rw [View.read_apply]
  show V m c main_v9 _ = V m c main_v9 _
  refine congrArg (V m c main_v9) (funext fun a => Fin.ext ?_)
  match a with
  | ⟨0, _⟩ =>
    show win0_3.index t 0 * 1 + 1 * (j 0).val = t.val / 144
    rw [e0]; have hj : (j 0).val < 1 := (j 0).isLt; omega
  | ⟨1, _⟩ =>
    show win0_3.index t 1 * 1 + 1 * (j 1).val = t.val / 18 % 8
    rw [e1]; have hj : (j 1).val < 1 := (j 1).isLt; omega
  | ⟨2, _⟩ =>
    show win0_3.index t 2 * 384 + 1 * (j 2).val = (j 2).val
    rw [e2]; have hj : (j 2).val < 384 := (j 2).isLt; omega
  | ⟨3, _⟩ =>
    show win0_3.index t 3 * 128 + 1 * (j 3).val = (j 3).val
    rw [e3]; have hj : (j 3).val < 128 := (j 3).isLt; omega

/-- Operand 4's block at an index. -/
theorem iblk4_at (c : Dev nD) (t : Fin cfg0.N) (j : Shape.Idx S1x1x4608x128) :
    (iblk m c 4 t : Vec F S1x1x4608x128 .i8) j = (V m c main_v13 : Vec F S4x8x4608x128 .i8) (ix4 ⟨t.val / 144, by have := isLt_N t; omega⟩ ⟨t.val / 18 % 8, by omega⟩ (j 2) (j 3)) := by
  have ht := isLt_N t
  have e0 : win0_4.index t 0 = t.val / 144 := by
    show (BitVec.ofNat 32 (grid0.coords t 0).val).toNat = _
    rw [co0, BitVec.toNat_ofNat]; omega
  have e1 : win0_4.index t 1 = t.val / 18 % 8 := by
    show (BitVec.ofNat 32 (grid0.coords t 1).val).toNat = _
    rw [co1, BitVec.toNat_ofNat]; omega
  have e2 : win0_4.index t 2 = 0 := rfl
  have e3 : win0_4.index t 3 = 0 := rfl
  unfold iblk
  rw [View.read_apply]
  show V m c main_v13 _ = V m c main_v13 _
  refine congrArg (V m c main_v13) (funext fun a => Fin.ext ?_)
  match a with
  | ⟨0, _⟩ =>
    show win0_4.index t 0 * 1 + 1 * (j 0).val = t.val / 144
    rw [e0]; have hj : (j 0).val < 1 := (j 0).isLt; omega
  | ⟨1, _⟩ =>
    show win0_4.index t 1 * 1 + 1 * (j 1).val = t.val / 18 % 8
    rw [e1]; have hj : (j 1).val < 1 := (j 1).isLt; omega
  | ⟨2, _⟩ =>
    show win0_4.index t 2 * 4608 + 1 * (j 2).val = (j 2).val
    rw [e2]; have hj : (j 2).val < 4608 := (j 2).isLt; omega
  | ⟨3, _⟩ =>
    show win0_4.index t 3 * 128 + 1 * (j 3).val = (j 3).val
    rw [e3]; have hj : (j 3).val < 128 := (j 3).isLt; omega

/-- Operand 5's block at an index. -/
theorem iblk5_at (c : Dev nD) (t : Fin cfg0.N) (j : Shape.Idx S1x1x64x4608) :
    (iblk m c 5 t : Vec F S1x1x64x4608 .fp8e4m3) j = (V m c main_v16 : Vec F S4x8x64x4608 .fp8e4m3) (ix4 ⟨t.val / 144, by have := isLt_N t; omega⟩ ⟨t.val / 18 % 8, by omega⟩ (j 2) (j 3)) := by
  have ht := isLt_N t
  have e0 : win0_5.index t 0 = t.val / 144 := by
    show (BitVec.ofNat 32 (grid0.coords t 0).val).toNat = _
    rw [co0, BitVec.toNat_ofNat]; omega
  have e1 : win0_5.index t 1 = t.val / 18 % 8 := by
    show (BitVec.ofNat 32 (grid0.coords t 1).val).toNat = _
    rw [co1, BitVec.toNat_ofNat]; omega
  have e2 : win0_5.index t 2 = 0 := rfl
  have e3 : win0_5.index t 3 = 0 := rfl
  unfold iblk
  rw [View.read_apply]
  show V m c main_v16 _ = V m c main_v16 _
  refine congrArg (V m c main_v16) (funext fun a => Fin.ext ?_)
  match a with
  | ⟨0, _⟩ =>
    show win0_5.index t 0 * 1 + 1 * (j 0).val = t.val / 144
    rw [e0]; have hj : (j 0).val < 1 := (j 0).isLt; omega
  | ⟨1, _⟩ =>
    show win0_5.index t 1 * 1 + 1 * (j 1).val = t.val / 18 % 8
    rw [e1]; have hj : (j 1).val < 1 := (j 1).isLt; omega
  | ⟨2, _⟩ =>
    show win0_5.index t 2 * 64 + 1 * (j 2).val = (j 2).val
    rw [e2]; have hj : (j 2).val < 64 := (j 2).isLt; omega
  | ⟨3, _⟩ =>
    show win0_5.index t 3 * 4608 + 1 * (j 3).val = (j 3).val
    rw [e3]; have hj : (j 3).val < 4608 := (j 3).isLt; omega

/-- Operand 6's block at an index. -/
theorem iblk6_at (c : Dev nD) (t : Fin cfg0.N) (j : Shape.Idx S1x1x64x256) :
    (iblk m c 6 t : Vec F S1x1x64x256 .f32) j = (V m c main_v18 : Vec F S4x8x64x256 .f32) (ix4 ⟨t.val / 144, by have := isLt_N t; omega⟩ ⟨t.val / 18 % 8, by omega⟩ (j 2) (j 3)) := by
  have ht := isLt_N t
  have e0 : win0_6.index t 0 = t.val / 144 := by
    show (BitVec.ofNat 32 (grid0.coords t 0).val).toNat = _
    rw [co0, BitVec.toNat_ofNat]; omega
  have e1 : win0_6.index t 1 = t.val / 18 % 8 := by
    show (BitVec.ofNat 32 (grid0.coords t 1).val).toNat = _
    rw [co1, BitVec.toNat_ofNat]; omega
  have e2 : win0_6.index t 2 = 0 := rfl
  have e3 : win0_6.index t 3 = 0 := rfl
  unfold iblk
  rw [View.read_apply]
  show V m c main_v18 _ = V m c main_v18 _
  refine congrArg (V m c main_v18) (funext fun a => Fin.ext ?_)
  match a with
  | ⟨0, _⟩ =>
    show win0_6.index t 0 * 1 + 1 * (j 0).val = t.val / 144
    rw [e0]; have hj : (j 0).val < 1 := (j 0).isLt; omega
  | ⟨1, _⟩ =>
    show win0_6.index t 1 * 1 + 1 * (j 1).val = t.val / 18 % 8
    rw [e1]; have hj : (j 1).val < 1 := (j 1).isLt; omega
  | ⟨2, _⟩ =>
    show win0_6.index t 2 * 64 + 1 * (j 2).val = (j 2).val
    rw [e2]; have hj : (j 2).val < 64 := (j 2).isLt; omega
  | ⟨3, _⟩ =>
    show win0_6.index t 3 * 256 + 1 * (j 3).val = (j 3).val
    rw [e3]; have hj : (j 3).val < 256 := (j 3).isLt; omega

/-- Points of one group read the same key codes. -/
theorem iblk4_eq (c : Dev nD) (t t' : Fin cfg0.N) (h : t'.val / 18 = t.val / 18) :
    (iblk m c 4 t' : Vec F S1x1x4608x128 .i8) = iblk m c 4 t := by
  funext j
  refine (iblk4_at m c t' j).trans ((iblk4_at m c t j).trans ?_).symm
  have h0 : t.val / 144 = t'.val / 144 := by omega
  simp only [h, h0]

/-- Points of one group read the same value codes. -/
theorem iblk5_eq (c : Dev nD) (t t' : Fin cfg0.N) (h : t'.val / 18 = t.val / 18) :
    (iblk m c 5 t' : Vec F S1x1x64x4608 .fp8e4m3) = iblk m c 5 t := by
  funext j
  refine (iblk5_at m c t' j).trans ((iblk5_at m c t j).trans ?_).symm
  have h0 : t.val / 144 = t'.val / 144 := by omega
  simp only [h, h0]

/-- Points of one group read the same value scales. -/
theorem iblk6_eq (c : Dev nD) (t t' : Fin cfg0.N) (h : t'.val / 18 = t.val / 18) :
    (iblk m c 6 t' : Vec F S1x1x64x256 .f32) = iblk m c 6 t := by
  funext j
  refine (iblk6_at m c t' j).trans ((iblk6_at m c t j).trans ?_).symm
  have h0 : t.val / 144 = t'.val / 144 := by omega
  simp only [h, h0]

/-- The output block point `t` leaves. -/
def outT (c : Dev nD) (t : Fin cfg0.N) : Vec F S1x256x384 .bf16 :=
  outBlk (grid0.coords t) (iblk m c 0 t) (iblk m c 1 t) (iblk m c 2 t) (iblk m c 3 t) (kxAll (iblk m c 4 t)) (vxAll (iblk m c 5 t) (iblk m c 6 t))

/-- What the scratch holds past point `t`: the keys and values of `t`'s group. -/
def heldAt (c : Dev nD) (t : Fin cfg0.N) : sProp 𝕄 :=
  iprop((owns (c : Thread nD τ) scM0_0 fullShare (kxAll (iblk m c 4 t)) ∗ owns (c : Thread nD τ) scM0_1 fullShare (vxAll (iblk m c 5 t) (iblk m c 6 t)) ∗ (∃ d, owns (c : Thread nD τ) scM0_2 fullShare d) ∗ (∃ d, owns (c : Thread nD τ) scM0_3 fullShare d)) ∗ (∃ r, prngReg c r))

/-- The scratch holds the same at any point of a group. -/
theorem heldAt_eq (c : Dev nD) (t t' : Fin cfg0.N) (h : t'.val / 18 = t.val / 18) : heldAt m c t' = heldAt m c t := by
  unfold heldAt
  rw [iblk4_eq m c t t' h, iblk5_eq m c t t' h, iblk6_eq m c t t' h]

/-- The invariant before point `n`: nothing known at a group's start, the group's keys and values after it. -/
def inv (c : Dev nD) (n : ℕ) : sProp 𝕄 :=
  if n % 18 = 0 then Pipeline.ΦA spec0 c else if h : n - 1 < cfg0.N then heldAt m c ⟨n - 1, h⟩ else Pipeline.ΦA spec0 c

/-- Known scratch contents are some contents. -/
theorem held_any (c : Dev nD) (t : Fin cfg0.N) : heldAt m c t ⊢ (Pipeline.ΦA spec0 c : sProp 𝕄) := by
  rw [PhiA0_eq]; unfold heldAt
  iintro ⟨⟨H0, H1, H2, H3⟩, Hg⟩
  isplitl [H0 H1 H2 H3]
  · isplitl [H0]; · iexists _; iexact H0
    isplitl [H1]; · iexists _; iexact H1
    isplitl [H2]; · iexact H2
    iexact H3
  iexact Hg

/-- Past a point the invariant follows from what the point leaves. -/
theorem held_inv (c : Dev nD) (t : Fin cfg0.N) : heldAt m c t ⊢ inv m c (t.val + 1) := by
  unfold inv
  split
  · exact held_any m c t
  · rw [dif_pos (show t.val + 1 - 1 < cfg0.N from t.isLt)]
    exact BIBase.Entails.rfl

/-- Before a group the scratch holds anything. -/
theorem inv_zero (c : Dev nD) (n : ℕ) (h : n % 18 = 0) : inv m c n = Pipeline.ΦA spec0 c := if_pos h

/-- Within a group the scratch holds the keys and values. -/
theorem inv_held (c : Dev nD) (t : Fin cfg0.N) (h : ¬ t.val % 18 = 0) : inv m c t.val = heldAt m c t := by
  have ht := t.isLt
  unfold inv
  rw [if_neg h, dif_pos (show t.val - 1 < cfg0.N by omega)]
  exact heldAt_eq m c _ _ (show (t.val - 1) / 18 = t.val / 18 by omega)

/-- The proof data: every input at its block, the output at the point's block, the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outT m c t
  Φ t := inv m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the output block holds after a point. -/
theorem after0_7 (c : Dev nD) (t : Fin cfg0.N) : (dats m 0 c).after 7 t = outT m c t := by dsimp only [dats]
/-- What window 0 holds after a point. -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = iblk m c 5 t := by dsimp only [dats]
/-- What window 6 holds after a point. -/
theorem after0_6 (c : Dev nD) (t : Fin cfg0.N) : (dats m 0 c).after 6 t = iblk m c 6 t := by dsimp only [dats]
/-- What window 0 holds before a point. -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d
/-- What window 5 holds before a point. -/
theorem before0_5 (c : Dev nD) (t : Fin cfg0.N) (d) : (dats m 0 c).before 5 t d = iblk m c 5 t :=
  before0_5_of m (dats m 0 c) (A_eq m c 5) (after0_5 m c) t d
/-- What window 6 holds before a point. -/
theorem before0_6 (c : Dev nD) (t : Fin cfg0.N) (d) : (dats m 0 c).before 6 t d = iblk m c 6 t :=
  before0_6_of m (dats m 0 c) (A_eq m c 6) (after0_6 m c) t d
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 9600000 in
/-- The part both kinds of point share: from tracked scratch, the point's output block. -/
theorem sound_rest (c : Dev nD) (t : Fin cfg0.N) (K : PUnit → sProp 𝕄) :
    iprop(heldAt m c t ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ (∃ d, owns (c : Thread nD τ) (ms0_7 t) fullShare d)
    ∗ (iprop(inv m c (t.val + 1) ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (outT m c t)) -∗ K ⟨⟩)) ⊢
    wp frame (wpE (defs₀ (F := F)) Variants.none c none) Set.univ (restAll (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold heldAt
  iintro ⟨⟨⟨HS0, HS1, HS2, ⟨%ds3, HS3⟩⟩, Hg⟩, H0, H1, H2, H3, H4, H5, H6, ⟨%d7, H7⟩, Hk⟩
  iapply ((kernelRest c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ds3 (kxAll (iblk m c 4 t)) (vxAll (iblk m c 5 t) (iblk m c 6 t))).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H6, ⟨%g7, H7⟩, HS0, HS1, HS2, HS3⟩
  iapply Hk
  isplitl [HS0 HS1 HS2 HS3 Hg]
  · iapply (held_inv m c t)
    unfold heldAt
    isplitl [HS0 HS1 HS2 HS3]
    · isplitl [HS0]; · iexact HS0
      isplitl [HS1]; · iexact HS1
      isplitl [HS2]; · iexact HS2
      iexact HS3
    iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  exact rest_read c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ds3 (kxAll (iblk m c 4 t)) (vxAll (iblk m c 5 t) (iblk m c 6 t)) _ _

set_option maxHeartbeats 9600000 in
/-- The body at any point leaves its output block and the tracked scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = inv m c (t.val + 1) from rfl, show (dats m 0 c).Φ t.castSucc = inv m c t.val from rfl]
  by_cases h0 : t.val % 18 = 0
  · rw [inv_zero m c t.val h0, PhiA0_eq]
    rw [body_fill _ _ _ _ _ _ _ _ _ _ _ _ _ _ _ _ _ _ _ _ _ _ _ _ _ ((hcond0_0 t).mpr h0), wp_bind]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    icases HS0 with ⟨%ds0, HS0⟩
    iapply ((kernelFill c (grid0.coords t) _ _ _ _ _ _ _ _ _ _ _ _ _ _ _ _ _ _ _ _ _ _ _ _ ((hcond0_0 t).mpr h0) (iblk m c 4 t) (iblk m c 5 t) (iblk m c 6 t) ds0).2.2 Set.univ _)
    isplitl [H4]; · iexact H4
    isplitl [H5]; · iexact H5
    isplitl [H6]; · iexact H6
    isplitl [HS0]; · iexact HS0
    isplitl [HS1]; · iexact HS1
    iintro ⟨H4, H5, H6, ⟨%g0, HS0⟩, ⟨%g1, HS1⟩⟩
    iapply (sound_rest m c t)
    isplitl [HS0 HS1 HS2 HS3 Hg]
    · unfold heldAt
      isplitl [HS0 HS1 HS2 HS3]
      · isplitl [HS0]
        · unfold owns; iexists _; isplitr
          swap; · iexact HS0
          ipureintro
          exact fill_read0 c (grid0.coords t) _ _ _ _ _ _ _ _ _ _ _ _ _ _ _ _ _ _ _ _ _ _ _ _ ((hcond0_0 t).mpr h0) (iblk m c 4 t) (iblk m c 5 t) (iblk m c 6 t) ds0 _ _
        isplitl [HS1]
        · unfold owns; iexists _; isplitr
          swap; · iexact HS1
          ipureintro
          exact fill_read1 c (grid0.coords t) _ _ _ _ _ _ _ _ _ _ _ _ _ _ _ _ _ _ _ _ _ _ _ _ ((hcond0_0 t).mpr h0) (iblk m c 4 t) (iblk m c 5 t) (iblk m c 6 t) ds0 _ _
        isplitl [HS2]; · iexact HS2
        iexact HS3
      iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨HI, H0, H1, H2, H3, H4, H5, H6, H7⟩
    isplitl [HI]; · iexact HI
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_held m c t h0]
    rw [body_rest _ _ _ _ _ _ _ _ _ _ _ _ _ _ _ _ _ _ _ _ _ _ _ _ _ (fun h => h0 ((hcond0_0 t).mp h))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_rest m c t)
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨HI, H0, H1, H2, H3, H4, H5, H6, H7⟩
    isplitl [HI]; · iexact HI
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution ends with the arrays as the proof data say. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = inv m c 0 from rfl, inv_zero m c 0 rfl])
    (hout := fun c => by
      rw [show (dats m 0 c).Φ (Fin.last _) = inv m c cfg0.N from rfl, inv_zero m c cfg0.N (by rw [show cfg0.N = 576 from N_0])])

/-- The point whose block holds an element of the result. -/
def ptOf (y : Shape.Idx S4x4608x3072) : Fin cfg0.N :=
  ⟨((y 0).val * 8 + (y 2).val / 384) * 18 + (y 1).val / 256, lt_N (by
    have h0 : (y 0).val < 4 := (y 0).isLt
    have h1 : (y 1).val < 4608 := (y 1).isLt
    have h2 : (y 2).val < 3072 := (y 2).isLt
    omega)⟩

/-- The result array. -/
def result (c : Dev nD) : Vec F S4x4608x3072 .bf16 := fun y =>
  outT m c (ptOf y) (ix3 0 ⟨(y 1).val % 256, by omega⟩ ⟨(y 2).val % 384, by omega⟩)

/-- The output block of a point. -/
theorem idx7 (t : Fin cfg0.N) : win0_7.index t 0 = t.val / 144 ∧ win0_7.index t 1 = t.val % 18 ∧ win0_7.index t 2 = t.val / 18 % 8 := by
  have ht := isLt_N t
  refine ⟨?_, ?_, ?_⟩
  · show (BitVec.ofNat 32 (grid0.coords t 0).val).toNat = _
    rw [co0, BitVec.toNat_ofNat]; omega
  · show (BitVec.ofNat 32 (grid0.coords t 2).val).toNat = _
    rw [co2, BitVec.toNat_ofNat]; omega
  · show (BitVec.ofNat 32 (grid0.coords t 1).val).toNat = _
    rw [co1, BitVec.toNat_ofNat]; omega

/-- A block written back is the result read at it. -/
theorem flushed_eq (c : Dev nD) (t : Fin cfg0.N) (hf : (cfg0.win 7).flush t = true) :
    (dats m 0 c).flushed 7 t = ((cfg0.win 7).blk t).view.read (Elt F) (result m c) := by
  show (cfg0.win 7).cut (grid0.coords t) ((dats m 0 c).after 7 t) = _
  rw [after0_7]
  have ht := isLt_N t
  obtain ⟨e0, e1, e2⟩ := idx7 t
  funext j
  rw [View.read_apply]
  have j0 : (j 0).val < 1 := (j 0).isLt
  have j1 : (j 1).val < 256 := (j 1).isLt
  have j2 : (j 2).val < 384 := (j 2).isLt
  have v0 : (((cfg0.win 7).blk t).view.emb j 0).val = t.val / 144 := by
    show win0_7.index t 0 * 1 + 1 * (j 0).val = _; rw [e0]; omega
  have v1 : (((cfg0.win 7).blk t).view.emb j 1).val = 256 * (t.val % 18) + (j 1).val := by
    show win0_7.index t 1 * 256 + 1 * (j 1).val = _; rw [e1]; omega
  have v2 : (((cfg0.win 7).blk t).view.emb j 2).val = 384 * (t.val / 18 % 8) + (j 2).val := by
    show win0_7.index t 2 * 384 + 1 * (j 2).val = _; rw [e2]; omega
  show outT m c t j = outT m c (ptOf (((cfg0.win 7).blk t).view.emb j)) _
  have hp : ptOf (((cfg0.win 7).blk t).view.emb j) = t := by
    apply Fin.ext; unfold ptOf; dsimp only; rw [v0, v1, v2]; omega
  rw [hp]
  refine congrArg (outT m c t) (funext fun a => Fin.ext ?_)
  match a with
  | ⟨0, _⟩ => show (j 0).val = 0; omega
  | ⟨1, _⟩ => show (j 1).val = (((cfg0.win 7).blk t).view.emb j 1).val % 256; rw [v1]; omega
  | ⟨2, _⟩ => show (j 2).val = (((cfg0.win 7).blk t).view.emb j 2).val % 384; rw [v2]; omega

/-- The result array ends at the blocks, each where its point puts it. -/
theorem final_o (c : Dev nD) : (dats m 0 c).arrAt 7 cfg0.N = result m c :=
  (dats m 0 c).arrAt_eq_of_cover 7 (result m c) (flushed_eq m c) fun y =>
    ⟨ptOf y, flush0_7 _, by
      show y ∈ ((View.whole main_v19).slice (win0_7.rect (ptOf y))).set
      rw [View.set_slice_whole, Rect.mem_set_unit]
      obtain ⟨e0, e1, e2⟩ := idx7 (ptOf y)
      have hp : (ptOf y).val = ((y 0).val * 8 + (y 2).val / 384) * 18 + (y 1).val / 256 := rfl
      have h0 : (y 0).val < 4 := (y 0).isLt
      have h1 : (y 1).val < 4608 := (y 1).isLt
      have h2 : (y 2).val < 3072 := (y 2).isLt
      intro a
      match a with
      | ⟨0, _⟩ => show win0_7.index (ptOf y) 0 * 1 ≤ (y 0 : Nat) ∧ (y 0 : Nat) < win0_7.index (ptOf y) 0 * 1 + 1; rw [e0]; omega
      | ⟨1, _⟩ => show win0_7.index (ptOf y) 1 * 256 ≤ (y 1 : Nat) ∧ (y 1 : Nat) < win0_7.index (ptOf y) 1 * 256 + 256; rw [e1]; omega
      | ⟨2, _⟩ => show win0_7.index (ptOf y) 2 * 384 ≤ (y 2 : Nat) ∧ (y 2 : Nat) < win0_7.index (ptOf y) 2 * 384 + 384; rw [e2]; omega⟩

/-- The run, read: the result array. -/
theorem run : θ_run defs (onTc (τ := τ) (main (F := F))) ⟨m, fun _ => 0, ρ⟩ fun r => ∀ c : Dev nD,
    r.2.mem ((c.tc : Thread nD τ).loc main_v19) = result m c :=
  (θ_run defs _ _).mono (fun _ h c => ((h c).1 7).trans (final_o m c)) (run_main m ρ)

end Cert.KernelIdeal.Gen.Track

end
-- ==== Proof.AttnRow.lean ====
/- One softmax row over the extended reals: base two against base e, blocks against the whole row. -/
module

public import Idealize.ShloMosaic.PureOps.Ideal
public import Idealize.ShloMosaic.Lib.IdealHost
public import Idealize.ShloMosaic.Lib.Pointwise.Sums

@[expose] public section

noncomputable section

namespace Cert.AttnRow

open Idealize.ShloMosaic

/-- The f32 word of 256. -/
theorem lit_256 : Ideal.ofBits .f32 0x43800000#32 = ((256 : ℝ) : EReal) := by
  simp [Ideal.ofBits, Ideal.ieee, -EReal.coe_mul]; norm_num

/-- The f32 word of 448. -/
theorem lit_448 : Ideal.ofBits .f32 0x43E00000#32 = ((448 : ℝ) : EReal) := by
  simp [Ideal.ofBits, Ideal.ieee, -EReal.coe_mul]; norm_num

/-- The f32 word of minus infinity. -/
theorem lit_bot : Ideal.ofBits .f32 0xFF800000#32 = ⊥ := by
  simp [Ideal.ofBits, Ideal.ieee]

/-- The bf16 word of 8. -/
theorem lit_8 : Ideal.ofBits .bf16 0x4100#16 = ((8 : ℝ) : EReal) := by
  simp [Ideal.ofBits, Ideal.ieee, -EReal.coe_mul]; norm_num

/-- The f32 word of one eighth. -/
theorem lit_eighth : Ideal.ofBits .f32 0x3E000000#32 = (((1 : ℝ) / 8 : ℝ) : EReal) := by
  simp [Ideal.ofBits, Ideal.ieee, -EReal.coe_mul]; norm_num

/-- The f32 word of infinity. -/
theorem lit_top : Ideal.ofBits .f32 0x7F800000#32 = ⊤ := by
  simp [Ideal.ofBits, Ideal.ieee]

/-- The base change: `1 / ln 2`. -/
def kap : ℝ := (Real.log 2)⁻¹

/-- The base change is positive. -/
theorem kap_pos : 0 < kap := inv_pos.mpr (Real.log_pos (by norm_num))

/-- A positive real factor goes over a difference. -/
theorem scale_sub (c : ℝ) (hc : 0 < c) (a b : EReal) : (c : EReal) * (a - b) = c * a - c * b := by
  rw [sub_eq_add_neg, sub_eq_add_neg, EReal.left_distrib_of_nonneg_of_ne_top (by exact_mod_cast hc.le) (EReal.coe_ne_top c), mul_neg]

/-- A positive real factor is undone by its inverse. -/
theorem unscale (c : ℝ) (hc : 0 < c) (a : EReal) : ((c⁻¹ : ℝ) : EReal) * (c * a) = a := by
  rw [← mul_assoc, ← EReal.coe_mul, inv_mul_cancel₀ hc.ne', EReal.coe_one, one_mul]

/-- The inverse of a positive real factor is undone by the factor. -/
theorem scale_unscale (c : ℝ) (hc : 0 < c) (a : EReal) : (c : EReal) * ((c⁻¹ : ℝ) * a) = a := by
  rw [← mul_assoc, ← EReal.coe_mul, mul_inv_cancel₀ hc.ne', EReal.coe_one, one_mul]

/-- A positive real factor keeps the order. -/
theorem scale_mono (c : ℝ) (hc : 0 < c) {a b : EReal} (h : a ≤ b) : (c : EReal) * a ≤ c * b :=
  mul_le_mul_of_nonneg_left h (by exact_mod_cast hc.le)

/-- A positive real factor keeps minus infinity. -/
theorem scale_bot (c : ℝ) (hc : 0 < c) : (c : EReal) * ⊥ = ⊥ := EReal.coe_mul_bot_of_pos hc

/-- Two to the scaled power is the exponential. -/
theorem exp2_scale (y : EReal) : Ideal.exp2 (kap * y) = Ideal.exp y := by
  induction y using EReal.rec with
  | bot => rw [scale_bot _ kap_pos]; rfl
  | top => rw [EReal.coe_mul_top_of_pos kap_pos]; rfl
  | coe r =>
    rw [← EReal.coe_mul]
    show ((Real.rpow 2 (kap * r) : ℝ) : EReal) = ((Real.exp r : ℝ) : EReal)
    congr 1
    show (2 : ℝ) ^ (kap * r) = _
    rw [Real.rpow_def_of_pos (by norm_num : (0 : ℝ) < 2), kap]
    congr 1
    have : Real.log 2 ≠ 0 := (Real.log_pos (by norm_num)).ne'
    field_simp

/-- The exponential is not negative. -/
theorem exp_nonneg (y : EReal) : 0 ≤ Ideal.exp y := by
  induction y using EReal.rec with
  | bot => exact le_rfl
  | top => exact le_top
  | coe r => show (0 : EReal) ≤ ((Real.exp r : ℝ) : EReal); exact_mod_cast (Real.exp_pos r).le

/-- Blocks of 256 keys, the first `n` of 18 only where the others hold zero, make the sum over the row. -/
theorem sum_blocks (n : ℕ) (hn : n ≤ 18) (f : ℕ → Fin 256 → EReal) (g : Fin 4608 → EReal)
    (h : ∀ (k : ℕ) (hk : k < 18) (r : Fin 256), k < n → f k r = g ⟨k * 256 + r.val, by omega⟩)
    (h0 : ∀ (k : ℕ) (hk : k < 18) (r : Fin 256), n ≤ k → g ⟨k * 256 + r.val, by omega⟩ = 0) :
    ∑ k ∈ Finset.range n, ∑ r, f k r = ∑ s, g s := by
  rw [Fin.sum_univ_tiles 18 256 rfl g]
  have e : ∑ k ∈ Finset.range n, ∑ r, f k r = ∑ k ∈ Finset.range 18, if k < n then ∑ r, f k r else 0 := by
    rw [← Finset.sum_filter]
    apply Finset.sum_congr _ fun _ _ => rfl
    ext k; simp; omega
  rw [e, Finset.sum_range]
  refine Finset.sum_congr rfl fun k _ => ?_
  by_cases hk : k.val < n
  · rw [if_pos hk]
    exact Finset.sum_congr rfl fun r _ => h k.val k.isLt r hk
  · rw [if_neg hk]
    exact (Finset.sum_eq_zero fun r _ => h0 k.val k.isLt r (by omega)).symm

/-- Scaling before or after the division makes no difference once clipped. -/
theorem clip_div (e l : EReal) (h : l = 0 → e = 0) :
    max 0 (e * Ideal.div ((256 : ℝ) : EReal) l) = max 0 (Ideal.div e l * ((256 : ℝ) : EReal)) := by
  by_cases hl : l = 0
  · have he := h hl
    subst hl; subst he
    have e1 : Ideal.div (0 : EReal) 0 = ⊥ := by simp [Ideal.div]
    rw [zero_mul, e1, EReal.bot_mul_coe_of_pos (by norm_num)]
    simp
  · unfold Ideal.div
    rw [if_neg hl, if_neg hl]
    congr 1
    rw [mul_comm ((256 : ℝ) : EReal) l⁻¹, mul_assoc]

/-- The row: the kernel's block order in base two, against the softmax of the whole row. -/
theorem row (n : ℕ) (hn : n ≤ 18) (S vx : ℕ → Fin 256 → EReal) (X v : Fin 4608 → EReal) (M : EReal) (C : EReal) (hC : 0 ≤ C)
    (hM : ∀ c, M ≤ c ↔ ∀ k, k < n → ∀ r, S k r ≤ c)
    (hS : ∀ (k : ℕ) (hk : k < 18) (r : Fin 256), S k r = kap * X ⟨k * 256 + r.val, by omega⟩)
    (hX : ∀ (k : ℕ) (hk : k < 18) (r : Fin 256), n ≤ k → X ⟨k * 256 + r.val, by omega⟩ = ⊥)
    (hv : ∀ (k : ℕ) (hk : k < 18) (r : Fin 256), vx k r = v ⟨k * 256 + r.val, by omega⟩) :
    ∑ k ∈ Finset.range n, ∑ r, vx k r * min C (max 0 (Ideal.exp2 (S k r - M)
        * Ideal.div ((256 : ℝ) : EReal) (∑ k ∈ Finset.range n, ∑ r, Ideal.exp2 (S k r - M))))
      = ∑ s, min C (max 0 (Ideal.div (Ideal.exp (X s - Finset.univ.fold max ⊥ X))
          (∑ s, Ideal.exp (X s - Finset.univ.fold max ⊥ X)) * ((256 : ℝ) : EReal))) * v s := by
  set mx := Finset.univ.fold max ⊥ X with hmx
  have cmx : ∀ c, mx ≤ c ↔ ∀ s, X s ≤ c := fun c => by
    rw [hmx, Finset.fold_max_le]; simp
  have eM : M = kap * mx := by
    apply le_antisymm
    · rw [hM]; intro k hk r
      rw [hS k (by omega) r]
      exact scale_mono _ kap_pos ((cmx mx).mp le_rfl _)
    · have : mx ≤ ((kap⁻¹ : ℝ) : EReal) * M := by
        rw [cmx]; intro s
        obtain ⟨k, hk, r, rfl⟩ : ∃ (k : ℕ) (hk : k < 18) (r : Fin 256), s = ⟨k * 256 + r.val, by omega⟩ :=
          ⟨s.val / 256, by omega, ⟨s.val % 256, by omega⟩, Fin.ext (by show s.val = s.val / 256 * 256 + s.val % 256; omega)⟩
        by_cases h : k < n
        · have := (hM M).mp le_rfl k h r
          rw [hS k hk r] at this
          have := scale_mono _ (inv_pos.mpr kap_pos) this
          rwa [unscale _ kap_pos] at this
        · rw [hX k hk r (by omega)]; exact bot_le
      have := scale_mono _ kap_pos this
      rwa [scale_unscale _ kap_pos] at this
  have eE : ∀ (k : ℕ) (hk : k < 18) (r : Fin 256), Ideal.exp2 (S k r - M) = Ideal.exp (X ⟨k * 256 + r.val, by omega⟩ - mx) := fun k hk r => by
    rw [hS k hk r, eM, ← scale_sub _ kap_pos, exp2_scale]
  have e0 : ∀ (k : ℕ) (hk : k < 18) (r : Fin 256), n ≤ k → Ideal.exp (X ⟨k * 256 + r.val, by omega⟩ - mx) = 0 := fun k hk r h => by
    rw [hX k hk r h, sub_eq_add_neg, EReal.bot_add]; rfl
  have eL : ∑ k ∈ Finset.range n, ∑ r, Ideal.exp2 (S k r - M) = ∑ s, Ideal.exp (X s - mx) :=
    sum_blocks n hn _ (fun s => Ideal.exp (X s - mx)) (fun k hk r _ => eE k hk r) e0
  rw [eL]
  set l := ∑ s, Ideal.exp (X s - mx) with hl
  have lz : l = 0 → ∀ s, Ideal.exp (X s - mx) = 0 := fun h s =>
    (Finset.sum_eq_zero_iff_of_nonneg fun s _ => exp_nonneg _).mp h s (Finset.mem_univ s)
  refine sum_blocks n hn _ (fun s => min C (max 0 (Ideal.div (Ideal.exp (X s - mx)) l * ((256 : ℝ) : EReal))) * v s) (fun k hk r _ => ?_) (fun k hk r h => ?_)
  · rw [eE k hk r, hv k hk r, clip_div _ _ fun h => lz h _, mul_comm]
  · have : max 0 (Ideal.div (Ideal.exp (X ⟨k * 256 + r.val, by omega⟩ - mx)) l * ((256 : ℝ) : EReal)) = 0 := by
      rw [e0 k hk r h]
      unfold Ideal.div
      split
      · simp [EReal.bot_mul_coe_of_pos]
      · simp
    show min C (max 0 (Ideal.div (Ideal.exp (X ⟨k * 256 + r.val, by omega⟩ - mx)) l * ((256 : ℝ) : EReal))) * _ = 0
    rw [this, min_eq_right hC, zero_mul]

end Cert.AttnRow

end
-- ==== Proof.KernelIdealSem.lean ====
/- The kernel's payloads at an index, over the extended reals. -/
module

public import proofs.«01_k».proof.Proof.KernelIdealValue
public import Idealize.ShloMosaic.Lib.Pointwise
public import proofs.«01_k».proof.Proof.AttnRow
public import Idealize.ShloMosaic.Lib.Pointwise.Sums
public import Idealize.ShloMosaic.Lib.BitcastFour

@[expose] public section
set_option maxRecDepth 16384
noncomputable section
open Idealize.ShloMosaic Idealize.ShloMosaic.TcCoe Idealize.SL.Sem
namespace Cert.KernelIdeal.Gen.Sem
open Cert.KernelIdeal Cert.KernelIdeal.Gen

/-- The bits of the low nibble mask. -/
theorem bit_0f : ∀ q : Fin 32, (252645135#32).getLsbD q.val = decide (q.val % 8 < 4) := by decide +kernel
/-- The bits of the sign mask. -/
theorem bit_08 : ∀ q : Fin 32, (134744072#32).getLsbD q.val = decide (q.val % 8 = 3) := by decide +kernel
/-- The bits of the byte mask. -/
theorem bit_15 : ∀ q : Fin 8, (15#8).getLsbD q.val = decide (q.val < 4) := by decide +kernel
/-- The bit of the byte sign. -/
theorem bit_8 : ∀ q : Fin 8, (8#8).getLsbD q.val = decide (q.val = 3) := by decide +kernel

/-- A code byte's nibble from bit `s`, its sign bit flipped. -/
def nib (s : ℕ) (w : BitVec 8) : BitVec 8 := ((w >>> s) &&& 15#8) ^^^ 8#8

/-- Four bytes to a word, a nibble of each by one word operation, and back to bytes: the nibble of each byte. -/
theorem unpack_byte {R r n : ℕ} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (s : (⟨2, ![r, n]⟩ : Shape).Idx → BitVec 32) (s0 : ℕ) (hs0 : s0 = 0 ∨ s0 = 4) (p : Fin R) (hp : p.val / 4 < r) (l : Fin n)
    (hs : s (ix2 ⟨p.val / 4, hp⟩ l) = BitVec.ofNat 32 s0) :
    bitcast ⟨2, ![R, n]⟩ 8 (xori (andi (shrui (bitcast ⟨2, ![r, n]⟩ 32 x h) s) (broadcast ⟨2, ![r, n]⟩ 252645135#32)) (broadcast ⟨2, ![r, n]⟩ 134744072#32)) h' (ix2 p l)
      = nib s0 (x (ix2 p l)) := by
  apply BitVec.eq_of_getLsbD_eq
  intro q hq
  rw [bitcast_getLsbD _ h' _ q hq (by decide)]
  have hrow : (⟨2, ![R, n]⟩ : Shape).row (ix2 p l) = p.val := rfl
  have hj : ∀ (P : ℕ) hP (_ : P = p.val / 4), h'.srcIdx (ix2 p l) P hP = ix2 ⟨p.val / 4, hp⟩ l := by
    intro P hP e; subst e
    funext c
    match c with
    | ⟨0, _⟩ => exact Fin.ext (h'.srcIdx_row _ _ _ 0 rfl)
    | ⟨1, _⟩ => exact Fin.ext (h'.srcIdx_other _ _ _ 1 (by show ¬(1 + 2 = 2); decide))
  rw [hj _ _ (by rw [hrow]; omega), hrow]
  show (IntOp.xori (IntOp.andi (IntOp.shrui .vector (bitcast ⟨2, ![r, n]⟩ 32 x h (ix2 ⟨p.val / 4, hp⟩ l)) (s (ix2 ⟨p.val / 4, hp⟩ l))) 252645135#32) 134744072#32).getLsbD ((p.val * 8 + q) % 32) = _
  rw [hs]
  have hsh : ∀ y : BitVec 32, IntOp.shrui .vector y (BitVec.ofNat 32 s0) = y >>> s0 := by
    intro y
    rcases hs0 with rfl | rfl <;> simp [IntOp.shrui]
  rw [hsh]
  set M := (p.val * 8 + q) % 32 with hM
  have hM32 : M < 32 := by omega
  have b1 := bit_0f ⟨M, hM32⟩
  have b2 := bit_08 ⟨M, hM32⟩
  have b3 := bit_15 ⟨q, hq⟩
  have b4 := bit_8 ⟨q, hq⟩
  have hMq : M % 8 = q := by omega
  simp only [IntOp.xori, IntOp.andi, nib, BitVec.getLsbD_xor, BitVec.getLsbD_and, BitVec.getLsbD_ushiftRight] at b1 b2 b3 b4 ⊢
  rw [b1, b2, b3, b4, hMq]
  by_cases h4 : q < 4
  · have := bitcast_8_32_getLsbD_ix2 x h ⟨p.val / 4, hp⟩ l (s0 + M) (by rcases hs0 with rfl | rfl <;> omega) p (by show p.val = 4 * (p.val / 4) + (s0 + M) / 8; rcases hs0 with rfl | rfl <;> omega)
    have this' : (bitcast ⟨2, ![r, n]⟩ 32 x h (ix2 ⟨p.val / 4, hp⟩ l)).getLsbD (s0 + M) = (x (ix2 p l)).getLsbD ((s0 + M) % 8) := this
    rw [this', show (s0 + M) % 8 = s0 + q by rcases hs0 with rfl | rfl <;> omega]
  · simp [h4]

/-- A nibble's value. -/
def nv (s : ℕ) (w : BitVec 8) : EReal := FloatOps.sitofp (F := Ideal) .bf16 (nib s w) - Ideal.ofBits .bf16 16640#16

/-- Dropping the leading axes of a block of query codes. -/
theorem cast32x256 (v6 : Vec Ideal S1x1x32x256 .i8) (d : Fin 32) (q : Fin 256) : shapeCast S32x256 v6 shapeCasts_S1x1x32x256_S32x256 (ix2 d q) = v6 (ix4 0 0 d q) := by
  pointwise

/-- The unpacked, scaled queries at an index. -/
theorem pay189_at (v6 : Vec Ideal S1x1x32x256 .i8) (v9 : Vec Ideal S1x1x1x256 .f32) (d : Fin 64) (q : Fin 256) :
    @Eq EReal (k0_pay189 v6 v9 (ix2 d q)) (nv (if d.val < 32 then 0 else 4) (v6 (ix4 0 0 ⟨d.val % 32, by omega⟩ q)) * v9 (ix4 0 0 0 q)) := by
  pointwise [k0_pay189]
  by_cases h : d.val < 32
  · rw [dif_pos h, if_pos h]
    congr 1
    refine congrArg (fun z : BitVec 8 => FloatOps.sitofp (F := Ideal) .bf16 z - Ideal.ofBits .bf16 16640#16) ?_
    refine (unpack_byte (R := 32) (r := 8) (n := 256) _ _ _ _ 0 (Or.inl rfl) _ (by show d.val / 4 < 8; omega) q rfl).trans ?_
    rw [cast32x256]
    congr 3
    exact Fin.ext (by show d.val = d.val % 32; omega)
  · rw [dif_neg h, if_neg h]
    congr 1
    refine congrArg (fun z : BitVec 8 => FloatOps.sitofp (F := Ideal) .bf16 z - Ideal.ofBits .bf16 16640#16) ?_
    refine (unpack_byte (R := 32) (r := 8) (n := 256) _ _ _ _ 4 (Or.inr rfl) _ (by show (d.val - 32) / 4 < 8; omega) q rfl).trans ?_
    rw [cast32x256]
    congr 3
    exact Fin.ext (by show d.val - 32 = d.val % 32; omega)

/-- The shift of a lane: none or four. -/
theorem lane_shift : ∀ l : Fin 128, IntOp.shrsi .vector (IntOp.andi (BitVec.ofNat 32 l.val) 32#32) 3#32 = BitVec.ofNat 32 (if l.val / 32 % 2 = 0 then 0 else 4) := by decide +kernel

/-- Dropping the leading axes of a block of key codes. -/
theorem cast256x128 (v : Vec Ideal S1x1x256x128 .i8) (d : Fin 256) (q : Fin 128) : shapeCast S256x128 v shapeCasts_S1x1x256x128_S256x128 (ix2 d q) = v (ix4 0 0 d q) := by
  pointwise

/-- The shift of a lane, from the lane numbers. -/
theorem lane_amt (a : Fin 64) (l : Fin 128) : shrsi (andi (iota .tc S64x128 32 [1] iota_S64x128_d1_w32) (broadcast S64x128 32#32)) (broadcast S64x128 3#32) (ix2 a l)
    = IntOp.shrsi .vector (IntOp.andi (BitVec.ofNat 32 l.val) 32#32) 3#32 := by
  pointwise

/-- The unpacked keys at an index: lanes 0–31 and 64–95 the low nibbles, the others the high ones. -/
theorem pay2_at (v : Vec Ideal S1x1x256x128 .i8) (p : Fin 256) (l : Fin 128) :
    @Eq EReal (k0_pay2 v (ix2 p l)) (nv (if l.val / 32 % 2 = 0 then 0 else 4) (v (ix4 0 0 p l))) := by
  pointwise [k0_pay2]
  refine congrArg (fun z : BitVec 8 => FloatOps.sitofp (F := Ideal) .bf16 z - Ideal.ofBits .bf16 16640#16) ?_
  refine (unpack_byte (R := 256) (r := 64) (n := 128) _ _ _ _ (if l.val / 32 % 2 = 0 then 0 else 4) (by split <;> simp) _ (by show p.val / 4 < 64; omega) l ((lane_amt _ l).trans (lane_shift l))).trans ?_
  rw [cast256x128]

/-- One matrix product of the scores. -/
theorem pay122_at (kx : Vec Ideal S256x128 .bf16) (qr : Vec Ideal S256x512 .bf16) (r : Fin 256) (cl : Fin 512) :
    @Eq EReal (k0_pay122 kx qr (ix2 r cl)) (∑ x : Fin 128, kx (ix2 r x) * qr (ix2 ⟨x.val, by omega⟩ cl) + ∑ x : Fin 128, kx (ix2 r x) * qr (ix2 ⟨128 + x.val, by omega⟩ cl)) := by
  pointwise [k0_pay122]

/-- One step of the running maximum. -/
theorem maxStep_at (acc : FVec Ideal S8x512 .f32) (s : FVec Ideal S256x512 .f32) (a : Fin 8) (cl : Fin 512) :
    @Eq EReal (maxStep acc s (ix2 a cl)) (max (acc (ix2 a cl)) (Finset.fold max (Ideal.ofBits .f32 4286578688#32) (fun x : Fin 32 => s (ix2 ⟨x.val * 8 + a.val, by omega⟩ cl)) Finset.univ)) := by
  pointwise [maxStep]

/-- One step of the running sum. -/
theorem addStep_at (acc : FVec Ideal S8x512 .f32) (s : FVec Ideal S256x512 .f32) (a : Fin 8) (cl : Fin 512) :
    @Eq EReal (addStep acc s (ix2 a cl)) (acc (ix2 a cl) + ∑ x : Fin 32, s (ix2 ⟨x.val * 8 + a.val, by omega⟩ cl)) := by
  pointwise [addStep]

/-- The maximum over the eight partial rows. -/
theorem p221_at (acc : FVec Ideal S8x512 .f32) (cl : Fin 512) :
    @Eq EReal (k0_pay221 acc (ix2 0 cl)) (Finset.fold max (Ideal.ofBits .f32 4286578688#32) (fun x : Fin 8 => acc (ix2 x cl)) Finset.univ) := by
  pointwise [k0_pay221]

/-- The quotient of 256 by the sum over the eight partial rows. -/
theorem p229_at (acc : FVec Ideal S8x512 .f32) (cl : Fin 512) :
    @Eq EReal (k0_pay229 acc (ix2 0 cl)) (Ideal.div (Ideal.ofBits .f32 1132462080#32) (∑ x : Fin 8, acc (ix2 x cl))) := by
  pointwise [k0_pay229]

/-- The exponentials at an index. -/
theorem ev_at (mm : FVec Ideal S1x512 .f32) (s : FVec Ideal S256x512 .f32) (a : Fin 256) (cl : Fin 512) :
    @Eq EReal (expVal mm s (ix2 a cl)) (Ideal.exp2 (s (ix2 a cl) - mm (ix2 0 cl))) := by
  pointwise [expVal]
  rfl

/-- One step of the products. -/
theorem p231_at (c : FVec Ideal S1x512 .f32) (acc : FVec Ideal S64x512 .f32) (s : FVec Ideal S256x512 .f32) (v : Vec Ideal S64x256 .bf16) (a : Fin 64) (cl : Fin 512) :
    @Eq EReal (k0_pay231 c acc s v (ix2 a cl)) (acc (ix2 a cl) + ∑ x : Fin 256, v (ix2 a x) * min (Ideal.ofBits .f32 1138753536#32) (max 0 (s (ix2 x cl) * c (ix2 0 cl)))) := by
  pointwise [k0_pay231]

/-- The output columns, transposed and scaled back. -/
theorem p233_at (acc : FVec Ideal S64x512 .f32) (q : Fin 256) (cl : Fin 128) :
    @Eq EReal (k0_pay233 acc (ix3 0 q cl)) (acc (ix2 ⟨cl.val % 64, by omega⟩ ⟨256 * (cl.val / 64) + q.val, by omega⟩) * Ideal.ofBits .f32 998244352#32) := by
  pointwise [k0_pay233]
  by_cases h : cl.val < 64
  · rw [dif_pos h]
    have e1 : cl.val % 64 = cl.val := by omega
    have e2 : 256 * (cl.val / 64) + q.val = q.val := by omega
    simp only [e1, e2]
  · rw [dif_neg h]
    have e1 : cl.val % 64 = cl.val - 64 := by omega
    have e2 : 256 * (cl.val / 64) + q.val = 256 + q.val := by omega
    simp only [e1, e2]

/-- The running maximum starts at minus infinity. -/
theorem p214_at (a : Fin 8) (cl : Fin 512) : @Eq EReal ((k0_pay214 : FVec Ideal S8x512 .f32) (ix2 a cl)) (Ideal.ofBits .f32 4286578688#32) := by
  pointwise [k0_pay214]
/-- The running sum starts at zero. -/
theorem p222_at (a : Fin 8) (cl : Fin 512) : @Eq EReal ((k0_pay222 : FVec Ideal S8x512 .f32) (ix2 a cl)) 0 := by
  pointwise [k0_pay222]
/-- The products start at zero. -/
theorem p230_at (a : Fin 64) (cl : Fin 512) : @Eq EReal ((k0_pay230 (Scalar.ofBits .f32 0x00000000#32) : FVec Ideal S64x512 .f32) (ix2 a cl)) 0 := by
  pointwise [k0_pay230]

/-- The running maximum's bound. -/
theorem foldMax_le (S : ℕ → FVec Ideal S256x512 .f32) (n : ℕ) (a : Fin 8) (cl : Fin 512) (c : EReal) :
    foldMax (k0_pay214 : FVec Ideal S8x512 .f32) S n (ix2 a cl) ≤ c ↔ ∀ k, k < n → ∀ x : Fin 32, S k (ix2 ⟨x.val * 8 + a.val, by omega⟩ cl) ≤ c := by
  induction n with
  | zero => simp only [foldMax]; rw [p214_at, AttnRow.lit_bot]; simp
  | succ n ih =>
    simp only [foldMax]
    rw [maxStep_at, max_le_iff, ih, Finset.fold_max_le, AttnRow.lit_bot]
    constructor
    · rintro ⟨h1, -, h2⟩ k hk x
      rcases Nat.lt_succ_iff_lt_or_eq.mp hk with h | rfl
      · exact h1 k h x
      · exact h2 x (Finset.mem_univ x)
    · intro h
      exact ⟨fun k hk x => h k (by omega) x, bot_le, fun x _ => h n (by omega) x⟩

/-- The maximum over the first `n` blocks, by its bounds. -/
theorem max_le (S : ℕ → FVec Ideal S256x512 .f32) (n : ℕ) (cl : Fin 512) (c : EReal) :
    k0_pay221 (foldMax (k0_pay214 : FVec Ideal S8x512 .f32) S n) (ix2 0 cl) ≤ c ↔ ∀ k, k < n → ∀ r : Fin 256, S k (ix2 r cl) ≤ c := by
  rw [p221_at, Finset.fold_max_le, AttnRow.lit_bot]
  constructor
  · rintro ⟨-, h⟩ k hk r
    have := (foldMax_le S n ⟨r.val % 8, by omega⟩ cl c).mp (h _ (Finset.mem_univ _)) k hk ⟨r.val / 8, by omega⟩
    have e : (⟨r.val / 8 * 8 + r.val % 8, by omega⟩ : Fin 256) = r := Fin.ext (by show r.val / 8 * 8 + r.val % 8 = r.val; omega)
    rwa [e] at this
  · intro h
    exact ⟨bot_le, fun a _ => (foldMax_le S n a cl c).mpr fun k hk x => h k hk _⟩

/-- The running sum. -/
theorem foldAdd_at (E : ℕ → FVec Ideal S256x512 .f32) (n : ℕ) (a : Fin 8) (cl : Fin 512) :
    @Eq EReal (foldAdd (k0_pay222 : FVec Ideal S8x512 .f32) E n (ix2 a cl)) (∑ k ∈ Finset.range n, ∑ x : Fin 32, (E k (ix2 ⟨x.val * 8 + a.val, by omega⟩ cl) : EReal)) := by
  induction n with
  | zero => simp only [foldAdd]; rw [p222_at]; simp
  | succ n ih => simp only [foldAdd]; rw [addStep_at, ih, Finset.sum_range_succ]

/-- The sum over the first `n` blocks. -/
theorem sum_at (E : ℕ → FVec Ideal S256x512 .f32) (n : ℕ) (cl : Fin 512) :
    @Eq EReal (∑ a : Fin 8, foldAdd (k0_pay222 : FVec Ideal S8x512 .f32) E n (ix2 a cl)) (∑ k ∈ Finset.range n, ∑ r : Fin 256, (E k (ix2 r cl) : EReal)) := by
  rw [Finset.sum_congr rfl fun a _ => foldAdd_at E n a cl, Finset.sum_comm]
  refine Finset.sum_congr rfl fun k _ => ?_
  rw [Fin.sum_univ_tiles 32 8 rfl (fun r : Fin 256 => (E k (ix2 r cl) : EReal)), Finset.sum_comm]

/-- The weighted sum of the values. -/
theorem pvSt_at (c : FVec Ideal S1x512 .f32) (st : ℕ → Vec Ideal S256x512 .f32) (vx : ℕ → Vec Ideal S64x256 .bf16) (n : ℕ) (a : Fin 64) (cl : Fin 512) :
    @Eq EReal (pvSt c st vx (k0_pay230 (Scalar.ofBits .f32 0x00000000#32)) n (ix2 a cl))
      (∑ k ∈ Finset.range n, ∑ x : Fin 256, vx k (ix2 a x) * min (Ideal.ofBits .f32 1138753536#32) (max 0 (st k (ix2 x cl) * c (ix2 0 cl)))) := by
  induction n with
  | zero => simp only [pvSt]; rw [p230_at]; simp
  | succ n ih => simp only [pvSt]; rw [p231_at, ih, Finset.sum_range_succ]

/-- A head pair's result at an index. -/
theorem pairVal_at (n : ℕ) (S : ℕ → FVec Ideal S256x512 .f32) (vx : ℕ → Vec Ideal S64x256 .bf16) (a : Fin 64) (cl : Fin 512) :
    @Eq EReal (pairVal n S vx (ix2 a cl))
      (∑ k ∈ Finset.range n, ∑ r : Fin 256, vx k (ix2 a r) * min (Ideal.ofBits .f32 1138753536#32)
        (max 0 (Ideal.exp2 (S k (ix2 r cl) - k0_pay221 (foldMax (k0_pay214 : FVec Ideal S8x512 .f32) S n) (ix2 0 cl))
          * Ideal.div (Ideal.ofBits .f32 1132462080#32) (∑ k ∈ Finset.range n, ∑ r : Fin 256, Ideal.exp2 (S k (ix2 r cl) - k0_pay221 (foldMax (k0_pay214 : FVec Ideal S8x512 .f32) S n) (ix2 0 cl)))))) := by
  unfold pairVal
  rw [pvSt_at, p229_at, sum_at]
  simp only [pairExp, ev_at]

end Cert.KernelIdeal.Gen.Sem
end
-- ==== Proof.KernelIdealScore.lean ====
/- The kernel's masked scores at an index, over the extended reals. -/
module

public import proofs.«01_k».proof.Proof.KernelIdealValue
public import Idealize.ShloMosaic.Lib.Pointwise
public import proofs.«01_k».proof.Proof.KernelIdealSem
public import Idealize.ShloMosaic.Lib.Pointwise.Sums
public import Idealize.ShloMosaic.Lib.BitcastFour

@[expose] public section
set_option maxRecDepth 16384
noncomputable section
open Idealize.ShloMosaic Idealize.ShloMosaic.TcCoe Idealize.SL.Sem
namespace Cert.KernelIdeal.Gen.Sem
open Cert.KernelIdeal Cert.KernelIdeal.Gen

/-- A nibble as a real. -/
def cR (s : ℕ) (w : BitVec 8) : ℝ := (((nib s w).toInt - 8 : ℤ) : ℝ)

/-- A nibble is a real number. -/
theorem nv_coe (s : ℕ) (w : BitVec 8) : nv s w = ((cR s w : ℝ) : EReal) := by
  show (((nib s w).toInt : ℝ) : EReal) - Ideal.ofBits .bf16 16640#16 = _
  rw [AttnRow.lit_8, ← EReal.coe_sub, cR]
  push_cast; rfl

/-- The low nibble by shifts, for every byte. -/
theorem lo_int : ∀ n : Fin 256, (IntOp.shrsi .host (IntOp.shli .host (BitVec.setWidth 32 (BitVec.ofFin (w := 8) n)) 28#32) 28#32).toInt = (nib 0 (BitVec.ofFin (w := 8) n)).toInt - 8 := by decide +kernel
/-- The high nibble by shifts, for every byte. -/
theorem hi_int : ∀ n : Fin 256, (IntOp.shrsi .host (IntOp.shli .host (BitVec.setWidth 32 (BitVec.ofFin (w := 8) n)) 24#32) 28#32).toInt = (nib 4 (BitVec.ofFin (w := 8) n)).toInt - 8 := by decide +kernel

/-- The low nibble by shifts of the widened byte. -/
theorem lo_nv (w : BitVec 8) : @Eq EReal (FloatOps.sitofp (F := Ideal) .bf16 (IntOp.shrsi .host (IntOp.shli .host (BitVec.setWidth 32 w) 28#32) 28#32)) (nv 0 w) := by
  rw [nv_coe, cR]
  exact congrArg (fun z : ℤ => ((z : ℝ) : EReal)) (lo_int w.toFin)
/-- The high nibble by shifts of the widened byte. -/
theorem hi_nv (w : BitVec 8) : @Eq EReal (FloatOps.sitofp (F := Ideal) .bf16 (IntOp.shrsi .host (IntOp.shli .host (BitVec.setWidth 32 w) 24#32) 28#32)) (nv 4 w) := by
  rw [nv_coe, cR]
  exact congrArg (fun z : ℤ => ((z : ℝ) : EReal)) (hi_int w.toFin)

/-- A sum of real numbers is a real number. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t h ih => rw [Finset.sum_insert h, Finset.sum_insert h, ih, EReal.coe_add]

/-- A sum over 128 in two halves. -/
theorem split128 (f : Fin 128 → EReal) : ∑ x, f x = ∑ d : Fin 64, f ⟨d.val, by omega⟩ + ∑ d : Fin 64, f ⟨64 + d.val, by omega⟩ :=
  Fin.sum_univ_add (a := 64) (b := 64) f
/-- A sum over 64 in two halves. -/
theorem split64 (f : Fin 64 → EReal) : ∑ x, f x = ∑ d : Fin 32, f ⟨d.val, by omega⟩ + ∑ d : Fin 32, f ⟨32 + d.val, by omega⟩ :=
  Fin.sum_univ_add (a := 32) (b := 32) f

/-- The score before scaling. -/
def tVal (kc qc : Fin 32 → BitVec 8) (sq : EReal) (mean : Fin 64 → EReal) : EReal :=
  sq * ((∑ x, nv 0 (kc x) * nv 0 (qc x)) + ∑ x, nv 4 (kc x) * nv 4 (qc x))
    + ((∑ x : Fin 32, nv 0 (kc x) * mean ⟨2 * x.val, by omega⟩) + ∑ x : Fin 32, nv 4 (kc x) * mean ⟨1 + 2 * x.val, by omega⟩)

/-- The products over 256 rows: queries in one part of three, then the means. -/
theorem pay122_score (kx : Vec Ideal S256x128 .bf16) (qr : Vec Ideal S256x512 .bf16) (r : Fin 256) (cl : Fin 512)
    (kc qc : Fin 32 → BitVec 8) (sq : ℝ) (mean : Fin 64 → EReal)
    (hk : ∀ x : Fin 128, @Eq EReal (kx (ix2 r x)) (nv (if x.val / 32 % 2 = 0 then 0 else 4) (kc ⟨x.val % 32, by omega⟩)))
    (hq0 : ∀ d : Fin 64, @Eq EReal (qr (ix2 ⟨d.val, by omega⟩ cl)) (nv (if d.val < 32 then 0 else 4) (qc ⟨d.val % 32, by omega⟩) * sq))
    (hq1 : ∀ d : Fin 64, @Eq EReal (qr (ix2 ⟨64 + d.val, by omega⟩ cl)) 0)
    (hq2 : ∀ d : Fin 64, @Eq EReal (qr (ix2 ⟨128 + d.val, by omega⟩ cl)) 0)
    (hq3 : ∀ d : Fin 64, @Eq EReal (qr (ix2 ⟨128 + (64 + d.val), by omega⟩ cl)) (mean ⟨d.val % 32 * 2 + d.val / 32 % 2, by omega⟩)) :
    @Eq EReal (k0_pay122 kx qr (ix2 r cl)) (tVal kc qc sq mean) := by
  have hlo : ∀ x : Fin 32, @Eq EReal (kx (ix2 r ⟨x.val, by omega⟩)) (nv 0 (kc x)) := fun x => by
    rw [hk, if_pos (show x.val / 32 % 2 = 0 by omega)]
    exact congrArg (fun z => nv 0 (kc z)) (Fin.ext (Nat.mod_eq_of_lt x.isLt))
  have hhi : ∀ x : Fin 32, @Eq EReal (kx (ix2 r ⟨32 + x.val, by omega⟩)) (nv 4 (kc x)) := fun x => by
    rw [hk, if_neg (show ¬ (32 + x.val) / 32 % 2 = 0 by omega)]
    exact congrArg (fun z => nv 4 (kc z)) (Fin.ext (by show (32 + x.val) % 32 = x.val; omega))
  have hlo' : ∀ x : Fin 32, @Eq EReal (kx (ix2 r ⟨64 + x.val, by omega⟩)) (nv 0 (kc x)) := fun x => by
    rw [hk, if_pos (show (64 + x.val) / 32 % 2 = 0 by omega)]
    exact congrArg (fun z => nv 0 (kc z)) (Fin.ext (by show (64 + x.val) % 32 = x.val; omega))
  have hhi' : ∀ x : Fin 32, @Eq EReal (kx (ix2 r ⟨64 + (32 + x.val), by omega⟩)) (nv 4 (kc x)) := fun x => by
    rw [hk, if_neg (show ¬ (64 + (32 + x.val)) / 32 % 2 = 0 by omega)]
    exact congrArg (fun z => nv 4 (kc z)) (Fin.ext (by show (64 + (32 + x.val)) % 32 = x.val; omega))
  have qlo : ∀ x : Fin 32, @Eq EReal (qr (ix2 ⟨x.val, by omega⟩ cl)) (nv 0 (qc x) * sq) := fun x => by
    refine (hq0 ⟨x.val, by omega⟩).trans ?_
    rw [if_pos (show x.val < 32 by omega)]
    exact congrArg (fun z => nv 0 (qc z) * (sq : EReal)) (Fin.ext (Nat.mod_eq_of_lt x.isLt))
  have qhi : ∀ x : Fin 32, @Eq EReal (qr (ix2 ⟨32 + x.val, by omega⟩ cl)) (nv 4 (qc x) * sq) := fun x => by
    refine (hq0 ⟨32 + x.val, by omega⟩).trans ?_
    rw [if_neg (show ¬ 32 + x.val < 32 by omega)]
    exact congrArg (fun z => nv 4 (qc z) * (sq : EReal)) (Fin.ext (by show (32 + x.val) % 32 = x.val; omega))
  have mlo : ∀ x : Fin 32, @Eq EReal (qr (ix2 ⟨128 + (64 + x.val), by omega⟩ cl)) (mean ⟨2 * x.val, by omega⟩) := fun x => by
    refine (hq3 ⟨x.val, by omega⟩).trans ?_
    exact congrArg mean (Fin.ext (by show x.val % 32 * 2 + x.val / 32 % 2 = 2 * x.val; omega))
  have mhi : ∀ x : Fin 32, @Eq EReal (qr (ix2 ⟨128 + (64 + (32 + x.val)), by omega⟩ cl)) (mean ⟨1 + 2 * x.val, by omega⟩) := fun x => by
    refine (hq3 ⟨32 + x.val, by omega⟩).trans ?_
    exact congrArg mean (Fin.ext (by show (32 + x.val) % 32 * 2 + (32 + x.val) / 32 % 2 = 1 + 2 * x.val; omega))
  rw [pay122_at]
  refine (congrArg₂ (fun a b : EReal => a + b)
    ((split128 fun x => kx (ix2 r x) * qr (ix2 ⟨x.val, by omega⟩ cl)).trans (congrArg₂ (fun a b : EReal => a + b)
      ((split64 fun d => kx (ix2 r ⟨d.val, by omega⟩) * qr (ix2 ⟨d.val, by omega⟩ cl)).trans (congrArg₂ (fun a b : EReal => a + b)
        (Finset.sum_congr rfl fun x _ => congrArg₂ (fun a b : EReal => a * b) (hlo x) (qlo x))
        (Finset.sum_congr rfl fun x _ => congrArg₂ (fun a b : EReal => a * b) (hhi x) (qhi x))))
      (Finset.sum_eq_zero fun d _ => (congrArg (fun b : EReal => kx (ix2 r ⟨64 + d.val, by omega⟩) * b) (hq1 d)).trans (mul_zero _))))
    ((split128 fun x => kx (ix2 r x) * qr (ix2 ⟨128 + x.val, by omega⟩ cl)).trans (congrArg₂ (fun a b : EReal => a + b)
      (Finset.sum_eq_zero fun d _ => (congrArg (fun b : EReal => kx (ix2 r ⟨d.val, by omega⟩) * b) (hq2 d)).trans (mul_zero _))
      ((split64 fun d => kx (ix2 r ⟨64 + d.val, by omega⟩) * qr (ix2 ⟨128 + (64 + d.val), by omega⟩ cl)).trans (congrArg₂ (fun a b : EReal => a + b)
        (Finset.sum_congr rfl fun x _ => congrArg₂ (fun a b : EReal => a * b) (hlo' x) (mlo x))
        (Finset.sum_congr rfl fun x _ => congrArg₂ (fun a b : EReal => a * b) (hhi' x) (mhi x))))))).trans ?_
  rw [add_zero, zero_add, tVal]
  congr 1
  simp only [nv_coe, ← EReal.coe_mul, coe_sum, ← EReal.coe_add]
  congr 1
  rw [mul_add, Finset.mul_sum, Finset.mul_sum]
  congr 1 <;> exact Finset.sum_congr rfl fun x _ => by ring

/-- A signed comparison of two small naturals. -/
theorem sel_sgt {α : Type} (a b : ℕ) (ha : a < 2 ^ 31) (hb : b < 2 ^ 31) (x y : α) :
    Scalar.select (IntOp.cmpi .sgt (BitVec.ofNat 32 a) (BitVec.ofNat 32 b)) x y = if b < a then x else y := by
  have ea : (BitVec.ofNat 32 a).toInt = a := by
    rw [BitVec.toInt_eq_toNat_of_lt (by rw [BitVec.toNat_ofNat]; omega), BitVec.toNat_ofNat]; norm_cast; omega
  have eb : (BitVec.ofNat 32 b).toInt = b := by
    rw [BitVec.toInt_eq_toNat_of_lt (by rw [BitVec.toNat_ofNat]; omega), BitVec.toNat_ofNat]; norm_cast; omega
  have : IntOp.cmpi .sgt (BitVec.ofNat 32 a) (BitVec.ofNat 32 b) = BitVec.ofBool (decide (b < a)) := by
    show BitVec.ofBool ((BitVec.ofNat 32 b).slt (BitVec.ofNat 32 a)) = _
    congr 1
    rw [BitVec.slt, ea, eb]
    simp
  rw [this]
  unfold Scalar.select
  by_cases h : b < a <;> simp [h]

/-- The first key of a block. -/
theorem kmul : ∀ k : Fin 18, IntOp.muli (Scf.iv 0#32 1#32 k.val) 256#32 = BitVec.ofNat 32 (k.val * 256) := by decide +kernel
/-- The first query of a block. -/
theorem qmul : ∀ k : Fin 18, IntOp.muli (BitVec.ofNat 32 k.val) 256#32 = BitVec.ofNat 32 (k.val * 256) := by decide +kernel
/-- The query of a column. -/
theorem cmod : ∀ l : Fin 512, IntOp.andi (BitVec.ofNat 32 l.val) 255#32 = BitVec.ofNat 32 (l.val % 256) := by decide +kernel
/-- Small words add. -/
theorem addn (a b : ℕ) : IntOp.addi (BitVec.ofNat 32 a) (BitVec.ofNat 32 b) = BitVec.ofNat 32 (a + b) := (BitVec.ofNat_add a b).symm

/-- The masked scores at an index. -/
theorem scoreVal_at (qb k : Fin 18) (kx : Vec Ideal S256x128 .bf16) (qr : Vec Ideal S256x512 .bf16) (sk : ℕ → Elt Ideal .f32) (r : Fin 256) (cl : Fin 512) :
    @Eq EReal (scoreVal (BitVec.ofNat 32 qb.val) k.val kx qr sk (ix2 r cl))
      (if qb.val * 256 + cl.val % 256 < k.val * 256 + r.val then ⊥
        else k0_pay122 kx qr (ix2 r cl) * (sk (r.val / 32) * (Named.named κ "scale_log2e" 1043900987#32 : Ideal .f32))) := by
  refine Eq.trans (b := Scalar.select (IntOp.cmpi .sgt (IntOp.addi (IntOp.muli (Scf.iv 0#32 1#32 k.val) 256#32) (BitVec.ofNat 32 r.val)) (IntOp.addi (IntOp.muli (BitVec.ofNat 32 qb.val) 256#32) (IntOp.andi (BitVec.ofNat 32 cl.val) 255#32)))
    (Ideal.ofBits .f32 4286578688#32) (k0_pay122 kx qr (ix2 r cl) * (sk (r.val / 32) * (Named.named κ "scale_log2e" 1043900987#32 : Ideal .f32)) : EReal)) ?_ ?_
  · pointwise [scoreVal, k0_pay215, k0_pay125, k0_pay126, k0_pay127, k0_pay128, k0_pay129, k0_pay130, k0_pay131, k0_pay132, kposv, k0_pay124]
    refine congrArg (Scalar.select _ _) ?_
    have key : ∀ (y : Fin 256) (n : ℕ), y = r → n = r.val / 32 → @Eq EReal (k0_pay122 kx qr (ix2 y cl) * (sk n * (Named.named κ "scale_log2e" 1043900987#32 : Ideal .f32)))
        (k0_pay122 kx qr (ix2 r cl) * (sk (r.val / 32) * (Named.named κ "scale_log2e" 1043900987#32 : Ideal .f32))) := by
      rintro _ _ rfl rfl; rfl
    split_ifs
    all_goals exact key _ _ (Fin.ext (by first | rfl | (dsimp only; omega))) (by omega)
  · rw [kmul, qmul, cmod, addn, addn, sel_sgt _ _ (by omega) (by omega), AttnRow.lit_bot]

end Cert.KernelIdeal.Gen.Sem
end
-- ==== Proof.KernelIdealOut.lean ====
/- The kernel's output block at an index, over the extended reals: the softmax row. -/
module

public import proofs.«01_k».proof.Proof.KernelIdealValue
public import Idealize.ShloMosaic.Lib.Pointwise
public import proofs.«01_k».proof.Proof.KernelIdealScore
public import Idealize.ShloMosaic.Lib.Pointwise.Sums
public import Idealize.ShloMosaic.Lib.BitcastFour

@[expose] public section
set_option maxRecDepth 16384
noncomputable section
open Idealize.ShloMosaic Idealize.ShloMosaic.TcCoe Idealize.SL.Sem
namespace Cert.KernelIdeal.Gen.Sem
open Cert.KernelIdeal Cert.KernelIdeal.Gen

/-- The first stored part of the scaled queries is the scaled queries. -/
theorem qSt_A (q : FVec Ideal S64x256 .f32) (r : Fin 64) (l : Fin 256) : @Eq EReal (qSt (qA q) (ix2 r l)) (q (ix2 r l)) := by
  pointwise [qSt, qA]
/-- The second stored part is what the first leaves. -/
theorem qSt_B (q : FVec Ideal S64x256 .f32) (r : Fin 64) (l : Fin 256) : @Eq EReal (qSt (qB q) (ix2 r l)) (q (ix2 r l) - q (ix2 r l)) := by
  pointwise [qSt, qB, qA]
/-- The third stored part is what the first two leave. -/
theorem qSt_C (q : FVec Ideal S64x256 .f32) (r : Fin 64) (l : Fin 256) : @Eq EReal (qSt (qC q) (ix2 r l)) (q (ix2 r l) - q (ix2 r l) - (q (ix2 r l) - q (ix2 r l))) := by
  pointwise [qSt, qC, qB, qA]

/-- The scaled query at an index. -/
theorem qV_at (x1 : Vec Ideal S1x1x192x256 .i8) (x2 : Vec Ideal S1x1x6x256 .f32) (h : ℕ) (d : Fin 64) (q : Fin 256) :
    @Eq EReal (qV x1 x2 h (ix2 d q)) (nv (if d.val < 32 then 0 else 4) (x1 (ix4 0 0 ⟨32 * (h % 6) + d.val % 32, by omega⟩ q)) * x2 (ix4 0 0 ⟨h % 6, by omega⟩ q)) := by
  unfold qV
  rw [pay189_at]
  rfl

/-- The column of the query means for a half block. -/
theorem mcol : ∀ (qb : Fin 18) (part : Fin 2), (Scalar.select (IntOp.cmpi .slt (IntOp.addi (IntOp.muli (BitVec.ofNat 32 qb.val) 2#32) (BitVec.ofNat 32 part.val)) 0#32)
    (IntOp.addi (IntOp.addi (IntOp.muli (BitVec.ofNat 32 qb.val) 2#32) (BitVec.ofNat 32 part.val)) 128#32) (IntOp.addi (IntOp.muli (BitVec.ofNat 32 qb.val) 2#32) (BitVec.ofNat 32 part.val))).toNat % 128 = 2 * qb.val + part.val := by decide +kernel

/-- The gathered query means at an index, by the gathered column. -/
theorem mV_raw (a2 : BitVec 32) (x3 : Vec Ideal S1x1x384x128 .bf16) (h : ℕ) (part : BitVec 32) (d : Fin 64) (l : Fin 128) :
    @Eq EReal (mV a2 x3 h part (ix2 d l)) (x3 (ix4 0 0 ⟨64 * (h % 6) + d.val, by omega⟩ ⟨(Scalar.select (IntOp.cmpi .slt (IntOp.addi (IntOp.muli a2 2#32) part) 0#32)
      (IntOp.addi (IntOp.addi (IntOp.muli a2 2#32) part) 128#32) (IntOp.addi (IntOp.muli a2 2#32) part)).toNat % 128, by omega⟩)) := by
  pointwise [mV, k0_pay262, mLd]
  try rfl

/-- The mean column at an index. -/
theorem mV_at (qb : Fin 18) (x3 : Vec Ideal S1x1x384x128 .bf16) (h : ℕ) (part : Fin 2) (d : Fin 64) (l : Fin 128) :
    @Eq EReal (mV (BitVec.ofNat 32 qb.val) x3 h (BitVec.ofNat 32 part.val) (ix2 d l)) (x3 (ix4 0 0 ⟨64 * (h % 6) + d.val, by omega⟩ ⟨2 * qb.val + part.val, by omega⟩)) := by
  rw [mV_raw]
  exact congrArg (fun z => x3 (ix4 0 0 _ z)) (Fin.ext (mcol qb part))

section Rows
variable (a2 : BitVec 32) (x1 : Vec Ideal S1x1x192x256 .i8) (x2 : Vec Ideal S1x1x6x256 .f32) (x3 : Vec Ideal S1x1x384x128 .bf16) (p : ℕ)
/-- The query scratch, first part. -/
theorem qr_0 (d : Fin 64) (cl : Fin 512) : @Eq EReal (qrV a2 x1 x2 x3 p (ix2 ⟨d.val, by omega⟩ cl)) (qV x1 x2 (2 * p + cl.val / 256) (ix2 d ⟨cl.val % 256, by omega⟩)) := by
  unfold qrV
  dsimp only
  refine (if_pos (show d.val < 64 by omega)).trans ?_
  refine (qSt_A _ _ _).trans (congrArg (fun z => qV x1 x2 (2 * p + cl.val / 256) (ix2 z _)) (Fin.ext ?_))
  show d.val % 64 = d.val
  omega
/-- The query scratch, second part. -/
theorem qr_1 (d : Fin 64) (cl : Fin 512) : @Eq EReal (qrV a2 x1 x2 x3 p (ix2 ⟨64 + d.val, by omega⟩ cl))
    (qV x1 x2 (2 * p + cl.val / 256) (ix2 d ⟨cl.val % 256, by omega⟩) - qV x1 x2 (2 * p + cl.val / 256) (ix2 d ⟨cl.val % 256, by omega⟩)) := by
  unfold qrV
  dsimp only
  refine ((if_neg (show ¬ 64 + d.val < 64 by omega)).trans (if_pos (show 64 + d.val < 128 by omega))).trans ?_
  have e : (⟨(64 + d.val) % 64, by omega⟩ : Fin 64) = d := Fin.ext (by show (64 + d.val) % 64 = d.val; omega)
  exact (qSt_B _ _ _).trans (congrArg (fun z => qV x1 x2 (2 * p + cl.val / 256) (ix2 z _) - qV x1 x2 (2 * p + cl.val / 256) (ix2 z _)) e)
/-- The query scratch, third part. -/
theorem qr_2 (d : Fin 64) (cl : Fin 512) : @Eq EReal (qrV a2 x1 x2 x3 p (ix2 ⟨128 + d.val, by omega⟩ cl))
    (qV x1 x2 (2 * p + cl.val / 256) (ix2 d ⟨cl.val % 256, by omega⟩) - qV x1 x2 (2 * p + cl.val / 256) (ix2 d ⟨cl.val % 256, by omega⟩)
      - (qV x1 x2 (2 * p + cl.val / 256) (ix2 d ⟨cl.val % 256, by omega⟩) - qV x1 x2 (2 * p + cl.val / 256) (ix2 d ⟨cl.val % 256, by omega⟩))) := by
  unfold qrV
  dsimp only
  refine ((if_neg (show ¬ 128 + d.val < 64 by omega)).trans ((if_neg (show ¬ 128 + d.val < 128 by omega)).trans (if_pos (show 128 + d.val < 192 by omega)))).trans ?_
  have e : (⟨(128 + d.val) % 64, by omega⟩ : Fin 64) = d := Fin.ext (by show (128 + d.val) % 64 = d.val; omega)
  exact (qSt_C _ _ _).trans (congrArg (fun z => qV x1 x2 (2 * p + cl.val / 256) (ix2 z _) - qV x1 x2 (2 * p + cl.val / 256) (ix2 z _) - (qV x1 x2 (2 * p + cl.val / 256) (ix2 z _) - qV x1 x2 (2 * p + cl.val / 256) (ix2 z _))) e)
/-- The query scratch, the means. -/
theorem qr_3 (d : Fin 64) (cl : Fin 512) : @Eq EReal (qrV a2 x1 x2 x3 p (ix2 ⟨128 + (64 + d.val), by omega⟩ cl))
    (mV a2 x3 (2 * p + cl.val / 256) (BitVec.ofNat 32 (cl.val % 256 / 128)) (ix2 d ⟨cl.val % 128, by omega⟩)) := by
  unfold qrV
  dsimp only
  have h0 : ¬ 128 + (64 + d.val) < 64 := by omega
  have h1 : ¬ 128 + (64 + d.val) < 128 := by omega
  have h2 : ¬ 128 + (64 + d.val) < 192 := by omega
  refine ((if_neg h0).trans ((if_neg h1).trans (if_neg h2))).trans ?_
  refine congrArg (fun z => mV a2 x3 (2 * p + cl.val / 256) (BitVec.ofNat 32 (cl.val % 256 / 128)) (ix2 z _)) (Fin.ext ?_)
  show (128 + (64 + d.val)) % 64 = d.val
  omega
end Rows

/-- The named scale is an eighth of the base change. -/
theorem scale_eq : @Eq EReal (Named.named κ "scale_log2e" 1043900987#32 : Ideal .f32) ((AttnRow.kap : EReal) * Ideal.ofBits .f32 0x3E000000#32) := by
  refine Eq.trans (b := (((8 * Real.log 2)⁻¹ : ℝ) : EReal)) ?_ ?_
  · rfl
  · rw [AttnRow.lit_eighth, ← EReal.coe_mul]
    congr 1
    rw [AttnRow.kap, mul_inv]
    ring

/-- The masked score of a key. -/
def xVal (qb : ℕ) (q : ℕ) (kc : Fin 4608 → Fin 32 → BitVec 8) (qc : Fin 32 → BitVec 8) (sq : EReal) (mean : Fin 64 → EReal) (skf : Fin 144 → EReal) (s : Fin 4608) : EReal :=
  if qb * 256 + q < s.val then ⊥ else (Ideal.ofBits .f32 0x3E000000#32 * skf ⟨s.val / 32, by omega⟩) * tVal (kc s) qc sq mean

/-- The softmax row, clipped, on the values. -/
def rowVal (X v : Fin 4608 → EReal) : EReal :=
  ∑ s, min (Ideal.ofBits .f32 1138753536#32) (max 0 (Ideal.div (Ideal.exp (X s - Finset.univ.fold max ⊥ X)) (∑ s, Ideal.exp (X s - Finset.univ.fold max ⊥ X)) * Ideal.ofBits .f32 1132462080#32)) * v s

/-- The output block at an index. -/
theorem out_at (i : grid0.Coords) (qb : Fin 18) (hqb : (i 2).val = qb.val)
    (x0 : Vec Ideal S32x144 .f32) (x1 : Vec Ideal S1x1x192x256 .i8) (x2 : Vec Ideal S1x1x6x256 .f32) (x3 : Vec Ideal S1x1x384x128 .bf16)
    (xs0 : Vec Ideal S4608x128 .bf16) (xs1 : Vec Ideal S64x4608 .bf16)
    (kc : Fin 4608 → Fin 32 → BitVec 8) (qc : Fin 32 → BitVec 8) (sq : ℝ) (mean : Fin 64 → EReal) (skf : Fin 144 → EReal) (v : Fin 4608 → EReal) (q : Fin 256) (l : Fin 384)
    (hk : ∀ (s : Fin 4608) (x : Fin 128), @Eq EReal (xs0 (ix2 s x)) (nv (if x.val / 32 % 2 = 0 then 0 else 4) (kc s ⟨x.val % 32, by omega⟩)))
    (hq : ∀ x : Fin 32, x1 (ix4 0 0 ⟨32 * (l.val / 64) + x.val, by omega⟩ q) = qc x)
    (hsq : @Eq EReal (x2 (ix4 0 0 ⟨l.val / 64, by omega⟩ q)) sq)
    (hm : ∀ d : Fin 64, @Eq EReal (x3 (ix4 0 0 ⟨64 * (l.val / 64) + d.val, by omega⟩ ⟨2 * qb.val + q.val / 128, by omega⟩)) (mean ⟨d.val % 32 * 2 + d.val / 32 % 2, by omega⟩))
    (hsk : ∀ k : Fin 144, @Eq EReal (x0 (ix2 ⟨8 * (i 0).val + (i 1).val, by have h0 : (i 0).val < 4 := (i 0).isLt; have h1 : (i 1).val < 8 := (i 1).isLt; omega⟩ k)) (skf k))
    (hv : ∀ s : Fin 4608, @Eq EReal (xs1 (ix2 ⟨l.val % 64, by omega⟩ s)) (v s)) :
    @Eq EReal (outBlk i x0 x1 x2 x3 xs0 xs1 (ix3 0 q l)) (rowVal (xVal qb.val q.val kc qc sq mean skf) v * Ideal.ofBits .f32 998244352#32) := by
  unfold outBlk outV
  refine (p233_at _ _ _).trans ?_
  refine congrArg (fun z : EReal => z * Ideal.ofBits .f32 998244352#32) ?_
  refine (pairVal_at _ _ _ _ _).trans ?_
  unfold rowVal
  rw [AttnRow.lit_256]
  set cl : Fin 512 := ⟨256 * (l.val % 128 / 64) + q.val, by omega⟩ with hcl
  have hh : 2 * (l.val / 128) + cl.val / 256 = l.val / 64 := by show 2 * (l.val / 128) + (256 * (l.val % 128 / 64) + q.val) / 256 = l.val / 64; omega
  have hcq : (⟨cl.val % 256, by omega⟩ : Fin 256) = q := Fin.ext (by show (256 * (l.val % 128 / 64) + q.val) % 256 = q.val; omega)
  have hcq' : cl.val % 256 = q.val := congrArg Fin.val hcq
  have hqv : ∀ d : Fin 64, @Eq EReal (qV x1 x2 (2 * (l.val / 128) + cl.val / 256) (ix2 d ⟨cl.val % 256, by omega⟩)) (nv (if d.val < 32 then 0 else 4) (qc ⟨d.val % 32, by omega⟩) * sq) := fun d => by
    rw [hh, hcq, qV_at]
    refine congrArg₂ (fun a b : EReal => a * b) (congrArg (nv _) ?_) ?_
    · refine Eq.trans (congrArg (fun z => x1 (ix4 0 0 z q)) (Fin.ext ?_)) (hq ⟨d.val % 32, by omega⟩)
      show 32 * (l.val / 64 % 6) + d.val % 32 = 32 * (l.val / 64) + d.val % 32
      omega
    · refine Eq.trans (congrArg (fun z => x2 (ix4 0 0 z q)) (Fin.ext ?_)) hsq
      show l.val / 64 % 6 = l.val / 64
      omega
  have hfin : ∀ d : Fin 64, ∃ z : ℝ, @Eq EReal (qV x1 x2 (2 * (l.val / 128) + cl.val / 256) (ix2 d ⟨cl.val % 256, by omega⟩)) z := fun d =>
    ⟨_, by rw [hqv, nv_coe, ← EReal.coe_mul]⟩
  refine (AttnRow.row ((i 2).val + 1) (by omega)
    (fun k r => scoreVal (BitVec.ofNat 32 (i 2).val) k (kxV xs0 k) (qrV (BitVec.ofNat 32 (i 2).val) x1 x2 x3 (l.val / 128)) (skV i x0 k) (ix2 r cl))
    (fun k r => vxV xs1 k (ix2 ⟨l.val % 128 % 64, by omega⟩ r)) (xVal qb.val q.val kc qc sq mean skf) v _ _ ?_ (fun c => max_le _ _ _ c) ?_ ?_ ?_)
  · rw [AttnRow.lit_448]; exact_mod_cast (by norm_num : (0 : ℝ) ≤ 448)
  · intro k hk' r
    show @Eq EReal (scoreVal (BitVec.ofNat 32 (i 2).val) k (kxV xs0 k) (qrV (BitVec.ofNat 32 (i 2).val) x1 x2 x3 (l.val / 128)) (skV i x0 k) (ix2 r cl)) _
    rw [hqb]
    refine (scoreVal_at qb ⟨k, hk'⟩ _ _ _ r cl).trans ?_
    rw [hcq', xVal]
    show (if qb.val * 256 + q.val < k * 256 + r.val then ⊥ else _) = (AttnRow.kap : EReal) * (if qb.val * 256 + q.val < k * 256 + r.val then ⊥ else _)
    by_cases hlt : qb.val * 256 + q.val < k * 256 + r.val
    · rw [if_pos hlt, if_pos hlt, AttnRow.scale_bot _ AttnRow.kap_pos]
    · rw [if_neg hlt, if_neg hlt]
      have eT := pay122_score (kxV xs0 k) (qrV (BitVec.ofNat 32 qb.val) x1 x2 x3 (l.val / 128)) r cl (kc ⟨k * 256 + r.val, by omega⟩) qc sq mean
        (fun x => by
          refine Eq.trans (congrArg (fun z => xs0 (ix2 z x)) (Fin.ext ?_)) (hk ⟨k * 256 + r.val, by omega⟩ x)
          show 256 * (k % 18) + r.val = k * 256 + r.val
          omega)
        (fun d => (qr_0 _ _ _ _ _ d cl).trans (hqv d))
        (fun d => by
          obtain ⟨z, hz⟩ := hfin d
          rw [qr_1, hz, ← EReal.coe_sub, sub_self]; rfl)
        (fun d => by
          obtain ⟨z, hz⟩ := hfin d
          rw [qr_2, hz, ← EReal.coe_sub, sub_self, ← EReal.coe_sub, sub_self]; rfl)
        (fun d => by
          rw [qr_3, hh]
          refine (mV_at qb x3 _ ⟨cl.val % 256 / 128, by omega⟩ d _).trans ?_
          refine Eq.trans (congrArg₂ (fun y z => x3 (ix4 0 0 y z)) (Fin.ext ?_) (Fin.ext ?_)) (hm d)
          · show 64 * (l.val / 64 % 6) + d.val = 64 * (l.val / 64) + d.val
            omega
          · show 2 * qb.val + cl.val % 256 / 128 = 2 * qb.val + q.val / 128
            rw [hcq'])
      have eS : @Eq EReal (skV i x0 k (r.val / 32)) (skf ⟨(k * 256 + r.val) / 32, by omega⟩) := by
        refine Eq.trans (congrArg (fun z => x0 (ix2 _ z)) (Fin.ext ?_)) (hsk _)
        show 8 * (k % 18) + r.val / 32 % 8 = (k * 256 + r.val) / 32
        omega
      refine (congrArg₂ (fun a b : EReal => a * b) eT (congrArg₂ (fun a b : EReal => a * b) eS scale_eq)).trans ?_
      show tVal (kc ⟨k * 256 + r.val, by omega⟩) qc sq mean * (skf ⟨(k * 256 + r.val) / 32, by omega⟩ * ((AttnRow.kap : EReal) * Ideal.ofBits .f32 0x3E000000#32)) = (AttnRow.kap : EReal) * ((Ideal.ofBits .f32 0x3E000000#32 * skf ⟨(k * 256 + r.val) / 32, by omega⟩) * tVal (kc ⟨k * 256 + r.val, by omega⟩) qc sq mean)
      ac_rfl
  · intro k hk' r hn
    exact if_pos (show qb.val * 256 + q.val < k * 256 + r.val by omega)
  · intro k hk' r
    refine Eq.trans (congrArg₂ (fun y z => xs1 (ix2 y z)) (Fin.ext ?_) (Fin.ext ?_)) (hv ⟨k * 256 + r.val, by omega⟩)
    · show l.val % 128 % 64 = l.val % 64
      omega
    · show 256 * (k % 18) + r.val = k * 256 + r.val
      omega

end Cert.KernelIdeal.Gen.Sem
end
-- ==== Proof.KernelIdealHost.lean ====
/- The kernel's host-prepared operands at an index. -/
module

public import proofs.«01_k».proof.Proof.KernelIdealValue
public import Idealize.ShloMosaic.Lib.Pointwise
public import Idealize.ShloMosaic.Lib.Claim
public import Idealize.ShloMosaic.Lib.StableHlo.RunRead
public import Idealize.ShloMosaic.Lib.Pointwise.Sums
public import Idealize.ShloMosaic.Lib.BitcastFour

@[expose] public section
set_option maxRecDepth 16384
noncomputable section
open Idealize.ShloMosaic Idealize.ShloMosaic.TcCoe Idealize.SL.Sem
namespace Cert.KernelIdeal.Gen.Sem
open Cert.KernelIdeal Cert.KernelIdeal.Gen
variable (m : (ℓ : Loc nD τ sig) → Buf (Elt Ideal) ℓ) (c : Dev nD)
/-- The query codes as the kernel's block array holds them. -/
theorem v1_at (b : Fin 4) (g : Fin 8) (r : Fin 192) (q : Fin 4608) : (V m c main_v1 : Vec Ideal S4x8x192x4608 .i8) (ix4 b g r q) = (m ((c.tc : Thread nD τ).loc main_arg0) : Vec Ideal S4x4608x48x32 .i8) (ix4 b q ⟨g.val*6+r.val/32, by omega⟩ ⟨r.val%32, by omega⟩) := by
  simp only [V, hostOps0, hostOps0_1, hostOps0_2, hostOps0_3, List.flatten_cons, List.flatten_nil, List.append_nil, List.cons_append, List.nil_append]
  after_reads_simp
  pointwise

/-- The query scale of a row's block of 32. -/
theorem v5_at (b : Fin 4) (g : Fin 8) (h : Fin 6) (q : Fin 4608) : (V m c main_v5 : Vec Ideal S4x8x6x4608 .f32) (ix4 b g h q) = (m ((c.tc : Thread nD τ).loc main_arg1) : Vec Ideal S4x144x48 .f32) (ix3 b ⟨q.val/32, by omega⟩ ⟨g.val*6+h.val, by omega⟩) := by
  simp only [V, hostOps0, hostOps0_1, hostOps0_2, hostOps0_3, List.flatten_cons, List.flatten_nil, List.append_nil, List.cons_append, List.nil_append]
  after_reads_simp
  pointwise

/-- The query means before padding, even lanes first. -/
theorem v8_at (b : Fin 4) (g : Fin 8) (r : Fin 384) (l : Fin 36) : (V m c main_v8 : Vec Ideal S4x8x384x36 .bf16) (ix4 b g r l) = (m ((c.tc : Thread nD τ).loc main_arg2) : Vec Ideal S4x36x48x64 .bf16) (ix4 b l ⟨g.val*6+r.val/64, by omega⟩ ⟨r.val%32*2+r.val/32%2, by omega⟩) := by
  simp only [V, hostOps0, hostOps0_1, hostOps0_2, hostOps0_3, List.flatten_cons, List.flatten_nil, List.append_nil, List.cons_append, List.nil_append]
  after_reads_simp
  pointwise
/-- The padding reads the array inside it. -/
theorem pad9_at (x : FVec Ideal S4x8x384x36 .bf16) (z : FVec Ideal S_ .bf16) (b : Fin 4) (g : Fin 8) (r : Fin 384) (l : Fin 128) (hl : l.val < 36) :
    pad S4x8x384x128 ![0, 0, 0, 0] ![0, 0, 0, 92] ![0, 0, 0, 0] x z pads_S4x8x384x36_S4x8x384x128_000_000_000_0920 h_S_ (ix4 b g r l) = x (ix4 b g r ⟨l.val, hl⟩) := by
  pointwise
  rw [dif_pos hl]
/-- The padded array. -/
def padd9 (x : FVec Ideal S4x8x384x36 .bf16) : FVec Ideal S4x8x384x128 .bf16 :=
  pad S4x8x384x128 ![0, 0, 0, 0] ![0, 0, 0, 92] ![0, 0, 0, 0] x (sitofp FTy.bf16 (constantI S_ 32 0#32)) pads_S4x8x384x36_S4x8x384x128_000_000_000_0920 h_S_
/-- The operand is the padded array. -/
theorem v9_eq : (V m c main_v9 : Vec Ideal S4x8x384x128 .bf16) = padd9 (V m c main_v8) := by
  simp only [V, hostOps0, hostOps0_1, hostOps0_2, hostOps0_3, List.flatten_cons, List.flatten_nil, List.append_nil, List.cons_append, List.nil_append]
  after_reads_simp
  rfl
/-- The key codes, four times over. -/
theorem v13_at (b : Fin 4) (g : Fin 8) (s : Fin 4608) (l : Fin 128) : (V m c main_v13 : Vec Ideal S4x8x4608x128 .i8) (ix4 b g s l) = (m ((c.tc : Thread nD τ).loc main_arg3) : Vec Ideal S4x4608x8x32 .i8) (ix4 b s g ⟨l.val%32, by omega⟩) := by
  simp only [V, hostOps0, hostOps0_1, hostOps0_2, hostOps0_3, List.flatten_cons, List.flatten_nil, List.append_nil, List.cons_append, List.nil_append]
  after_reads_simp
  pointwise

/-- The key scales, one row per batch and group. -/
theorem v15_at (i : Fin 32) (k : Fin 144) : (V m c main_v15 : Vec Ideal S32x144 .f32) (ix2 i k) = (m ((c.tc : Thread nD τ).loc main_arg4) : Vec Ideal S4x144x8 .f32) (ix3 ⟨i.val/8, by omega⟩ k ⟨i.val%8, by omega⟩) := by
  simp only [V, hostOps0, hostOps0_1, hostOps0_2, hostOps0_3, List.flatten_cons, List.flatten_nil, List.append_nil, List.cons_append, List.nil_append]
  after_reads_simp
  pointwise

/-- The values, transposed. -/
theorem v16_at (b : Fin 4) (g : Fin 8) (d : Fin 64) (s : Fin 4608) : (V m c main_v16 : Vec Ideal S4x8x64x4608 .fp8e4m3) (ix4 b g d s) = (m ((c.tc : Thread nD τ).loc main_arg5) : Vec Ideal S4x4608x8x64 .fp8e4m3) (ix4 b s g d) := by
  simp only [V, hostOps0, hostOps0_1, hostOps0_2, hostOps0_3, List.flatten_cons, List.flatten_nil, List.append_nil, List.cons_append, List.nil_append]
  after_reads_simp
  pointwise

/-- The value scales before padding. -/
theorem v17_at (b : Fin 4) (g : Fin 8) (d : Fin 64) (l : Fin 144) : (V m c main_v17 : Vec Ideal S4x8x64x144 .f32) (ix4 b g d l) = (m ((c.tc : Thread nD τ).loc main_arg6) : Vec Ideal S4x144x8x64 .f32) (ix4 b l g d) := by
  simp only [V, hostOps0, hostOps0_1, hostOps0_2, hostOps0_3, List.flatten_cons, List.flatten_nil, List.append_nil, List.cons_append, List.nil_append]
  after_reads_simp
  pointwise
/-- The padding reads the array inside it. -/
theorem pad18_at (x : FVec Ideal S4x8x64x144 .f32) (z : FVec Ideal S_ .f32) (b : Fin 4) (g : Fin 8) (r : Fin 64) (l : Fin 256) (hl : l.val < 144) :
    pad S4x8x64x256 ![0, 0, 0, 0] ![0, 0, 0, 112] ![0, 0, 0, 0] x z pads_S4x8x64x144_S4x8x64x256_000_000_000_01120 h_S_ (ix4 b g r l) = x (ix4 b g r ⟨l.val, hl⟩) := by
  pointwise
  rw [dif_pos hl]
/-- The padded array. -/
def padd18 (x : FVec Ideal S4x8x64x144 .f32) : FVec Ideal S4x8x64x256 .f32 :=
  pad S4x8x64x256 ![0, 0, 0, 0] ![0, 0, 0, 112] ![0, 0, 0, 0] x (sitofp FTy.f32 (constantI S_ 32 0#32)) pads_S4x8x64x144_S4x8x64x256_000_000_000_01120 h_S_
/-- The operand is the padded array. -/
theorem v18_eq : (V m c main_v18 : Vec Ideal S4x8x64x256 .f32) = padd18 (V m c main_v17) := by
  simp only [V, hostOps0, hostOps0_1, hostOps0_2, hostOps0_3, List.flatten_cons, List.flatten_nil, List.append_nil, List.cons_append, List.nil_append]
  after_reads_simp
  rfl

/-- The query means at an index. -/
theorem v9_at (b : Fin 4) (g : Fin 8) (r : Fin 384) (l : Fin 128) (hl : l.val < 36) : (V m c main_v9 : Vec Ideal S4x8x384x128 .bf16) (ix4 b g r l) = (m ((c.tc : Thread nD τ).loc main_arg2) : Vec Ideal S4x36x48x64 .bf16) (ix4 b ⟨l.val, hl⟩ ⟨g.val*6+r.val/64, by omega⟩ ⟨r.val%32*2+r.val/32%2, by omega⟩) :=
  (congrFun (v9_eq m c) _).trans ((pad9_at _ _ b g r l hl).trans (v8_at m c b g r ⟨l.val, hl⟩))
/-- The value scales at an index. -/
theorem v18_at (b : Fin 4) (g : Fin 8) (d : Fin 64) (l : Fin 256) (hl : l.val < 144) : (V m c main_v18 : Vec Ideal S4x8x64x256 .f32) (ix4 b g d l) = (m ((c.tc : Thread nD τ).loc main_arg6) : Vec Ideal S4x144x8x64 .f32) (ix4 b ⟨l.val, hl⟩ g d) :=
  (congrFun (v18_eq m c) _).trans ((pad18_at _ _ b g d l hl).trans (v17_at m c b g d ⟨l.val, hl⟩))

end Cert.KernelIdeal.Gen.Sem
end
-- ==== Proof.KernelIdealSpec.lean ====
/- The kernel's result at an index, as attention over the arguments. -/
module
public import proofs.«01_k».proof.Proof.KernelIdealOut
public import proofs.«01_k».proof.Proof.KernelIdealHost
public import proofs.«01_k».proof.Proof.KernelIdealValue
@[expose] public section
set_option maxRecDepth 16384
noncomputable section
open Idealize.ShloMosaic Idealize.ShloMosaic.TcCoe Idealize.SL.Sem
namespace Cert.KernelIdeal.Gen.Sem
open Cert.KernelIdeal Cert.KernelIdeal.Gen Cert.KernelIdeal.Gen.Track

/-- Equal coordinates, equal entries (two axes). -/
theorem at2 {n0 n1 : ℕ} {α : Type} (f : (⟨2, ![n0, n1]⟩ : Shape).Idx → α) {a a' : Fin n0} {b b' : Fin n1}
    (ha : a.val = a'.val) (hb : b.val = b'.val) : f (ix2 a b) = f (ix2 a' b') := by
  obtain rfl := Fin.ext ha; obtain rfl := Fin.ext hb; rfl
/-- Equal coordinates, equal entries (three axes). -/
theorem at3 {n0 n1 n2 : ℕ} {α : Type} (f : (⟨3, ![n0, n1, n2]⟩ : Shape).Idx → α) {a a' : Fin n0} {b b' : Fin n1} {c c' : Fin n2}
    (ha : a.val = a'.val) (hb : b.val = b'.val) (hc : c.val = c'.val) : f (ix3 a b c) = f (ix3 a' b' c') := by
  obtain rfl := Fin.ext ha; obtain rfl := Fin.ext hb; obtain rfl := Fin.ext hc; rfl
/-- Equal coordinates, equal entries (four axes). -/
theorem at4 {n0 n1 n2 n3 : ℕ} {α : Type} (f : (⟨4, ![n0, n1, n2, n3]⟩ : Shape).Idx → α) {a a' : Fin n0} {b b' : Fin n1} {c c' : Fin n2} {d d' : Fin n3}
    (ha : a.val = a'.val) (hb : b.val = b'.val) (hc : c.val = c'.val) (hd : d.val = d'.val) : f (ix4 a b c d) = f (ix4 a' b' c' d') := by
  obtain rfl := Fin.ext ha; obtain rfl := Fin.ext hb; obtain rfl := Fin.ext hc; obtain rfl := Fin.ext hd; rfl

/-- Causal attention of one query and head, on one output lane: the masked scores of the query's row, their softmax scaled and clipped, on the scaled values. -/
def specAt (a0 : Vec Ideal S4x4608x48x32 .i8) (a1 : Vec Ideal S4x144x48 .f32) (a2 : Vec Ideal S4x36x48x64 .bf16) (a3 : Vec Ideal S4x4608x8x32 .i8)
    (a4 : Vec Ideal S4x144x8 .f32) (a5 : Vec Ideal S4x4608x8x64 .fp8e4m3) (a6 : Vec Ideal S4x144x8x64 .f32) (b : Fin 4) (q : Fin 4608) (h : Fin 3072) : EReal :=
  rowVal (xVal (q.val / 256) (q.val % 256) (fun s x => a3 (ix4 b s ⟨h.val / 384, by omega⟩ x)) (fun x => a0 (ix4 b q ⟨h.val / 64, by omega⟩ x))
      (a1 (ix3 b ⟨q.val / 32, by omega⟩ ⟨h.val / 64, by omega⟩)) (fun d => a2 (ix4 b ⟨q.val / 128, by omega⟩ ⟨h.val / 64, by omega⟩ d))
      (fun k => a4 (ix3 b k ⟨h.val / 384, by omega⟩)))
    (fun s => (a5 (ix4 b s ⟨h.val / 384, by omega⟩ ⟨h.val % 64, by omega⟩) : EReal) * a6 (ix4 b ⟨s.val / 32, by omega⟩ ⟨h.val / 384, by omega⟩ ⟨h.val % 64, by omega⟩))
  * Ideal.ofBits .f32 998244352#32

/-- The scaled values at an index. -/
theorem vxAll_at (x5 : Vec Ideal S1x1x64x4608 .fp8e4m3) (x6 : Vec Ideal S1x1x64x256 .f32) (d : Fin 64) (s : Fin 4608) :
    @Eq EReal (vxAll x5 x6 (ix2 d s)) ((x5 (ix4 0 0 d s) : EReal) * x6 (ix4 0 0 d ⟨s.val / 32, by omega⟩)) := rfl

variable (m : (ℓ : Loc nD τ sig) → Buf (Elt Ideal) ℓ) (c : Dev nD)

/-- The kernel's result at an index, where the query's scale is a real number. -/
theorem result_at (b : Fin 4) (q : Fin 4608) (h : Fin 3072) (z : ℝ)
    (hz : @Eq EReal ((m ((c.tc : Thread nD τ).loc main_arg1) : Vec Ideal S4x144x48 .f32) (ix3 b ⟨q.val / 32, by omega⟩ ⟨h.val / 64, by omega⟩)) z) :
    @Eq EReal (result m c (ix3 b q h)) (specAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) b q h) := by
  have ht : (ptOf (ix3 b q h)).val = (b.val * 8 + h.val / 384) * 18 + q.val / 256 := rfl
  have hr : result m c (ix3 b q h) = outT m c (ptOf (ix3 b q h)) (ix3 0 ⟨q.val % 256, by omega⟩ ⟨h.val % 384, by omega⟩) := rfl
  rw [hr]
  generalize ptOf (ix3 b q h) = t at ht
  clear hr
  unfold specAt outT
  rw [hz]
  have b0 := b.isLt
  have q0 := q.isLt
  have h0 := h.isLt
  have t0 : t.val / 144 = b.val := by omega
  have t1 : t.val / 18 % 8 = h.val / 384 := by omega
  have t2 : t.val % 18 = q.val / 256 := by omega
  refine out_at (grid0.coords t) ⟨q.val / 256, by omega⟩ ((co2 t).trans t2) _ _ _ _ _ _ _ _ z _ _ _ ⟨q.val % 256, by omega⟩ ⟨h.val % 384, by omega⟩ ?_ ?_ ?_ ?_ ?_ ?_
  · intro s x
    refine (pay2_at _ _ _).trans (congrArg (nv _) ?_)
    refine (iblk4_at m c t _).trans ((v13_at m c _ _ _ _).trans (at4 _ t0 ?_ t1 rfl))
    show 256 * (s.val / 256) + s.val % 256 = s.val
    omega
  · intro x
    refine (iblk1_at m c t _).trans ((v1_at m c _ _ _ _).trans (at4 _ t0 ?_ ?_ ?_))
    · show 256 * (t.val % 18) + q.val % 256 = q.val
      omega
    · show t.val / 18 % 8 * 6 + (32 * (h.val % 384 / 64) + x.val) / 32 = h.val / 64
      omega
    · show (32 * (h.val % 384 / 64) + x.val) % 32 = x.val
      omega
  · refine (iblk2_at m c t _).trans ((v5_at m c _ _ _ _).trans ((at3 _ t0 ?_ ?_).trans hz))
    · show (256 * (t.val % 18) + q.val % 256) / 32 = q.val / 32
      omega
    · show t.val / 18 % 8 * 6 + h.val % 384 / 64 = h.val / 64
      omega
  · intro d
    refine (iblk3_at m c t _).trans ((v9_at m c _ _ _ _ ?_).trans (at4 _ t0 ?_ ?_ ?_))
    · show 2 * (q.val / 256) + q.val % 256 / 128 < 36
      omega
    · show 2 * (q.val / 256) + q.val % 256 / 128 = q.val / 128
      omega
    · show t.val / 18 % 8 * 6 + (64 * (h.val % 384 / 64) + d.val) / 64 = h.val / 64
      omega
    · show (64 * (h.val % 384 / 64) + d.val) % 32 * 2 + (64 * (h.val % 384 / 64) + d.val) / 32 % 2 = d.val % 32 * 2 + d.val / 32 % 2
      omega
  · intro k
    have e0 := co0 t
    have e1 := co1 t
    refine (iblk0_at m c t _).trans ((v15_at m c _ _).trans (at3 _ ?_ rfl ?_))
    · show (8 * (grid0.coords t 0).val + (grid0.coords t 1).val) / 8 = b.val
      omega
    · show (8 * (grid0.coords t 0).val + (grid0.coords t 1).val) % 8 = h.val / 384
      omega
  · intro s
    refine (vxAll_at _ _ _ _).trans ?_
    refine congrArg₂ (fun x y : EReal => x * y) ?_ ?_
    · refine (iblk5_at m c t _).trans ((v16_at m c _ _ _ _).trans (at4 _ t0 rfl t1 ?_))
      show h.val % 384 % 64 = h.val % 64
      omega
    · refine (iblk6_at m c t _).trans ((v18_at m c _ _ _ _ ?_).trans (at4 _ t0 rfl t1 ?_))
      · show s.val / 32 < 144
        omega
      · show h.val % 384 % 64 = h.val % 64
        omega

end Cert.KernelIdeal.Gen.Sem
end
-- ==== Proof.RefIdealSpec.lean ====
/- The reference's result at an index, as attention over the arguments. -/
module
public import proofs.«01_k».proof.Proof.RefIdealRegion
public import proofs.«01_k».proof.Proof.KernelIdealSpec
@[expose] public section
set_option maxRecDepth 16384
noncomputable section
open Idealize.ShloMosaic Idealize.ShloMosaic.TcCoe Idealize.SL.Sem
namespace Cert.RefIdeal.Gen.Sem
open Cert.RefIdeal Cert.RefIdeal.Gen
open Cert.KernelIdeal.Gen.Sem (nv lo_nv hi_nv tVal xVal rowVal specAt sel_sgt at2 at3 at4)

/-- The probabilities at an index, the maximum started at the written constant. -/
theorem p_raw (x : FVec Ideal S4x8x6x4608x4608 .f32) (b : Fin 4) (g : Fin 8) (h : Fin 6) (q s : Fin 4608) :
    @Eq EReal (pOf (expOf x) (ix5 b g h q s))
      (Ideal.div (Ideal.exp (x (ix5 b g h q s) - Finset.univ.fold max (Ideal.ofBits .f32 4286578688#32) (fun s : Fin 4608 => (x (ix5 b g h q s) : EReal))))
        (∑ s' : Fin 4608, Ideal.exp (x (ix5 b g h q s') - Finset.univ.fold max (Ideal.ofBits .f32 4286578688#32) (fun s : Fin 4608 => (x (ix5 b g h q s) : EReal))))) := by
  pointwise [pOf, expOf, mxOf]
/-- The probabilities at an index. -/
theorem p_at (x : FVec Ideal S4x8x6x4608x4608 .f32) (b : Fin 4) (g : Fin 8) (h : Fin 6) (q s : Fin 4608) (X : Fin 4608 → EReal)
    (hX : ∀ s, @Eq EReal (x (ix5 b g h q s)) (X s)) :
    @Eq EReal (pOf (expOf x) (ix5 b g h q s))
      (Ideal.div (Ideal.exp (X s - Finset.univ.fold max ⊥ X)) (∑ s, Ideal.exp (X s - Finset.univ.fold max ⊥ X))) := by
  have e : (fun s : Fin 4608 => (x (ix5 b g h q s) : EReal)) = X := funext hX
  refine (p_raw x b g h q s).trans ?_
  rw [Cert.AttnRow.lit_bot, e, hX]
  simp only [hX]
/-- The flattened probabilities' rows. -/
theorem cast70 (x : FVec Ideal S4x8x6x4608x4608 .f32) (b : Fin 4) (g : Fin 8) (h : Fin 6) (q s : Fin 4608) :
    shapeCast S884736x4608 x shapeCasts_S4x8x6x4608x4608_S884736x4608 (ix2 ⟨b.val * 221184 + g.val * 27648 + h.val * 4608 + q.val, by omega⟩ s) = x (ix5 b g h q s) := by
  pointwise

/-- The reference's score is the kernel's. -/
theorem scoreR_eq (k q : Fin 32 → BitVec 8) (sk sq : EReal) (mean : Fin 64 → EReal) :
    scoreR k q sk sq mean = (Ideal.ofBits .f32 0x3E000000#32 * sk) * tVal k q sq mean := by
  have l0 : ∀ w, loR w = nv 0 w := lo_nv
  have l1 : ∀ w, hiR w = nv 4 w := hi_nv
  unfold scoreR tVal
  simp only [l0, l1]

variable (m : (ℓ : Loc nD τ sig) → Buf (Elt Ideal) ℓ) (c : Dev nD)

/-- The masked score at an index. -/
theorem v60_at (b : Fin 4) (g : Fin 8) (h : Fin 6) (hd : Fin 48) (hh : g.val * 6 + h.val = hd.val) (q s : Fin 4608) :
    @Eq EReal ((V m c main_v60 : Vec Ideal S4x8x6x4608x4608 .f32) (ix5 b g h q s))
      (xVal (q.val / 256) (q.val % 256) (fun s x => (m ((c.tc : Thread nD τ).loc main_arg3) : Vec Ideal S4x4608x8x32 .i8) (ix4 b s g x))
        (fun x => (m ((c.tc : Thread nD τ).loc main_arg0) : Vec Ideal S4x4608x48x32 .i8) (ix4 b q hd x))
        ((m ((c.tc : Thread nD τ).loc main_arg1) : Vec Ideal S4x144x48 .f32) (ix3 b ⟨q.val / 32, by omega⟩ hd))
        (fun d => (m ((c.tc : Thread nD τ).loc main_arg2) : Vec Ideal S4x36x48x64 .bf16) (ix4 b ⟨q.val / 128, by omega⟩ hd d))
        (fun k => (m ((c.tc : Thread nD τ).loc main_arg4) : Vec Ideal S4x144x8 .f32) (ix3 b k g)) s) := by
  obtain ⟨hd, hd0⟩ := hd
  obtain rfl : g.val * 6 + h.val = hd := hh
  refine (congrFun (v60_eq m c) _).trans ((msk_at _ b g h q s).trans ?_)
  refine (sel_sgt s.val q.val (by omega) (by omega) _ _).trans ?_
  unfold xVal
  have e : q.val / 256 * 256 + q.val % 256 = q.val := by omega
  rw [e, Cert.AttnRow.lit_bot]
  split
  · rfl
  · exact (v53_at m c b g h q s).trans (scoreR_eq _ _ _ _ _)

/-- The reference's result at an index. -/
theorem result_at (b : Fin 4) (q : Fin 4608) (h : Fin 3072) :
    @Eq EReal ((Pipeline.afterTail₀ cfgs (dats m) 0 (V0 m) [hostOps1] c main_v85 : Vec Ideal S4x4608x3072 .bf16) (ix3 b q h))
      (specAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) b q h) := by
  refine (congrFun (v85_eq m c) _).trans ((tail_at _ _ _ b q h).trans ?_)
  unfold specAt
  refine congrArg (fun z : EReal => z * Ideal.ofBits .f32 998244352#32) ?_
  unfold rowVal
  refine Finset.sum_congr rfl fun s _ => ?_
  refine congrArg₂ (fun x y : EReal => x * y) ?_ ?_
  · refine (congrFun (fin2 m c) _).trans ?_
    refine congrArg (fun z : EReal => min (Ideal.ofBits .f32 1138753536#32) (max 0 (z * Ideal.ofBits .f32 1132462080#32))) ?_
    unfold inP
    refine (congrFun (v70_eq m c) _).trans ((cast70 _ b ⟨h.val / 384, by omega⟩ ⟨h.val / 64 % 6, by omega⟩ q s).trans ?_)
    exact p_at _ _ _ _ _ _ _ fun s => v60_at m c b ⟨h.val / 384, by omega⟩ ⟨h.val / 64 % 6, by omega⟩ ⟨h.val / 64, by omega⟩ (by show h.val / 384 * 6 + h.val / 64 % 6 = h.val / 64; omega) q s
  · refine congrArg₂ (fun x y : EReal => x * y) ?_ rfl
    refine (congrFun (fin3 m c) _).trans ?_
    exact v71_at m c b ⟨h.val / 384, by omega⟩ s ⟨h.val % 64, by omega⟩

end Cert.RefIdeal.Gen.Sem
end
-- ==== Proof.AttnEq.lean ====
/- The kernel and the reference, over the extended reals, compute the same array. -/
module
public import proofs.«01_k».proof.Defs
public import proofs.«01_k».proof.Proof.RefIdealSpec
public import proofs.«01_k».proof.Proof.KernelIdealSpec
public import proofs.«01_k».proof.Proof.KernelIdealFrame
@[expose] public section
set_option maxRecDepth 16384
noncomputable section
open Idealize.ShloMosaic Idealize.ShloMosaic.TcCoe Idealize.SL.Sem
namespace Cert.AttnEq

/-- The precondition's side conditions. -/
theorem preFacts : Cert.Pre_q_scale_finite.Facts where
  bcast_S_S4x144x48 := by decide

/-- An extended real whose absolute value is below infinity is a real number. -/
theorem real_of_lt (x : EReal) (h : max x (-x) < ⊤) : ∃ z : ℝ, x = z := by
  induction x using EReal.rec with
  | bot => simp at h
  | coe r => exact ⟨r, rfl⟩
  | top => simp at h

/-- Where the precondition holds every query scale is a real number. -/
theorem scale_real [Cert.Pre_q_scale_finite.Facts] (a0 : IVec Cert.Pre_q_scale_finite.S4x4608x48x32 8) (a1 : FVec Ideal Cert.Pre_q_scale_finite.S4x144x48 .f32)
    (a2 : FVec Ideal Cert.Pre_q_scale_finite.S4x36x48x64 .bf16) (a3 : IVec Cert.Pre_q_scale_finite.S4x4608x8x32 8) (a4 : FVec Ideal Cert.Pre_q_scale_finite.S4x144x8 .f32)
    (a5 : FVec Ideal Cert.Pre_q_scale_finite.S4x4608x8x64 .fp8e4m3) (a6 : FVec Ideal Cert.Pre_q_scale_finite.S4x144x8x64 .f32)
    (H : Cert.Pre_q_scale_finite.fn (F := Ideal) a0 a1 a2 a3 a4 a5 a6 = fun _ => 1#1) (i : Cert.Pre_q_scale_finite.S4x144x48.Idx) :
    ∃ z : ℝ, @Eq EReal (a1 i) z := by
  have h : BitVec.ofBool (decide (@LT.lt EReal _ (max (a1 i : EReal) (-(a1 i : EReal))) (Ideal.ofBits .f32 0x7F800000#32))) = 1#1 := congrFun H i
  rw [Cert.AttnRow.lit_top] at h
  refine real_of_lt _ ?_
  by_contra hn
  rw [decide_eq_false hn] at h
  exact absurd h (by decide)

/-- The two programs end with the same result, the arguments unchanged. -/
theorem algebraic : Cert.algebraic_KernelIdeal_RefIdeal_pre_q_scale_finite
    (hKernelIdeal := Cert.KernelIdeal.Gen.facts) (hRefIdeal := Cert.RefIdeal.Gen.facts) (hPre_q_scale_finite := preFacts) := by
  intro m g m' g' hpre hargs
  refine ⟨fun c => Cert.KernelIdeal.Gen.Track.result m c, ?_, ?_⟩
  · exact (θ_run _ _ _).mono (fun _ h c => ⟨h.1 c, h.2.1 c⟩)
      (θ_run_and (Cert.KernelIdeal.Gen.Track.run m g) (Cert.KernelIdeal.Gen.Forget.frame m g))
  · refine (θ_run _ _ _).mono (fun _ h c => ⟨((h.1 c).2 Cert.RefIdeal.main_v85 (Pipeline.mem_restRefs_of Cert.RefIdeal.main_v85 (by decide) (by decide))).trans ?_, h.2 c⟩)
      (θ_run_and (Cert.RefIdeal.Gen.run_main m' g') (Cert.RefIdeal.Gen.unchanged m' g'))
    have hc := hargs c
    funext y
    have hy : y = ix3 (y 0) (y 1) (y 2) := funext fun a => match a with | ⟨0, _⟩ => rfl | ⟨1, _⟩ => rfl | ⟨2, _⟩ => rfl
    rw [hy]
    obtain ⟨z, hz⟩ := @scale_real preFacts _ _ _ _ _ _ _ (hpre c) (ix3 (y 0) ⟨(y 1).val / 32, by have h : (y 1).val < 4608 := (y 1).isLt; omega⟩ ⟨(y 2).val / 64, by have h : (y 2).val < 3072 := (y 2).isLt; omega⟩)
    refine (Cert.RefIdeal.Gen.Sem.result_at m' c (y 0) (y 1) (y 2)).trans ?_
    rw [hc.1, hc.2.1, hc.2.2.1, hc.2.2.2.1, hc.2.2.2.2.1, hc.2.2.2.2.2.1, hc.2.2.2.2.2.2]
    exact (Cert.KernelIdeal.Gen.Sem.result_at m c (y 0) (y 1) (y 2) z hz).symm

end Cert.AttnEq
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.RefIdeal
public import proofs.«01_k».proof.Proof.Gen.RefIdeal.Skeleton
public import proofs.«01_k».proof.Proof.Gen.RefIdeal.Launch
public import proofs.«01_k».proof.Proof.Gen.RefIdeal.Points
public import proofs.«01_k».proof.Proof.Gen.RefIdeal.Frame
public import proofs.«01_k».proof.Proof.KernelFrame
public import proofs.«01_k».proof.Proof.KernelIdealFrame
public import proofs.«01_k».proof.Proof.AttnEq
public import Idealize.ShloMosaic.Adequacy
public import Idealize.ShloMosaic.Init

@[expose] public section

noncomputable section

namespace Cert.Proof

open Idealize.ShloMosaic Idealize.SL.Sem

/-- The rewrites of the idealization: a float's high half taken out and put back, and the one named constant. -/
theorem preserves : Cert.preserves_Kernel_KernelIdeal :=
  ⟨IdealRules.bf16_pack.statement Cert.KernelIdeal.S64x256,
   IdealRules.named_const.statement Cert.KernelIdeal.κ "scale_log2e" .f32 0x3E38AA3B#32 (((8 * (Real.log 2))⁻¹ : ℝ) : EReal) rfl⟩

/-- Everything that is claimed. -/
theorem claim : Cert.Claim := ⟨Cert.Kernel.Gen.facts, Cert.KernelIdeal.Gen.facts, Cert.RefIdeal.Gen.facts, Cert.AttnEq.preFacts,
  fun m ρ _ => Cert.Kernel.Gen.Forget.frame m ρ,
  fun m ρ _ => Cert.KernelIdeal.Gen.Forget.frame m ρ,
  fun m ρ _ => Cert.KernelIdeal.Gen.Forget.frame m ρ,
  fun m ρ _ => Cert.RefIdeal.Gen.frame m ρ,
  fun m ρ _ => Cert.RefIdeal.Gen.frame m ρ,
  preserves,
  Cert.AttnEq.algebraic⟩

end Cert.Proof

end
